-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4)
      ∧ r.2.mem ((c.tc : Thread Cert.SguKernel.nD Cert.SguKernel.τ).loc Cert.SguKernel.main_arg5) = m ((c.tc : Thread Cert.SguKernel.nD Cert.SguKernel.τ).loc Cert.SguKernel.main_arg5)
      ∧ r.2.mem ((c.tc : Thread Cert.SguKernel.nD Cert.SguKernel.τ).loc Cert.SguKernel.main_arg6) = m ((c.tc : Thread Cert.SguKernel.nD Cert.SguKernel.τ).loc Cert.SguKernel.main_arg6)
      ∧ r.2.mem ((c.tc : Thread Cert.SguKernel.nD Cert.SguKernel.τ).loc Cert.SguKernel.main_arg7) = m ((c.tc : Thread Cert.SguKernel.nD Cert.SguKernel.τ).loc Cert.SguKernel.main_arg7))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5)
      ∧ r.2.mem ((c.tc : Thread Cert.SguKernelIdeal.nD Cert.SguKernelIdeal.τ).loc Cert.SguKernelIdeal.main_arg6) = m ((c.tc : Thread Cert.SguKernelIdeal.nD Cert.SguKernelIdeal.τ).loc Cert.SguKernelIdeal.main_arg6)
      ∧ r.2.mem ((c.tc : Thread Cert.SguKernelIdeal.nD Cert.SguKernelIdeal.τ).loc Cert.SguKernelIdeal.main_arg7) = m ((c.tc : Thread Cert.SguKernelIdeal.nD Cert.SguKernelIdeal.τ).loc Cert.SguKernelIdeal.main_arg7))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5)
      ∧ r.2.mem ((c.tc : Thread Cert.SguReferenceIdeal.nD Cert.SguReferenceIdeal.τ).loc Cert.SguReferenceIdeal.main_arg6) = m ((c.tc : Thread Cert.SguReferenceIdeal.nD Cert.SguReferenceIdeal.τ).loc Cert.SguReferenceIdeal.main_arg6)
      ∧ r.2.mem ((c.tc : Thread Cert.SguReferenceIdeal.nD Cert.SguReferenceIdeal.τ).loc Cert.SguReferenceIdeal.main_arg7) = m ((c.tc : Thread Cert.SguReferenceIdeal.nD Cert.SguReferenceIdeal.τ).loc Cert.SguReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v3) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v66) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)) →
    ∃ (v0 : (c : Dev Cert.OutKernelIdeal.nD) → Buf (Elt Ideal) ((c.tc : Thread Cert.OutKernelIdeal.nD Cert.OutKernelIdeal.τ).loc Cert.OutKernelIdeal.main_v6)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v6) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v58) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9))

def preserves_SguKernel_SguKernelIdeal : Prop :=
  True

def algebraic_SguKernelIdeal_SguReferenceIdeal [hSguKernelIdeal : Cert.SguKernelIdeal.Facts] [hSguReferenceIdeal : Cert.SguReferenceIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)
      ∧ m' ((c.tc : Thread Cert.SguReferenceIdeal.nD Cert.SguReferenceIdeal.τ).loc Cert.SguReferenceIdeal.main_arg5) = m ((c.tc : Thread Cert.SguKernelIdeal.nD Cert.SguKernelIdeal.τ).loc Cert.SguKernelIdeal.main_arg5)
      ∧ m' ((c.tc : Thread Cert.SguReferenceIdeal.nD Cert.SguReferenceIdeal.τ).loc Cert.SguReferenceIdeal.main_arg6) = m ((c.tc : Thread Cert.SguKernelIdeal.nD Cert.SguKernelIdeal.τ).loc Cert.SguKernelIdeal.main_arg6)
      ∧ m' ((c.tc : Thread Cert.SguReferenceIdeal.nD Cert.SguReferenceIdeal.τ).loc Cert.SguReferenceIdeal.main_arg7) = m ((c.tc : Thread Cert.SguKernelIdeal.nD Cert.SguKernelIdeal.τ).loc Cert.SguKernelIdeal.main_arg7)) →
    ∃ (v0 : (c : Dev Cert.SguKernelIdeal.nD) → Buf (Elt Ideal) ((c.tc : Thread Cert.SguKernelIdeal.nD Cert.SguKernelIdeal.τ).loc Cert.SguKernelIdeal.main_v6)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v6) = v0 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
          ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5)
          ∧ r.2.mem ((c.tc : Thread Cert.SguKernelIdeal.nD Cert.SguKernelIdeal.τ).loc Cert.SguKernelIdeal.main_arg6) = m ((c.tc : Thread Cert.SguKernelIdeal.nD Cert.SguKernelIdeal.τ).loc Cert.SguKernelIdeal.main_arg6)
          ∧ r.2.mem ((c.tc : Thread Cert.SguKernelIdeal.nD Cert.SguKernelIdeal.τ).loc Cert.SguKernelIdeal.main_arg7) = m ((c.tc : Thread Cert.SguKernelIdeal.nD Cert.SguKernelIdeal.τ).loc Cert.SguKernelIdeal.main_arg7))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v68) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5)
          ∧ r.2.mem ((c.tc : Thread Cert.SguReferenceIdeal.nD Cert.SguReferenceIdeal.τ).loc Cert.SguReferenceIdeal.main_arg6) = m' ((c.tc : Thread Cert.SguReferenceIdeal.nD Cert.SguReferenceIdeal.τ).loc Cert.SguReferenceIdeal.main_arg6)
          ∧ r.2.mem ((c.tc : Thread Cert.SguReferenceIdeal.nD Cert.SguReferenceIdeal.τ).loc Cert.SguReferenceIdeal.main_arg7) = m' ((c.tc : Thread Cert.SguReferenceIdeal.nD Cert.SguReferenceIdeal.τ).loc Cert.SguReferenceIdeal.main_arg7))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hOutKernel : Cert.OutKernel.Facts) (hOutKernelIdeal : Cert.OutKernelIdeal.Facts) (hOutReferenceIdeal : Cert.OutReferenceIdeal.Facts) (hSguKernel : Cert.SguKernel.Facts) (hSguKernelIdeal : Cert.SguKernelIdeal.Facts) (hSguReferenceIdeal : Cert.SguReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_SguKernel (hSguKernel := hSguKernel)
    ∧ quiescent_SguKernelIdeal (hSguKernelIdeal := hSguKernelIdeal)
    ∧ quiescent_SguReferenceIdeal (hSguReferenceIdeal := hSguReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_OutKernel_OutKernelIdeal
    ∧ algebraic_OutKernelIdeal_OutReferenceIdeal (hOutKernelIdeal := hOutKernelIdeal) (hOutReferenceIdeal := hOutReferenceIdeal)
    ∧ preserves_SguKernel_SguKernelIdeal
    ∧ algebraic_SguKernelIdeal_SguReferenceIdeal (hSguKernelIdeal := hSguKernelIdeal) (hSguReferenceIdeal := hSguReferenceIdeal)
-- ==== Kernel.lean ====
abbrev S16384x256 : Shape := ⟨2, ![16384, 256]⟩
abbrev S16384x512 : Shape := ⟨2, ![16384, 512]⟩
abbrev S128 : Shape := ⟨1, ![128]⟩
abbrev S1x128 : Shape := ⟨2, ![1, 128]⟩
abbrev S1024x256 : Shape := ⟨2, ![1024, 256]⟩
abbrev S1024x512 : Shape := ⟨2, ![1024, 512]⟩
abbrev S4x128x64 : Shape := ⟨3, ![4, 128, 64]⟩
abbrev S64x64 : Shape := ⟨2, ![64, 64]⟩
abbrev S64x256 : Shape := ⟨2, ![64, 256]⟩
abbrev S1x128x64 : Shape := ⟨3, ![1, 128, 64]⟩
abbrev S128x64 : Shape := ⟨2, ![128, 64]⟩
abbrev S1x256 : Shape := ⟨2, ![1, 256]⟩
abbrev S64x128 : Shape := ⟨2, ![64, 128]⟩
abbrev S1x64 : Shape := ⟨2, ![1, 64]⟩
abbrev S64 : Shape := ⟨1, ![64]⟩
abbrev S64x1 : Shape := ⟨2, ![64, 1]⟩

abbrev nBuf : Space → Nat
  | .hbm => 8
  | .vmem => 14
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x512, .bf16⟩
  | .hbm, ⟨3, _⟩ => ⟨S16384x256, .f32⟩
  | .hbm, ⟨4, _⟩ => ⟨S16384x512, .bf16⟩
  | .hbm, ⟨5, _⟩ => ⟨S128, .f32⟩
  | .hbm, ⟨6, _⟩ => ⟨S1x128, .f32⟩
  | .hbm, ⟨7, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .f32⟩
  | .local _ .vmem, ⟨7, _⟩ => ⟨S1024x256, .f32⟩
  | .local _ .vmem, ⟨8, _⟩ => ⟨S1024x512, .bf16⟩
  | .local _ .vmem, ⟨9, _⟩ => ⟨S1024x512, .bf16⟩
  | .local _ .vmem, ⟨10, _⟩ => ⟨S1x128, .f32⟩
  | .local _ .vmem, ⟨11, _⟩ => ⟨S1024x512, .bf16⟩
  | .local _ .vmem, ⟨12, _⟩ => ⟨S1024x512, .bf16⟩
  | .local _ .vmem, ⟨13, _⟩ => ⟨S4x128x64, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x256 : Shape := ⟨2, ![16384, 256]⟩
abbrev S16384x512 : Shape := ⟨2, ![16384, 512]⟩
abbrev S128 : Shape := ⟨1, ![128]⟩
abbrev S4x4096x4x64 : Shape := ⟨4, ![4, 4096, 4, 64]⟩
abbrev S4x4096x4x128 : Shape := ⟨4, ![4, 4096, 4, 128]⟩
abbrev S4x64x64x4x64 : Shape := ⟨5, ![4, 64, 64, 4, 64]⟩
abbrev S4x4x64x64x64 : Shape := ⟨5, ![4, 4, 64, 64, 64]⟩
abbrev S4x64x64x4x128 : Shape := ⟨5, ![4, 64, 64, 4, 128]⟩
abbrev S4x4x64x64x128 : Shape := ⟨5, ![4, 4, 64, 64, 128]⟩
abbrev S_ : Shape := ⟨0, ![]⟩
abbrev S4x4x64x1x64 : Shape := ⟨5, ![4, 4, 64, 1, 64]⟩
abbrev S64x64 : Shape := ⟨2, ![64, 64]⟩
abbrev S1x1x1x64x64 : Shape := ⟨5, ![1, 1, 1, 64, 64]⟩
abbrev S4x4x64x64 : Shape := ⟨4, ![4, 4, 64, 64]⟩
abbrev S4x4x64x128 : Shape := ⟨4, ![4, 4, 64, 128]⟩
abbrev S64x4x4x64 : Shape := ⟨4, ![64, 4, 4, 64]⟩
abbrev S64x4x4x64x128 : Shape := ⟨5, ![64, 4, 4, 64, 128]⟩
abbrev S1x4x4x64 : Shape := ⟨4, ![1, 4, 4, 64]⟩
abbrev S4x4x64 : Shape := ⟨3, ![4, 4, 64]⟩
abbrev S1x4x4x64x128 : Shape := ⟨5, ![1, 4, 4, 64, 128]⟩
abbrev S4x4x64x1 : Shape := ⟨4, ![4, 4, 64, 1]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 130
  | .vmem => 0
  | .smem => 0
  | _ => 0

abbrev hbmTy0_0 (i : Nat) : BufTy := match i % 128 with
  | 0 => ⟨S16384x256, .bf16⟩
  | 1 => ⟨S16384x256, .bf16⟩
  | 2 => ⟨S16384x512, .bf16⟩
  | 3 => ⟨S16384x256, .f32⟩
  | 4 => ⟨S16384x512, .bf16⟩
  | 5 => ⟨S128, .f32⟩
  | 6 => ⟨S16384x256, .f32⟩
  | 7 => ⟨S4x4096x4x64, .f32⟩
  | 8 => ⟨S16384x256, .f32⟩
  | 9 => ⟨S4x4096x4x64, .f32⟩
  | 10 => ⟨S16384x512, .f32⟩
  | 11 => ⟨S4x4096x4x128, .f32⟩
  | 12 => ⟨S4x4096x4x64, .f32⟩
  | 13 => ⟨S4x64x64x4x64, .f32⟩
  | 14 => ⟨S4x4x64x64x64, .f32⟩
  | 15 => ⟨S4x64x64x4x64, .f32⟩
  | 16 => ⟨S4x4x64x64x64, .f32⟩
  | 17 => ⟨S4x64x64x4x128, .f32⟩
  | 18 => ⟨S4x4x64x64x128, .f32⟩
  | 19 => ⟨S4x64x64x4x64, .f32⟩
  | 20 => ⟨S4x4x64x64x64, .f32⟩
  | 21 => ⟨S_, .f32⟩
  | 22 => ⟨S_, .f32⟩
  | 23 => ⟨S4x4x64x64x64, .f32⟩
  | 24 => ⟨S4x4x64x1x64, .f32⟩
  | 25 => ⟨S4x4x64x1x64, .f32⟩
  | 26 => ⟨S4x4x64x64x64, .f32⟩
  | 27 => ⟨S4x4x64x64x64, .f32⟩
  | 28 => ⟨S4x4x64x64x64, .f32⟩
  | 29 => ⟨S4x4x64x64x64, .f32⟩
  | 30 => ⟨S4x4x64x64x64, .f32⟩
  | 31 => ⟨S4x4x64x64x64, .f32⟩
  | 32 => ⟨S4x4x64x64x64, .f32⟩
  | 33 => ⟨S4x4x64x64x64, .f32⟩
  | 34 => ⟨S4x4x64x64x64, .f32⟩
  | 35 => ⟨S_, .f32⟩
  | 36 => ⟨S64x64, .f32⟩
  | 37 => ⟨S64x64, .i32⟩
  | 38 => ⟨S_, .i32⟩
  | 39 => ⟨S64x64, .i32⟩
  | 40 => ⟨S64x64, .i32⟩
  | 41 => ⟨S64x64, .i32⟩
  | 42 => ⟨S64x64, .i1⟩
  | 43 => ⟨S_, .f32⟩
  | 44 => ⟨S64x64, .f32⟩
  | 45 => ⟨S64x64, .f32⟩
  | 46 => ⟨S1x1x1x64x64, .f32⟩
  | 47 => ⟨S4x4x64x64x64, .f32⟩
  | 48 => ⟨S4x4x64x64x64, .f32⟩
  | 49 => ⟨S4x4x64x64x128, .f32⟩
  | 50 => ⟨S4x4x64x64x64, .f32⟩
  | 51 => ⟨S4x4x64x64x64, .f32⟩
  | 52 => ⟨S4x4x64x64x64, .f32⟩
  | 53 => ⟨S4x4x64x64x64, .f32⟩
  | 54 => ⟨S4x4x64x64x128, .f32⟩
  | 55 => ⟨S4x4x64x64, .f32⟩
  | 56 => ⟨S4x4x64x64, .f32⟩
  | 57 => ⟨S_, .f32⟩
  | 58 => ⟨S4x4x64x128, .f32⟩
  | 59 => ⟨S64x4x4x64, .f32⟩
  | 60 => ⟨S64x4x4x64x128, .f32⟩
  | 61 => ⟨S_, .f32⟩
  | 62 => ⟨S64x4x4x64x128, .f32⟩
  | 63 => ⟨S_, .i32⟩
  | 64 => ⟨S64x4x4x64, .f32⟩
  | 65 => ⟨S64x4x4x64x128, .f32⟩
  | 66 => ⟨S_, .i32⟩
  | 67 => ⟨S4x4x64x128, .f32⟩
  | 68 => ⟨S64x4x4x64x128, .f32⟩
  | 69 => ⟨S_, .i32⟩
  | 70 => ⟨S_, .i1⟩
  | 71 => ⟨S_, .i32⟩
  | 72 => ⟨S_, .i32⟩
  | 73 => ⟨S_, .i32⟩
  | 74 => ⟨S1x4x4x64, .f32⟩
  | 75 => ⟨S4x4x64, .f32⟩
  | 76 => ⟨S_, .i32⟩
  | 77 => ⟨S_, .i32⟩
  | 78 => ⟨S_, .i32⟩
  | 79 => ⟨S_, .i32⟩
  | 80 => ⟨S1x4x4x64x128, .f32⟩
  | 81 => ⟨S4x4x64x128, .f32⟩
  | 82 => ⟨S4x4x64x1, .f32⟩
  | 83 => ⟨S4x4x64x128, .f32⟩
  | 84 => ⟨S4x4x64x128, .f32⟩
  | 85 => ⟨S4x4x64x128, .f32⟩
  | 86 => ⟨S1x4x4x64x128, .f32⟩
  | 87 => ⟨S_, .i32⟩
  | 88 => ⟨S_, .i32⟩
  | 89 => ⟨S_, .i32⟩
  | 90 => ⟨S_, .i32⟩
  | 91 => ⟨S64x4x4x64x128, .f32⟩
  | 92 => ⟨S_, .i32⟩
  | 93 => ⟨S_, .i32⟩
  | 94 => ⟨S4x4x64x64x128, .f32⟩
  | 95 => ⟨S4x4x64x64x64, .f32⟩
  | 96 => ⟨S4x4x64x64x64, .f32⟩
  | 97 => ⟨S4x4x64x64x128, .f32⟩
  | 98 => ⟨S4x4x64x64x128, .f32⟩
  | 99 => ⟨S4x64x64x4x128, .f32⟩
  | 100 => ⟨S4x4096x4x128, .f32⟩
  | 101 => ⟨S4x4096x4x128, .f32⟩
  | 102 => ⟨S_, .f32⟩
  | 103 => ⟨S4x4096x4, .f32⟩
  | 104 => ⟨S4x4096x4x1, .f32⟩
  | 105 => ⟨S_, .f32⟩
  | 106 => ⟨S4x4096x4x1, .f32⟩
  | 107 => ⟨S4x4096x4x1, .f32⟩
  | 108 => ⟨S_, .f32⟩
  | 109 => ⟨S4x4096x4x1, .f32⟩
  | 110 => ⟨S4x4096x4x1, .f32⟩
  | 111 => ⟨S4x4096x4x1, .f32⟩
  | 112 => ⟨S4x4096x4x128, .f32⟩
  | 113 => ⟨S4x4096x4x128, .f32⟩
  | 114 => ⟨S1x1x1x128, .f32⟩
  | 115 => ⟨S4x4096x4x128, .f32⟩
  | 116 => ⟨S4x4096x4x128, .f32⟩
  | 117 => ⟨S16384x512, .f32⟩
  | 118 => ⟨S16384x512, .f32⟩
  | 119 => ⟨S16384x512, .f32⟩
  | 120 => ⟨S16384x512, .f32⟩
  | 121 => ⟨S_, .f32⟩
  | 122 => ⟨S16384x512, .f32⟩
  | 123 => ⟨S16384x512, .f32⟩
  | 124 => ⟨S_, .f32⟩
  | 125 => ⟨S16384x512, .f32⟩
  | 126 => ⟨S16384x512, .f32⟩
  | 127 => ⟨S16384x512, .f32⟩
  | _ => ⟨S16384x256, .bf16⟩

abbrev hbmTy0_1 (i : Nat) : BufTy := match i % 128 with
  | 0 => ⟨S16384x512, .f32⟩
  | 1 => ⟨S16384x512, .bf16⟩
  | _ => ⟨S16384x256, .bf16⟩

abbrev hbmTy (i : Nat) : BufTy := match i / 128 with
  | 0 => hbmTy0_0 i
  | 1 => hbmTy0_1 i
  | _ => ⟨S16384x256, .bf16⟩

abbrev bufTy : (tb : Table) → Fin (tcTables nBuf tb) → BufTy
  | .hbm, ⟨i, _⟩ => hbmTy i
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_call0_cst : Ref sig .tc := ⟨.hbm, 21, rfl⟩
abbrev main_call0_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_cst : Ref sig .tc := ⟨.hbm, 43, rfl⟩
abbrev main_call1_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_1 : Ref sig .tc := ⟨.hbm, 61, rfl⟩
abbrev main_v43 : Ref sig .tc := ⟨.hbm, 62, rfl⟩
abbrev main_c : Ref sig .tc := ⟨.hbm, 63, rfl⟩
abbrev main_v44_0 : Ref sig .tc := ⟨.hbm, 64, rfl⟩
abbrev main_v44_1 : Ref sig .tc := ⟨.hbm, 65, rfl⟩
abbrev main_v44_2 : Ref sig .tc := ⟨.hbm, 66, rfl⟩
abbrev main_v44_3 : Ref sig .tc := ⟨.hbm, 67, rfl⟩
abbrev main_v44_4 : Ref sig .tc := ⟨.hbm, 68, rfl⟩
abbrev main_while0c_c_9 : Ref sig .tc := ⟨.hbm, 69, rfl⟩
abbrev main_while0c_v70 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_call2_c_1 : Ref sig .tc := ⟨.hbm, 73, rfl⟩
abbrev main_while0b_call2_v0 : Ref sig .tc := ⟨.hbm, 74, rfl⟩
abbrev main_while0b_v70 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_call3_c_2 : Ref sig .tc := ⟨.hbm, 79, rfl⟩
abbrev main_while0b_call3_v0 : Ref sig .tc := ⟨.hbm, 80, rfl⟩
abbrev main_while0b_v71 : Ref sig .tc := ⟨.hbm, 81, rfl⟩
abbrev main_while0b_v72 : Ref sig .tc := ⟨.hbm, 82, rfl⟩
abbrev main_while0b_v73 : Ref sig .tc := ⟨.hbm, 83, rfl⟩
abbrev main_while0b_v74 : Ref sig .tc := ⟨.hbm, 84, rfl⟩
abbrev main_while0b_v75 : Ref sig .tc := ⟨.hbm, 85, rfl⟩
abbrev main_while0b_call4_v0 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_call4_c_2 : Ref sig .tc := ⟨.hbm, 90, rfl⟩
abbrev main_while0b_v76 : Ref sig .tc := ⟨.hbm, 91, rfl⟩
abbrev main_while0b_c_9 : Ref sig .tc := ⟨.hbm, 92, rfl⟩
abbrev main_while0b_v77 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_2 : Ref sig .tc := ⟨.hbm, 102, rfl⟩
abbrev main_v53 : Ref sig .tc := ⟨.hbm, 103, rfl⟩
abbrev main_v54 : Ref sig .tc := ⟨.hbm, 104, rfl⟩
abbrev main_cst_3 : Ref sig .tc := ⟨.hbm, 105, rfl⟩
abbrev main_v55 : Ref sig .tc := ⟨.hbm, 106, rfl⟩
abbrev main_v56 : Ref sig .tc := ⟨.hbm, 107, rfl⟩
abbrev main_cst_4 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_call5_v0 : Ref sig .tc := ⟨.hbm, 119, rfl⟩
abbrev main_call5_v1 : Ref sig .tc := ⟨.hbm, 120, rfl⟩
abbrev main_call5_cst : Ref sig .tc := ⟨.hbm, 121, rfl⟩
abbrev main_call5_v2 : Ref sig .tc := ⟨.hbm, 122, rfl⟩
abbrev main_call5_v3 : Ref sig .tc := ⟨.hbm, 123, rfl⟩
abbrev main_call5_cst_0 : Ref sig .tc := ⟨.hbm, 124, rfl⟩
abbrev main_call5_v4 : Ref sig .tc := ⟨.hbm, 125, rfl⟩
abbrev main_call5_v5 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩

abbrev nD : Nat := 1
abbrev τ : Topo := Topo.v7x

variable {F : FTy → Type} [FloatOps F]

abbrev main_while0_count : Scf.Loop 32 := ⟨0#32, 64#32, 1#32⟩
-- ==== FfnKernel.lean ====
abbrev S16384x1024 : Shape := ⟨2, ![16384, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2x2816x1024 : Shape := ⟨3, ![2, 2816, 1024]⟩
abbrev S1x1024 : Shape := ⟨2, ![1, 1024]⟩
abbrev S1x5632 : Shape := ⟨2, ![1, 5632]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x2816 : Shape := ⟨2, ![512, 2816]⟩
abbrev S520x768 : Shape := ⟨2, ![520, 768]⟩
abbrev S520x512 : Shape := ⟨2, ![520, 512]⟩
abbrev S8x768 : Shape := ⟨2, ![8, 768]⟩
abbrev S8x512 : Shape := ⟨2, ![8, 512]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S3x768 : Shape := ⟨2, ![3, 768]⟩
abbrev S1x768 : Shape := ⟨2, ![1, 768]⟩
abbrev S72x768 : Shape := ⟨2, ![72, 768]⟩
abbrev S64x768 : Shape := ⟨2, ![64, 768]⟩
abbrev S1x768x1024 : Shape := ⟨3, ![1, 768, 1024]⟩
abbrev S768x1024 : Shape := ⟨2, ![768, 1024]⟩
abbrev S1x1024x512 : Shape := ⟨3, ![1, 1024, 512]⟩
abbrev S1024x512 : Shape := ⟨2, ![1024, 512]⟩
abbrev S512x512 : Shape := ⟨2, ![512, 512]⟩
abbrev S3x512 : Shape := ⟨2, ![3, 512]⟩
abbrev S1x512 : Shape := ⟨2, ![1, 512]⟩
abbrev S72x512 : Shape := ⟨2, ![72, 512]⟩
abbrev S64x512 : Shape := ⟨2, ![64, 512]⟩
abbrev S1x512x1024 : Shape := ⟨3, ![1, 512, 1024]⟩

abbrev nBuf : Space → Nat
  | .hbm => 11
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .bf16⟩
  | .hbm, ⟨3, _⟩ => ⟨S3x5632, .f32⟩
  | .hbm, ⟨4, _⟩ => ⟨S5632, .f32⟩
  | .hbm, ⟨5, _⟩ => ⟨S2x2816x1024, .bf16⟩
  | .hbm, ⟨6, _⟩ => ⟨S1024, .f32⟩
  | .hbm, ⟨7, _⟩ => ⟨S1x1024, .f32⟩
  | .hbm, ⟨8, _⟩ => ⟨S1x5632, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S3x5632, .f32⟩
  | .local _ .vmem, ⟨5, _⟩ => ⟨S1x5632, .f32⟩
  | .local _ .vmem, ⟨6, _⟩ => ⟨S1x2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x2816, .bf16⟩
  | .local _ .vmem, ⟨12, _⟩ => ⟨S512x1024, .f32⟩
  | .local _ .vmem, ⟨13, _⟩ => ⟨S520x768, .f32⟩
  | .local _ .vmem, ⟨14, _⟩ => ⟨S520x768, .f32⟩
  | .local _ .vmem, ⟨15, _⟩ => ⟨S520x768, .f32⟩
  | .local _ .vmem, ⟨16, _⟩ => ⟨S520x512, .f32⟩
  | .local _ .vmem, ⟨17, _⟩ => ⟨S520x768, .f32⟩
  | .local _ .vmem, ⟨18, _⟩ => ⟨S520x768, .f32⟩
  | .local _ .vmem, ⟨19, _⟩ => ⟨S520x768, .f32⟩
  | .local _ .vmem, ⟨20, _⟩ => ⟨S520x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S16384x1024 : Shape := ⟨2, ![16384, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2x2816x1024 : Shape := ⟨3, ![2, 2816, 1024]⟩
abbrev S4x4096x1024 : Shape := ⟨3, ![4, 4096, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .bf16⟩
  | .hbm, ⟨3, _⟩ => ⟨S3x5632, .f32⟩
  | .hbm, ⟨4, _⟩ => ⟨S5632, .f32⟩
  | .hbm, ⟨5, _⟩ => ⟨S2x2816x1024, .bf16⟩
  | .hbm, ⟨6, _⟩ => ⟨S1024, .f32⟩
  | .hbm, ⟨7, _⟩ => ⟨S4x4096x1024, .f32⟩
  | .hbm, ⟨8, _⟩ => ⟨S1x1024x5632, .bf16⟩
  | .hbm, ⟨9, _⟩ => ⟨S1024x5632, .bf16⟩
  | .hbm, ⟨10, _⟩ => ⟨S1024x5632, .f32⟩
  | .hbm, ⟨11, _⟩ => ⟨S1x2816x1024, .bf16⟩
  | .hbm, ⟨12, _⟩ => ⟨S2816x1024, .bf16⟩
  | .hbm, ⟨13, _⟩ => ⟨S2816x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x5632, .f32⟩
  | .hbm, ⟨31, _⟩ => ⟨S_, .i32⟩
  | .hbm, ⟨32, _⟩ => ⟨S_, .f32⟩
  | .hbm, ⟨33, _⟩ => ⟨S4x4098x5632, .f32⟩
  | .hbm, ⟨34, _⟩ => ⟨S1x5632, .f32⟩
  | .hbm, ⟨35, _⟩ => ⟨S5632, .f32⟩
  | .hbm, ⟨36, _⟩ => ⟨S4x4096x5632, .f32⟩
  | .hbm, ⟨37, _⟩ => ⟨S1x1x5632, .f32⟩
  | .hbm, ⟨38, _⟩ => ⟨S4x4096x5632, .f32⟩
  | .hbm, ⟨39, _⟩ => ⟨S4x4096x5632, .f32⟩
  | .hbm, ⟨40, _⟩ => ⟨S_, .f32⟩
  | .hbm, ⟨41, _⟩ => ⟨S4x4096x5632, .f32⟩
  | .hbm, ⟨42, _⟩ => ⟨S4x4096x5632, .f32⟩
  | .hbm, ⟨43, _⟩ => ⟨S1x5632, .f32⟩
  | .hbm, ⟨44, _⟩ => ⟨S5632, .f32⟩
  | .hbm, ⟨45, _⟩ => ⟨S4x4096x5632, .f32⟩
  | .hbm, ⟨46, _⟩ => ⟨S1x1x5632, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S1x5632, .f32⟩
  | .hbm, ⟨51, _⟩ => ⟨S5632, .f32⟩
  | .hbm, ⟨52, _⟩ => ⟨S4x4096x5632, .f32⟩
  | .hbm, ⟨53, _⟩ => ⟨S1x1x5632, .f32⟩
  | .hbm, ⟨54, _⟩ => ⟨S4x4096x5632, .f32⟩
  | .hbm, ⟨55, _⟩ => ⟨S4x4096x5632, .f32⟩
  | .hbm, ⟨56, _⟩ => ⟨S4x4096x5632, .f32⟩
  | .hbm, ⟨57, _⟩ => ⟨S1x1x5632, .f32⟩
  | .hbm, ⟨58, _⟩ => ⟨S4x4096x5632, .f32⟩
  | .hbm, ⟨59, _⟩ => ⟨S4x4096x5632, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S_, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x1, .f32⟩
  | .hbm, ⟨85, _⟩ => ⟨S4x4096x1024, .f32⟩
  | .hbm, ⟨86, _⟩ => ⟨S4x4096x1024, .f32⟩
  | .hbm, ⟨87, _⟩ => ⟨S1x1x1024, .f32⟩
  | .hbm, ⟨88, _⟩ => ⟨S4x4096x1024, .f32⟩
  | .hbm, ⟨89, _⟩ => ⟨S4x4096x1024, .f32⟩
  | .hbm, ⟨90, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_3 : Ref sig .tc := ⟨.hbm, 75, rfl⟩
abbrev main_v54 : Ref sig .tc := ⟨.hbm, 76, rfl⟩
abbrev main_v55 : Ref sig .tc := ⟨.hbm, 77, rfl⟩
abbrev main_cst_4 : Ref sig .tc := ⟨.hbm, 78, rfl⟩
abbrev main_v56 : Ref sig .tc := ⟨.hbm, 79, rfl⟩
abbrev main_v57 : Ref sig .tc := ⟨.hbm, 80, rfl⟩
abbrev main_cst_5 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== OutKernel.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2x2816x1024 : Shape := ⟨3, ![2, 2816, 1024]⟩
abbrev S512x1024 : Shape := ⟨2, ![512, 1024]⟩
abbrev S1x1024 : Shape := ⟨2, ![1, 1024]⟩
abbrev S1x5632 : Shape := ⟨2, ![1, 5632]⟩
abbrev S512x512 : Shape := ⟨2, ![512, 512]⟩
abbrev S1x1024x5632 : Shape := ⟨3, ![1, 1024, 5632]⟩
abbrev S1x2816x1024 : Shape := ⟨3, ![1, 2816, 1024]⟩
abbrev S512x2816 : Shape := ⟨2, ![512, 2816]⟩
abbrev S520x768 : Shape := ⟨2, ![520, 768]⟩
abbrev S520x512 : Shape := ⟨2, ![520, 512]⟩
abbrev S8x768 : Shape := ⟨2, ![8, 768]⟩
abbrev S8x512 : Shape := ⟨2, ![8, 512]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S3x768 : Shape := ⟨2, ![3, 768]⟩
abbrev S1x768 : Shape := ⟨2, ![1, 768]⟩
abbrev S72x768 : Shape := ⟨2, ![72, 768]⟩
abbrev S64x768 : Shape := ⟨2, ![64, 768]⟩
abbrev S1x768x1024 : Shape := ⟨3, ![1, 768, 1024]⟩
abbrev S768x1024 : Shape := ⟨2, ![768, 1024]⟩
abbrev S1x1024x512 : Shape := ⟨3, ![1, 1024, 512]⟩
abbrev S1024x512 : Shape := ⟨2, ![1024, 512]⟩
abbrev S3x512 : Shape := ⟨2, ![3, 512]⟩
abbrev S1x512 : Shape := ⟨2, ![1, 512]⟩
abbrev S72x512 : Shape := ⟨2, ![72, 512]⟩
abbrev S64x512 : Shape := ⟨2, ![64, 512]⟩
abbrev S1x512x1024 : Shape := ⟨3, ![1, 512, 1024]⟩

abbrev nBuf : Space → Nat
  | .hbm => 17
  | .vmem => 27
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S2x1024x5632, .bf16⟩
  | .hbm, ⟨6, _⟩ => ⟨S3x5632, .f32⟩
  | .hbm, ⟨7, _⟩ => ⟨S5632, .f32⟩
  | .hbm, ⟨8, _⟩ => ⟨S2x2816x1024, .bf16⟩
  | .hbm, ⟨9, _⟩ => ⟨S1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S1x5632, .f32⟩
  | .hbm, ⟨15, _⟩ => ⟨S1x1024, .f32⟩
  | .hbm, ⟨16, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024x5632, .bf16⟩
  | .local _ .vmem, ⟨10, _⟩ => ⟨S3x5632, .f32⟩
  | .local _ .vmem, ⟨11, _⟩ => ⟨S1x5632, .f32⟩
  | .local _ .vmem, ⟨12, _⟩ => ⟨S1x2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x2816, .bf16⟩
  | .local _ .vmem, ⟨18, _⟩ => ⟨S512x1024, .f32⟩
  | .local _ .vmem, ⟨19, _⟩ => ⟨S520x768, .f32⟩
  | .local _ .vmem, ⟨20, _⟩ => ⟨S520x768, .f32⟩
  | .local _ .vmem, ⟨21, _⟩ => ⟨S520x768, .f32⟩
  | .local _ .vmem, ⟨22, _⟩ => ⟨S520x512, .f32⟩
  | .local _ .vmem, ⟨23, _⟩ => ⟨S520x768, .f32⟩
  | .local _ .vmem, ⟨24, _⟩ => ⟨S520x768, .f32⟩
  | .local _ .vmem, ⟨25, _⟩ => ⟨S520x768, .f32⟩
  | .local _ .vmem, ⟨26, _⟩ => ⟨S520x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutReferenceIdeal.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2x2816x1024 : Shape := ⟨3, ![2, 2816, 1024]⟩
abbrev S4x4096x1024 : Shape := ⟨3, ![4, 4096, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩

abbrev nBuf : Space → Nat
  | .hbm => 83
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S2x1024x5632, .bf16⟩
  | .hbm, ⟨6, _⟩ => ⟨S3x5632, .f32⟩
  | .hbm, ⟨7, _⟩ => ⟨S5632, .f32⟩
  | .hbm, ⟨8, _⟩ => ⟨S2x2816x1024, .bf16⟩
  | .hbm, ⟨9, _⟩ => ⟨S1024, .f32⟩
  | .hbm, ⟨10, _⟩ => ⟨S4x4096x1024, .f32⟩
  | .hbm, ⟨11, _⟩ => ⟨S16384x1024, .bf16⟩
  | .hbm, ⟨12, _⟩ => ⟨S16384x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1x1024x5632, .bf16⟩
  | .hbm, ⟨17, _⟩ => ⟨S1024x5632, .bf16⟩
  | .hbm, ⟨18, _⟩ => ⟨S1024x5632, .f32⟩
  | .hbm, ⟨19, _⟩ => ⟨S1x2816x1024, .bf16⟩
  | .hbm, ⟨20, _⟩ => ⟨S2816x1024, .bf16⟩
  | .hbm, ⟨21, _⟩ => ⟨S2816x1024, .f32⟩
  | .hbm, ⟨22, _⟩ => ⟨S4x4096x1024, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S4x4096x5632, .f32⟩
  | .hbm, ⟨39, _⟩ => ⟨S_, .i32⟩
  | .hbm, ⟨40, _⟩ => ⟨S_, .f32⟩
  | .hbm, ⟨41, _⟩ => ⟨S4x4098x5632, .f32⟩
  | .hbm, ⟨42, _⟩ => ⟨S1x5632, .f32⟩
  | .hbm, ⟨43, _⟩ => ⟨S5632, .f32⟩
  | .hbm, ⟨44, _⟩ => ⟨S4x4096x5632, .f32⟩
  | .hbm, ⟨45, _⟩ => ⟨S1x1x5632, .f32⟩
  | .hbm, ⟨46, _⟩ => ⟨S4x4096x5632, .f32⟩
  | .hbm, ⟨47, _⟩ => ⟨S4x4096x5632, .f32⟩
  | .hbm, ⟨48, _⟩ => ⟨S_, .f32⟩
  | .hbm, ⟨49, _⟩ => ⟨S4x4096x5632, .f32⟩
  | .hbm, ⟨50, _⟩ => ⟨S4x4096x5632, .f32⟩
  | .hbm, ⟨51, _⟩ => ⟨S1x5632, .f32⟩
  | .hbm, ⟨52, _⟩ => ⟨S5632, .f32⟩
  | .hbm, ⟨53, _⟩ => ⟨S4x4096x5632, .f32⟩
  | .hbm, ⟨54, _⟩ => ⟨S1x1x5632, .f32⟩
  | .hbm, ⟨55, _⟩ => ⟨S4x4096x5632, .f32⟩
  | .hbm, ⟨56, _⟩ => ⟨S4x4096x5632, .f32⟩
  | .hbm, ⟨57, _⟩ => ⟨S4x4096x5632, .f32⟩
  | .hbm, ⟨58, _⟩ => ⟨S1x5632, .f32⟩
  | .hbm, ⟨59, _⟩ => ⟨S5632, .f32⟩
  | .hbm, ⟨60, _⟩ => ⟨S4x4096x5632, .f32⟩
  | .hbm, ⟨61, _⟩ => ⟨S1x1x5632, .f32⟩
  | .hbm, ⟨62, _⟩ => ⟨S4x4096x5632, .f32⟩
  | .hbm, ⟨63, _⟩ => ⟨S4x4096x5632, .f32⟩
  | .hbm, ⟨64, _⟩ => ⟨S4x4096x5632, .f32⟩
  | .hbm, ⟨65, _⟩ => ⟨S1x1x5632, .f32⟩
  | .hbm, ⟨66, _⟩ => ⟨S4x4096x5632, .f32⟩
  | .hbm, ⟨67, _⟩ => ⟨S4x4096x5632, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S_, .f32⟩
  | .hbm, ⟨73, _⟩ => ⟨S4x4096x2816, .f32⟩
  | .hbm, ⟨74, _⟩ => ⟨S4x4096x2816, .f32⟩
  | .hbm, ⟨75, _⟩ => ⟨S_, .f32⟩
  | .hbm, ⟨76, _⟩ => ⟨S4x4096x2816, .f32⟩
  | .hbm, ⟨77, _⟩ => ⟨S4x4096x2816, .f32⟩
  | .hbm, ⟨78, _⟩ => ⟨S4x4096x2816, .f32⟩
  | .hbm, ⟨79, _⟩ => ⟨S4x4096x2816, .f32⟩
  | .hbm, ⟨80, _⟩ => ⟨S4x4096x1024, .f32⟩
  | .hbm, ⟨81, _⟩ => ⟨S4x4096x1024, .f32⟩
  | .hbm, ⟨82, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== SguKernel.lean ====
abbrev S16384x1024 : Shape := ⟨2, ![16384, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S128x8 : Shape := ⟨2, ![128, 8]⟩
abbrev S1024x1 : Shape := ⟨2, ![1024, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 15
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S1x1024, .f32⟩
  | .hbm, ⟨9, _⟩ => ⟨S1024x2048, .bf16⟩
  | .hbm, ⟨10, _⟩ => ⟨S1x1024, .f32⟩
  | .hbm, ⟨11, _⟩ => ⟨S1x1024, .f32⟩
  | .hbm, ⟨12, _⟩ => ⟨S128x8, .f32⟩
  | .hbm, ⟨13, _⟩ => ⟨S1024x1024, .bf16⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SguReferenceIdeal.lean ====
abbrev S16384x1024 : Shape := ⟨2, ![16384, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096x2048, .f32⟩
  | .hbm, ⟨38, _⟩ => ⟨S4x4096x2048, .f32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | .hbm, ⟨69, _⟩ => ⟨S1x1x1024, .f32⟩
  | .hbm, ⟨70, _⟩ => ⟨S4x4096x1024, .f32⟩
  | .hbm, ⟨71, _⟩ => ⟨S4x4096x1024, .f32⟩
  | .hbm, ⟨72, _⟩ => ⟨S4x32x128x8x128, .f32⟩
  | .hbm, ⟨73, _⟩ => ⟨S_, .f32⟩
  | .hbm, ⟨74, _⟩ => ⟨S128x128, .f32⟩
  | .hbm, ⟨75, _⟩ => ⟨S128x128, .i32⟩
  | .hbm, ⟨76, _⟩ => ⟨S_, .i32⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S_, .f32⟩
  | .hbm, ⟨82, _⟩ => ⟨S128x128, .f32⟩
  | .hbm, ⟨83, _⟩ => ⟨S128x128, .f32⟩
  | .hbm, ⟨84, _⟩ => ⟨S1x128x128, .f32⟩
  | .hbm, ⟨85, _⟩ => ⟨S8x128x128, .f32⟩
  | .hbm, ⟨86, _⟩ => ⟨S8x128x128, .f32⟩
  | .hbm, ⟨87, _⟩ => ⟨S8x4x32x128x128, .f32⟩
  | .hbm, ⟨88, _⟩ => ⟨S4x32x128x8x128, .f32⟩
  | .hbm, ⟨89, _⟩ => ⟨S128x8, .f32⟩
  | .hbm, ⟨90, _⟩ => ⟨S1x1x128x8x1, .f32⟩
  | .hbm, ⟨91, _⟩ => ⟨S4x32x128x8x128, .f32⟩
  | .hbm, ⟨92, _⟩ => ⟨S4x32x128x8x128, .f32⟩
  | .hbm, ⟨93, _⟩ => ⟨S4x4096x1024, .f32⟩
  | .hbm, ⟨94, _⟩ => ⟨S4x4096x1024, .f32⟩
  | .hbm, ⟨95, _⟩ => ⟨S4x4096x1024, .f32⟩
  | .hbm, ⟨96, _⟩ => ⟨S4x4096x1024, .f32⟩
  | .hbm, ⟨97, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_cst : Ref sig .tc := ⟨.hbm, 81, rfl⟩
abbrev main_call0_v5 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== Proof.GlaChunk.lean ====
/- What the recurrence kernel computes on one chunk of 64 tokens, as functions of the chunk number and the head. -/
module

public import proofs.«01_k».proof.Proof.Gen.KernelIdeal.Skeleton

@[expose] public section

set_option maxRecDepth 16384

noncomputable section

namespace Cert.KernelIdeal.Chunk

open Idealize.ShloMosaic Idealize.SL.Sem
open Cert.KernelIdeal Cert.KernelIdeal.Gen

variable {F : FTy → Type} [FloatOps F]

/-- One step of the running sum over the rows: a row from `sh` on gets the row `sh` above it added. -/
def shiftAdd (b : FVec F S64x256 .f32) (sh : BitVec 32) : FVec F S64x256 .f32 :=
  addf b (select (cmpi .sge (iota .tc S64x256 32 [0] iota_S64x256_d0_w32) (broadcast S64x256 sh))
    (dynamicRotate 0 sh none b rotates_S64x256_d0) (broadcast S64x256 (Scalar.ofBits .f32 0x00000000#32)))

/-- The running sum of a chunk's log decays. -/
def cumB (la : FVec F S64x256 .f32) : FVec F S64x256 .f32 :=
  shiftAdd (shiftAdd (shiftAdd (shiftAdd (shiftAdd (shiftAdd la 1#32) 2#32) 4#32) 8#32) 16#32) 32#32

/-- Its row 32, and its last row. -/
def midB (la : FVec F S64x256 .f32) : FVec F S1x256 .f32 :=
  extractStridedSlice S1x256 ![32, 0] (cumB la) slices_S64x256_o32_0_S1x256
def lastB (la : FVec F S64x256 .f32) : FVec F S1x256 .f32 :=
  extractStridedSlice S1x256 ![63, 0] (cumB la) slices_S64x256_o63_0_S1x256

/-- The queries and keys of a chunk with their decays. -/
def qe (q : Vec F S64x256 .bf16) (la : FVec F S64x256 .f32) : FVec F S64x256 .bf16 :=
  truncf .bf16 (mulf (extf .f32 q bitsLt_bf16_f32) (exp (subf (cumB la) (broadcastTo S64x256 (midB la) broadcasts_S1x256_S64x256)))) bitsLt_bf16_f32
def ke (k : Vec F S64x256 .bf16) (la : FVec F S64x256 .f32) : FVec F S64x256 .bf16 :=
  truncf .bf16 (mulf (extf .f32 k bitsLt_bf16_f32) (exp (subf (broadcastTo S64x256 (midB la) broadcasts_S1x256_S64x256) (cumB la)))) bitsLt_bf16_f32
def kl (k : Vec F S64x256 .bf16) (la : FVec F S64x256 .f32) : FVec F S64x256 .bf16 :=
  truncf .bf16 (mulf (extf .f32 k bitsLt_bf16_f32) (exp (subf (broadcastTo S64x256 (lastB la) broadcasts_S1x256_S64x256) (cumB la)))) bitsLt_bf16_f32
def qb (q : Vec F S64x256 .bf16) (la : FVec F S64x256 .f32) : FVec F S64x256 .bf16 :=
  truncf .bf16 (mulf (extf .f32 q bitsLt_bf16_f32) (exp (cumB la))) bitsLt_bf16_f32

theorem slicesK (h : Fin 4) : S64x256.Slices ![0, 64 * h.val] S64x64 := by revert h; decide
theorem slicesD (h : Fin 4) : S1x256.Slices ![0, 64 * h.val] S1x64 := by revert h; decide

/-- The 64 columns of head `h`. -/
def headK (h : Fin 4) (x : FVec F S64x256 .bf16) : FVec F S64x64 .bf16 :=
  extractStridedSlice S64x64 ![0, 64 * h.val] x (slicesK h)

/-- The state of head `h` after a chunk, from the state before it. -/
def nextS (h : Fin 4) (k : Vec F S64x256 .bf16) (la : FVec F S64x256 .f32) (v : Vec F S64x128 .bf16) (s : FVec F S128x64 .f32) : FVec F S128x64 .f32 :=
  addf (mulf s (broadcastTo S128x64 (extractStridedSlice S1x64 ![0, 64 * h.val] (exp (lastB la)) (slicesD h)) broadcasts_S1x64_S128x64))
    (matmul dot_S64x128_S64x64_S128x64_0_0_1_1_n_n none v (headK h (kl k la)) (constant S128x64 .f32 0x00000000#32))

/-- The heads' products before the norm: inside the chunk, and with the state before it. -/
def mixO (h : Fin 4) (q k : Vec F S64x256 .bf16) (la : FVec F S64x256 .f32) (v : Vec F S64x128 .bf16) (s : FVec F S128x64 .f32) : FVec F S64x128 .f32 :=
  addf
    (matmul dot_S64x64_S64x128_S64x128_1_0_0_1_n_n none
      (truncf .bf16 (select k0_pay6 (matmul dot_S64x64_S64x64_S64x64_1_1_0_0_n_n none (headK h (qe q la)) (headK h (ke k la)) (constant S64x64 .f32 0x00000000#32))
        (broadcast S64x64 (Scalar.ofBits .f32 0x00000000#32))) bitsLt_bf16_f32) v (constant S64x128 .f32 0x00000000#32))
    (matmul dot_S64x64_S128x64_S64x128_1_1_0_0_n_n none (headK h (qb q la)) (truncf .bf16 s bitsLt_bf16_f32) (constant S64x128 .f32 0x00000000#32))

/-- The norm of each row, times the gain, times the gate. -/
def normO (hg : FVec F S1x128 .f32) (o : FVec F S64x128 .f32) (r : Vec F S64x128 .bf16) : FVec F S64x128 .bf16 :=
  truncf .bf16 (mulf (mulf (mulf o (broadcastTo S64x128 (rsqrt (addf (divf (shapeCast S64x1
      (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
      (broadcastTo S64x128 hg broadcasts_S1x128_S64x128))
    (mulf (extf .f32 r bitsLt_bf16_f32) (logistic (extf .f32 r bitsLt_bf16_f32)))) bitsLt_bf16_f32

/-- The state of head `h` before chunk `n` of a tile, from the state `s` the tile starts with: `K`, `L` give the chunks' keys and log decays, `V` the chunks' values of a head. -/
def stateAt (K : ℕ → Vec F S64x256 .bf16) (L : ℕ → Vec F S64x256 .f32) (V : ℕ → Fin 4 → Vec F S64x128 .bf16) (h : Fin 4) (s : FVec F S128x64 .f32) : ℕ → FVec F S128x64 .f32
  | 0 => s
  | n + 1 => nextS h (K n) (L n) (V n h) (stateAt K L V h s n)

/-- What the kernel stores for chunk `n` and head `h`. -/
def outAt (Q K : ℕ → Vec F S64x256 .bf16) (L : ℕ → Vec F S64x256 .f32) (V R : ℕ → Fin 4 → Vec F S64x128 .bf16) (hg : FVec F S1x128 .f32) (s : Fin 4 → FVec F S128x64 .f32) (n : ℕ) (h : Fin 4) : FVec F S64x128 .bf16 :=
  normO hg (mixO h (Q n) (K n) (L n) (V n h) (stateAt K L V h (s h) n)) (R n h)

end Cert.KernelIdeal.Chunk

end
-- ==== Proof.GlaPieces.lean ====
/- What the recurrence kernel's two cases store, as one function of the chunk number and the head. -/
module
public import proofs.«01_k».proof.Proof.GlaChunk
public import proofs.«01_k».proof.Proof.Gen.KernelIdeal.Frame
public import Idealize.ShloMosaic.Lib.Pipeline.ValueKit
@[expose] public section
set_option maxRecDepth 16384
noncomputable section
namespace Cert.KernelIdeal.Chunk
open Idealize.ShloMosaic Idealize.ShloMosaic.TcCoe Idealize.SL.Sem
open Cert.KernelIdeal Cert.KernelIdeal.Gen
variable {F : FTy → Type} [FloatOps F]

theorem inbK (n : ℕ) : ∀ a, (![64 * (n % 16), 0] : Fin 2 → ℕ) a + S64x256.size a ≤ S1024x256.size a := by
  have := Nat.mod_lt n (show 0 < 16 by decide)
  intro a; match a with
  | ⟨0, _⟩ => show 64 * (n % 16) + 64 ≤ 1024; omega
  | ⟨1, _⟩ => show 0 + 256 ≤ 256; omega

theorem inbV (n : ℕ) (h : Fin 4) : ∀ a, (![64 * (n % 16), 128 * h.val] : Fin 2 → ℕ) a + S64x128.size a ≤ S1024x512.size a := by
  have := Nat.mod_lt n (show 0 < 16 by decide)
  have := h.isLt
  intro a; match a with
  | ⟨0, _⟩ => show 64 * (n % 16) + 64 ≤ 1024; omega
  | ⟨1, _⟩ => show 128 * h.val + 128 ≤ 512; omega

/-- Chunk `n` of a tile of 256 columns, and of head `h`'s 128 columns of a tile of 512. -/
abbrev rectK (n : ℕ) : Rect S1024x256 := Rect.unit ![64 * (n % 16), 0] S64x256.size (inbK n)
abbrev rectV (n : ℕ) (h : Fin 4) : Rect S1024x512 := Rect.unit ![64 * (n % 16), 128 * h.val] S64x128.size (inbV n h)

/-- The stores of a tile, last first: chunk `p / 4` and head `p % 4`, for `p` from 63 down to 0. -/
def pieces (o : ℕ → Fin 4 → FVec F S64x128 .bf16) : List (View.Piece (Elt F) S1024x512 .bf16) :=
  (List.range 64).reverse.map fun p => ⟨rectV (p / 4) ⟨p % 4, Nat.mod_lt _ (by decide)⟩, o (p / 4) ⟨p % 4, Nat.mod_lt _ (by decide)⟩⟩

theorem inbS (h : Fin 4) : ∀ a, (![h.val, 0, 0] : Fin 3 → ℕ) a + S1x128x64.size a ≤ S4x128x64.size a := by revert h; decide

abbrev rectS (h : Fin 4) : Rect S4x128x64 := Rect.unit ![h.val, 0, 0] S1x128x64.size (inbS h)

/-- The stores of the states, last first. -/
def piecesS (s : Fin 4 → FVec F S128x64 .f32) : List (View.Piece (Elt F) S4x128x64 .f32) :=
  [⟨rectS 3, shapeCast S1x128x64 (s 3) shapeCasts_S128x64_S1x128x64⟩, ⟨rectS 2, shapeCast S1x128x64 (s 2) shapeCasts_S128x64_S1x128x64⟩,
   ⟨rectS 1, shapeCast S1x128x64 (s 1) shapeCasts_S128x64_S1x128x64⟩, ⟨rectS 0, shapeCast S1x128x64 (s 0) shapeCasts_S128x64_S1x128x64⟩]

section
variable (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S1024x512 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S4x128x64 .f32) (harg9 : arg9.IsWhole)
    (x0 : Vec F S1024x256 .bf16) (x1 : Vec F S1024x256 .bf16) (x2 : Vec F S1024x512 .bf16) (x3 : Vec F S1024x256 .f32) (x4 : Vec F S1024x512 .bf16) (x5 : Vec F S1x128 .f32) (x6 : Vec F S4x128x64 .f32)

/-- A tile's stores, from what its loads read and the states it starts with. -/
abbrev tileOut (s : Fin 4 → FVec F S128x64 .f32) : ℕ → Fin 4 → FVec F S64x128 .bf16 :=
  outAt (fun n => View.readAt (Elt F) arg2.view (rectK n).toLoadRect (harg2.unread x0))
    (fun n => View.readAt (Elt F) arg3.view (rectK n).toLoadRect (harg3.unread x1))
    (fun n => View.readAt (Elt F) arg5.view (rectK n).toLoadRect (harg5.unread x3))
    (fun n h => View.readAt (Elt F) arg4.view (rectV n h).toLoadRect (harg4.unread x2))
    (fun n h => View.readAt (Elt F) arg6.view (rectV n h).toLoadRect (harg6.unread x4))
    (k0_pay7 (View.readAt (Elt F) arg7.view (Rect.unit ![0, 0] S1x128.size inb_S1x128_S1x128_0_0).toLoadRect (harg7.unread x5))) s

abbrev tileState (s : Fin 4 → FVec F S128x64 .f32) (h : Fin 4) : FVec F S128x64 .f32 :=
  stateAt (fun n => View.readAt (Elt F) arg3.view (rectK n).toLoadRect (harg3.unread x1))
    (fun n => View.readAt (Elt F) arg5.view (rectK n).toLoadRect (harg5.unread x3))
    (fun n h => View.readAt (Elt F) arg4.view (rectV n h).toLoadRect (harg4.unread x2)) h (s h) 16

abbrev startB (h : Fin 4) : FVec F S128x64 .f32 :=
  shapeCast S128x64 (View.readAt (Elt F) arg9.view (rectS h).toLoadRect (harg9.unread x6)) shapeCasts_S1x128x64_S128x64

theorem stateB_eq (hc0 : ¬ cond0_0 i) :
    (kernelRun0_B c i arg2 harg2 arg3 harg3 arg4 harg4 arg5 harg5 arg6 harg6 arg7 harg7 arg8 harg8 arg9 harg9 hc0 x0 x1 x2 x3 x4 x5 x6).2.1
      = piecesS (tileState arg3 harg3 arg4 harg4 arg5 harg5 x1 x2 x3 (startB arg9 harg9 x6)) := by
  sl_kernel_rfl

theorem outB_eq (hc0 : ¬ cond0_0 i) :
    (kernelRun0_B c i arg2 harg2 arg3 harg3 arg4 harg4 arg5 harg5 arg6 harg6 arg7 harg7 arg8 harg8 arg9 harg9 hc0 x0 x1 x2 x3 x4 x5 x6).1
      = pieces (tileOut arg2 harg2 arg3 harg3 arg4 harg4 arg5 harg5 arg6 harg6 arg7 harg7 x0 x1 x2 x3 x4 x5 (startB arg9 harg9 x6)) := by
  sl_kernel_rfl
/-- The whole state stored as zero, as a tile that begins a sequence does first. -/
abbrev zeroPiece : View.Piece (Elt F) S4x128x64 .f32 := ⟨Rect.unit ![0, 0, 0] S4x128x64.size inb_S4x128x64_S4x128x64_0_0_0, k0_pay5⟩

abbrev startA (h : Fin 4) : FVec F S128x64 .f32 :=
  shapeCast S128x64 (View.readCov arg9.view [zeroPiece] (rectS h).toLoadRect) shapeCasts_S1x128x64_S128x64

theorem stateA_eq (hc0 : cond0_0 i) :
    (kernelRun0_A c i arg2 harg2 arg3 harg3 arg4 harg4 arg5 harg5 arg6 harg6 arg7 harg7 arg8 harg8 arg9 harg9 hc0 x0 x1 x2 x3 x4 x5).2.1
      = piecesS (tileState arg3 harg3 arg4 harg4 arg5 harg5 x1 x2 x3 (startA arg9)) ++ [zeroPiece] := by
  sl_kernel_rfl

theorem outA_eq (hc0 : cond0_0 i) :
    (kernelRun0_A c i arg2 harg2 arg3 harg3 arg4 harg4 arg5 harg5 arg6 harg6 arg7 harg7 arg8 harg8 arg9 harg9 hc0 x0 x1 x2 x3 x4 x5).1
      = pieces (tileOut arg2 harg2 arg3 harg3 arg4 harg4 arg5 harg5 arg6 harg6 arg7 harg7 x0 x1 x2 x3 x4 x5 (startA arg9)) := by
  sl_kernel_rfl
end
end Cert.KernelIdeal.Chunk
end
-- ==== Proof.GlaMath.lean ====
/- The recurrence's arithmetic over the extended reals, on one head: running sums, one chunk, the state over the chunks. -/
module

public import Idealize.ShloMosaic.Lib.Pipeline.ValueKit

@[expose] public section

noncomputable section

namespace Cert.GlaMath

open Idealize.ShloMosaic

/-- The sum of the last `s` entries up to `i`. -/
def win (s : ℕ) (f : Fin 64 → EReal) (i : Fin 64) : EReal := ∑ j : Fin 64, if j ≤ i ∧ (i : ℕ) < j + s then f j else 0

theorem win_one (f : Fin 64 → EReal) (i : Fin 64) : win 1 f i = f i := by
  unfold win
  rw [Finset.sum_eq_single i]
  · rw [if_pos ⟨le_refl _, by omega⟩]
  · intro j _ hj
    rw [if_neg]
    rintro ⟨h1, h2⟩
    exact hj (Fin.ext (by have := Fin.le_def.1 h1; omega))
  · intro h; exact absurd (Finset.mem_univ i) h

/-- Doubling: the last `s` entries up to `i`, and the last `s` up to the entry `s` above. -/
theorem win_double (s : ℕ) (hs : 0 < s) (hs' : s ≤ 64) (f : Fin 64 → EReal) (i : Fin 64) :
    (win s f i + if s ≤ (i : ℕ) then win s f ⟨((i : ℕ) + 64 - s) % 64, Nat.mod_lt _ (by decide)⟩ else 0) = win (s + s) f i := by
  have hi := i.isLt
  by_cases h : s ≤ (i : ℕ)
  · rw [if_pos h]
    unfold win
    rw [← Finset.sum_add_distrib]
    refine Finset.sum_congr rfl fun j _ => ?_
    have hm : ((i : ℕ) + 64 - s) % 64 = (i : ℕ) - s := by omega
    simp only [Fin.le_def, hm]
    by_cases h1 : (j : ℕ) ≤ i ∧ (i : ℕ) < j + s
    · rw [if_pos h1, if_neg (by omega), if_pos (by omega), add_zero]
    · by_cases h2 : (j : ℕ) ≤ (i : ℕ) - s ∧ (i : ℕ) - s < j + s
      · rw [if_neg h1, if_pos h2, if_pos (by omega), zero_add]
      · rw [if_neg h1, if_neg h2, if_neg (by omega), add_zero]
  · rw [if_neg h, add_zero]
    unfold win
    refine Finset.sum_congr rfl fun j _ => ?_
    simp only [Fin.le_def]
    by_cases h1 : (j : ℕ) ≤ i
    · rw [if_pos ⟨h1, by omega⟩, if_pos ⟨h1, by omega⟩]
    · rw [if_neg (by omega), if_neg (by omega)]

/-- The running sum. -/
def cum (f : Fin 64 → EReal) (i : Fin 64) : EReal := ∑ j : Fin 64, if j ≤ i then f j else 0

theorem win_all (f : Fin 64 → EReal) (i : Fin 64) : win 64 f i = cum f i := by
  unfold win cum
  refine Finset.sum_congr rfl fun j _ => ?_
  have := i.isLt
  by_cases h1 : j ≤ i
  · rw [if_pos h1, if_pos ⟨h1, by omega⟩]
  · rw [if_neg h1, if_neg (fun h => h1 h.1)]

/-- One chunk of one head: `q`, `k` and the log decays `l` by row and key column, `v` by row and value column. -/
structure Chunk where
  q : Fin 64 → Fin 64 → EReal
  k : Fin 64 → Fin 64 → EReal
  l : Fin 64 → Fin 64 → EReal
  v : Fin 64 → Fin 128 → EReal

namespace Chunk

variable (X : Chunk)

/-- The running sum of the log decays. -/
def b (i d : Fin 64) : EReal := cum (fun j => X.l j d) i

/-- The products inside the chunk. -/
def att (i j : Fin 64) : EReal :=
  ∑ d : Fin 64, (X.q i d * Ideal.exp (X.b i d - X.b 32 d)) * (X.k j d * Ideal.exp (X.b 32 d - X.b j d))

/-- The state after the chunk. -/
def next (S : Fin 64 → Fin 128 → EReal) (d : Fin 64) (e : Fin 128) : EReal :=
  Ideal.exp (X.b 63 d) * S d e + ∑ j : Fin 64, (X.k j d * Ideal.exp (X.b 63 d - X.b j d)) * X.v j e

/-- The chunk's products, from the state before it. -/
def out (S : Fin 64 → Fin 128 → EReal) (i : Fin 64) (e : Fin 128) : EReal :=
  (∑ j : Fin 64, (if j ≤ i then X.att i j else 0) * X.v j e) + ∑ d : Fin 64, (X.q i d * Ideal.exp (X.b i d)) * S d e

end Chunk

/-- The state before chunk `n`, from zero. -/
def state (X : ℕ → Chunk) : ℕ → Fin 64 → Fin 128 → EReal
  | 0 => fun _ _ => 0
  | n + 1 => (X n).next (state X n)

/-- The norm of a row, its gain and its gate. -/
def norm (o g : Fin 128 → EReal) (r : EReal) (e : Fin 128) : EReal :=
  o e * Ideal.rsqrt (Ideal.div (∑ k : Fin 128, o k * o k) (Ideal.ofBits .f32 0x43000000#32) + Ideal.ofBits .f32 0x358637BD#32) * g e * (r * Ideal.logistic r)

end Cert.GlaMath

end
-- ==== Proof.GlaPoint.lean ====
/- A chunk's vectors read at an index, over the reals. -/
module
public import proofs.«01_k».proof.Proof.GlaChunk
public import proofs.«01_k».proof.Proof.GlaMath
public import Idealize.ShloMosaic.Lib.Pointwise
@[expose] public section
set_option maxRecDepth 16384
noncomputable section
namespace Cert.KernelIdeal.Chunk
open Idealize.ShloMosaic Idealize.ShloMosaic.TcCoe Idealize.SL.Sem
open Cert.KernelIdeal Cert.KernelIdeal.Gen

/-- Head `h` of a chunk. -/
def chunk (h : Fin 4) (q k : FVec Ideal S64x256 .bf16) (la : FVec Ideal S64x256 .f32) (v : FVec Ideal S64x128 .bf16) : GlaMath.Chunk where
  q i d := q (ix2 i ⟨64 * h.val + d.val, by omega⟩)
  k i d := k (ix2 i ⟨64 * h.val + d.val, by omega⟩)
  l i d := la (ix2 i ⟨64 * h.val + d.val, by omega⟩)
  v i e := v (ix2 i e)

theorem sge_eq : ∀ i s : Fin 64, IntOp.cmpi CmpIPredicate.sge (BitVec.ofNat 32 i.val) (BitVec.ofNat 32 s.val) = if s ≤ i then 1#1 else 0#1 := by
  decide +kernel

/-- A comparison of two row numbers selects. -/
theorem select_sge (i s : Fin 64) (x y : EReal) :
    Scalar.select (IntOp.cmpi CmpIPredicate.sge (BitVec.ofNat 32 i.val) (BitVec.ofNat 32 s.val)) x y = if s ≤ i then x else y := by
  rw [sge_eq]
  by_cases h : s ≤ i
  · rw [if_pos h, if_pos h]; rfl
  · rw [if_neg h, if_neg h]; rfl

theorem shiftAdd_apply (b : FVec Ideal S64x256 .f32) (s : ℕ) (hs : s < 64) (i : Fin 64) (d : Fin 256) :
    shiftAdd b (BitVec.ofNat 32 s) (ix2 i d) = b (ix2 i d) + if s ≤ (i : ℕ) then b (ix2 ⟨((i : ℕ) + 64 - s) % 64, Nat.mod_lt _ (by decide)⟩ d) else 0 := by
  pointwise [shiftAdd]
  have h1 : (BitVec.ofNat 32 s).toNat % 64 = s := by rw [BitVec.toNat_ofNat]; omega
  rw [select_sge i ⟨s, hs⟩]
  simp only [h1, Fin.le_def]

theorem win_shift (f : FVec Ideal S64x256 .f32) (d : Fin 256) (s : ℕ) (hs : 0 < s) (hs' : s < 64) (b : FVec Ideal S64x256 .f32)
    (hb : ∀ i, b (ix2 i d) = GlaMath.win s (fun j => f (ix2 j d)) i) (i : Fin 64) :
    shiftAdd b (BitVec.ofNat 32 s) (ix2 i d) = GlaMath.win (s + s) (fun j => f (ix2 j d)) i := by
  rw [shiftAdd_apply b s hs', hb, hb, GlaMath.win_double s hs hs'.le]

/-- Six doublings make the running sum. -/
theorem cumB_apply (la : FVec Ideal S64x256 .f32) (i : Fin 64) (d : Fin 256) : cumB la (ix2 i d) = GlaMath.cum (fun j => la (ix2 j d)) i := by
  rw [← GlaMath.win_all]
  exact win_shift la d 32 (by decide) (by decide) _ (win_shift la d 16 (by decide) (by decide) _ (win_shift la d 8 (by decide) (by decide) _
    (win_shift la d 4 (by decide) (by decide) _ (win_shift la d 2 (by decide) (by decide) _ (win_shift la d 1 (by decide) (by decide) _
      fun i => (GlaMath.win_one (fun j => la (ix2 j d)) i).symm))))) i

theorem nextS_apply (h : Fin 4) (q k : FVec Ideal S64x256 .bf16) (la : FVec Ideal S64x256 .f32) (v : FVec Ideal S64x128 .bf16) (s : FVec Ideal S128x64 .f32) (e : Fin 128) (d : Fin 64) :
    nextS (F := Ideal) h k la v s (ix2 e d) = (chunk h q k la v).next (fun d e => s (ix2 e d)) d e := by
  pointwise [nextS, GlaMath.Chunk.next, headK, kl, lastB]
  simp only [cumB_apply]
  rw [mul_comm (s (ix2 e d))]
  refine congrArg₂ (· + ·) rfl (Finset.sum_congr rfl fun j _ => ?_)
  rw [mul_comm (v (ix2 j e))]
  rfl

theorem mixO_apply (h : Fin 4) (q k : FVec Ideal S64x256 .bf16) (la : FVec Ideal S64x256 .f32) (v : FVec Ideal S64x128 .bf16) (s : FVec Ideal S128x64 .f32) (i : Fin 64) (e : Fin 128) :
    mixO (F := Ideal) h q k la v s (ix2 i e) = (chunk h q k la v).out (fun d e => s (ix2 e d)) i e := by
  pointwise [mixO, GlaMath.Chunk.out, GlaMath.Chunk.att, headK, qe, ke, qb, midB, k0_pay6]
  simp only [cumB_apply, select_sge]
  refine congrArg₂ (· + ·) (Finset.sum_congr rfl fun j _ => ?_) rfl
  by_cases hj : j ≤ i
  · rw [if_pos hj, if_pos hj]; rfl
  · rw [if_neg hj, if_neg hj, zero_mul]

theorem normO_apply (hg : FVec Ideal S1x128 .f32) (o : FVec Ideal S64x128 .f32) (r : FVec Ideal S64x128 .bf16) (i : Fin 64) (e : Fin 128) :
    normO (F := Ideal) hg o r (ix2 i e) = GlaMath.norm (fun e => o (ix2 i e)) (fun e => hg (ix2 0 e)) (r (ix2 i e)) e := by
  pointwise [normO, GlaMath.norm]
end Cert.KernelIdeal.Chunk
end
-- ==== Proof.GlaBlock.lean ====
/- What a tile's output block and its states hold: the chunks' stores read as one function of the index. -/
module
public import proofs.«01_k».proof.Proof.GlaPieces
public import proofs.«01_k».proof.Proof.GlaPoint
@[expose] public section
set_option maxRecDepth 16384
noncomputable section
namespace Cert.KernelIdeal.Chunk
open Idealize.ShloMosaic Idealize.ShloMosaic.TcCoe Idealize.SL.Sem
open Cert.KernelIdeal Cert.KernelIdeal.Gen

/-- The block the chunks' outputs fill. -/
def fill (o : ℕ → Fin 4 → FVec Ideal S64x128 .bf16) (y : S1024x512.Idx) : EReal :=
  o ((y 0 : ℕ) / 64) ⟨(y 1 : ℕ) / 128, by have : (y 1 : ℕ) < 512 := (y 1).isLt; omega⟩
    (ix2 ⟨(y 0 : ℕ) % 64, Nat.mod_lt _ (by decide)⟩ ⟨(y 1 : ℕ) % 128, Nat.mod_lt _ (by decide)⟩)

theorem fill_congr {o o' : ℕ → Fin 4 → FVec Ideal S64x128 .bf16} (h : ∀ n < 16, ∀ (h : Fin 4) (i : Fin 64) (e : Fin 128), o n h (ix2 i e) = o' n h (ix2 i e)) : fill o = fill o' := by
  funext y
  exact h _ (by have : (y 0 : ℕ) < 1024 := (y 0).isLt; omega) _ _ _

theorem mem_pieces (o : ℕ → Fin 4 → FVec Ideal S64x128 .bf16) (p : View.Piece (Elt Ideal) S1024x512 .bf16) (h : p ∈ pieces o) :
    ∃ n, n < 16 ∧ ∃ h : Fin 4, p = ⟨rectV n h, o n h⟩ := by
  unfold pieces at h
  obtain ⟨k, hk, rfl⟩ := List.mem_map.1 h
  have hk := List.mem_range.1 (List.mem_reverse.1 hk)
  exact ⟨k / 4, by omega, ⟨k % 4, Nat.mod_lt _ (by decide)⟩, rfl⟩

theorem pieces_mem (o : ℕ → Fin 4 → FVec Ideal S64x128 .bf16) (n : ℕ) (hn : n < 16) (h : Fin 4) :
    (⟨rectV n h, o n h⟩ : View.Piece (Elt Ideal) S1024x512 .bf16) ∈ pieces o := by
  unfold pieces
  have hh := h.isLt
  refine List.mem_map.2 ⟨4 * n + h.val, List.mem_reverse.2 (List.mem_range.2 (by omega)), ?_⟩
  have h1 : (4 * n + h.val) / 4 = n := by omega
  have h2 : (⟨(4 * n + h.val) % 4, Nat.mod_lt _ (by decide)⟩ : Fin 4) = h := Fin.ext (by show (4 * n + h.val) % 4 = h.val; omega)
  rw [h1, h2]

theorem read_pieces {κ : Kind} {sp : Space} (v : View sig κ sp S1024x512 .bf16) (f : v.ty.Contents (Elt Ideal))
    (o : ℕ → Fin 4 → FVec Ideal S64x128 .bf16) : v.read (Elt Ideal) (v.writes (Elt Ideal) f (pieces o)) = fill o := by
  have cov : ∀ y, ∃ p ∈ pieces o, y ∈ p.1.set := by
    intro y
    have h0 : (y 0 : ℕ) < 1024 := (y 0).isLt
    have h1 : (y 1 : ℕ) < 512 := (y 1).isLt
    have hh : (y 1 : ℕ) / 128 < 4 := by omega
    refine ⟨_, pieces_mem o ((y 0 : ℕ) / 64) (by omega) ⟨(y 1 : ℕ) / 128, hh⟩, ?_⟩
    refine (Rect.mem_set_unit (inb := inbV ((y 0 : ℕ) / 64) ⟨(y 1 : ℕ) / 128, hh⟩)).2 fun a => ?_
    match a with
    | ⟨0, _⟩ => exact ⟨by show 64 * ((y 0 : ℕ) / 64 % 16) ≤ (y 0 : ℕ); omega, by show (y 0 : ℕ) < 64 * ((y 0 : ℕ) / 64 % 16) + 64; omega⟩
    | ⟨1, _⟩ => exact ⟨by show 128 * ((y 1 : ℕ) / 128) ≤ (y 1 : ℕ); omega, by show (y 1 : ℕ) < 128 * ((y 1 : ℕ) / 128) + 128; omega⟩
  rw [View.read_writes_eq_canon v f _ cov]
  funext y
  refine View.canon_apply_of_pieces (fill o) _ (fun p hp x => ?_) y (cov y)
  obtain ⟨n, hn, h, rfl⟩ := mem_pieces o p hp
  have hh := h.isLt
  have x0 : (x 0 : ℕ) < 64 := (x 0).isLt
  have x1 : (x 1 : ℕ) < 128 := (x 1).isLt
  have e0 : (((rectV n h).emb x) 0 : ℕ) = 64 * n + (x 0 : ℕ) := by
    show 64 * (n % 16) + 1 * (x 0 : ℕ) = _; omega
  have e1 : (((rectV n h).emb x) 1 : ℕ) = 128 * h.val + (x 1 : ℕ) := by
    show 128 * h.val + 1 * (x 1 : ℕ) = _; omega
  show o n h x = fill o ((rectV n h).emb x)
  unfold fill
  simp only [e0, e1]
  have a0 : (64 * n + (x 0 : ℕ)) / 64 = n := by omega
  have a1 : (64 * n + (x 0 : ℕ)) % 64 = (x 0 : ℕ) := by omega
  have a2 : (128 * h.val + (x 1 : ℕ)) / 128 = h.val := by omega
  have a3 : (128 * h.val + (x 1 : ℕ)) % 128 = (x 1 : ℕ) := by omega
  simp only [a0, a1, a2, a3]
  exact congrArg (o n h) (eq_ix2 x)

/-- The states the stores fill. -/
def fillS (s : Fin 4 → FVec Ideal S128x64 .f32) (y : S4x128x64.Idx) : EReal := s (y 0) (ix2 (y 1) (y 2))

theorem read_piecesS {κ : Kind} {sp : Space} (v : View sig κ sp S4x128x64 .f32) (f : v.ty.Contents (Elt Ideal))
    (s : Fin 4 → FVec Ideal S128x64 .f32) : v.read (Elt Ideal) (v.writes (Elt Ideal) f (piecesS s)) = fillS s := by
  have hp : ∀ p ∈ piecesS s, ∃ h : Fin 4, p = ⟨rectS h, shapeCast S1x128x64 (s h) shapeCasts_S128x64_S1x128x64⟩ := by
    intro p hp
    simp only [piecesS, List.mem_cons, List.not_mem_nil, or_false] at hp
    rcases hp with rfl | rfl | rfl | rfl
    exacts [⟨3, rfl⟩, ⟨2, rfl⟩, ⟨1, rfl⟩, ⟨0, rfl⟩]
  have hm : ∀ h : Fin 4, (⟨rectS h, shapeCast S1x128x64 (s h) shapeCasts_S128x64_S1x128x64⟩ : View.Piece (Elt Ideal) S4x128x64 .f32) ∈ piecesS s := by
    intro h
    simp only [piecesS, List.mem_cons, List.not_mem_nil, or_false]
    match h with
    | ⟨0, _⟩ => exact .inr (.inr (.inr rfl))
    | ⟨1, _⟩ => exact .inr (.inr (.inl rfl))
    | ⟨2, _⟩ => exact .inr (.inl rfl)
    | ⟨3, _⟩ => exact .inl rfl
  have cov : ∀ y, ∃ p ∈ piecesS s, y ∈ p.1.set := by
    intro y
    have h1 : (y 1 : ℕ) < 128 := (y 1).isLt
    have h2 : (y 2 : ℕ) < 64 := (y 2).isLt
    refine ⟨_, hm (y 0), (Rect.mem_set_unit (inb := inbS (y 0))).2 fun a => ?_⟩
    match a with
    | ⟨0, _⟩ => exact ⟨le_refl (y 0 : ℕ), Nat.lt_succ_self (y 0 : ℕ)⟩
    | ⟨1, _⟩ => exact ⟨Nat.zero_le _, by show (y 1 : ℕ) < 0 + 128; omega⟩
    | ⟨2, _⟩ => exact ⟨Nat.zero_le _, by show (y 2 : ℕ) < 0 + 64; omega⟩
  rw [View.read_writes_eq_canon v f _ cov]
  funext y
  refine View.canon_apply_of_pieces (fillS s) _ (fun p h' x => ?_) y (cov y)
  obtain ⟨h, rfl⟩ := hp p h'
  have x0 : (x 0 : ℕ) < 1 := (x 0).isLt
  have e0 : ((rectS h).emb x) 0 = h := Fin.ext (by show h.val + 1 * (x 0 : ℕ) = _; omega)
  have e1 : ((rectS h).emb x) 1 = x 1 := Fin.ext (by show 0 + 1 * (x 1 : ℕ) = _; omega)
  have e2 : ((rectS h).emb x) 2 = x 2 := Fin.ext (by show 0 + 1 * (x 2 : ℕ) = _; omega)
  show shapeCast S1x128x64 (s h) shapeCasts_S128x64_S1x128x64 x = s (((rectS h).emb x) 0) (ix2 (((rectS h).emb x) 1) (((rectS h).emb x) 2))
  rw [e0, e1, e2]
  pointwise

/-- What a load of chunk `n` reads of a block of 256 columns, of head `h`'s columns of a block of 512, and of a head's state. -/
theorem load_K {φ : EltTy} (arg : Memref sig .tc .vmem S1024x256 φ) (harg : arg.IsWhole) (x : Vec Ideal S1024x256 φ) (n : ℕ) :
    View.readAt (Elt Ideal) arg.view (rectK n).toLoadRect (harg.unread x)
      = fun j => x (ix2 ⟨64 * (n % 16) + (j 0 : ℕ), by have : (j 0 : ℕ) < 64 := (j 0).isLt; omega⟩ (j 1)) := by
  rw [View.readAt_eq_ld, harg.read_unread]
  funext j
  refine congrArg x (funext fun a => Fin.ext ?_)
  match a with
  | ⟨0, _⟩ => show 64 * (n % 16) + 1 * (j 0 : ℕ) = _; rw [one_mul]; rfl
  | ⟨1, _⟩ => show 0 + 1 * (j 1 : ℕ) = _; rw [one_mul, zero_add]; rfl

theorem load_V {φ : EltTy} (arg : Memref sig .tc .vmem S1024x512 φ) (harg : arg.IsWhole) (x : Vec Ideal S1024x512 φ) (n : ℕ) (h : Fin 4) :
    View.readAt (Elt Ideal) arg.view (rectV n h).toLoadRect (harg.unread x)
      = fun j => x (ix2 ⟨64 * (n % 16) + (j 0 : ℕ), by have : (j 0 : ℕ) < 64 := (j 0).isLt; omega⟩
          ⟨128 * h.val + (j 1 : ℕ), by have : (j 1 : ℕ) < 128 := (j 1).isLt; omega⟩) := by
  rw [View.readAt_eq_ld, harg.read_unread]
  funext j
  refine congrArg x (funext fun a => Fin.ext ?_)
  match a with
  | ⟨0, _⟩ => show 64 * (n % 16) + 1 * (j 0 : ℕ) = _; rw [one_mul]; rfl
  | ⟨1, _⟩ => show 128 * h.val + 1 * (j 1 : ℕ) = _; rw [one_mul]; rfl

theorem cast_apply (X : FVec Ideal S1x128x64 .f32) (e : Fin 128) (d : Fin 64) : shapeCast S128x64 X shapeCasts_S1x128x64_S128x64 (ix2 e d) = X (ix3 0 e d) := by
  pointwise

theorem rectS_idx (h : Fin 4) (e : Fin 128) (d : Fin 64) : (rectS h).toLoadRect.idx (ix3 0 e d : S1x128x64.Idx) = (ix3 h e d : S4x128x64.Idx) := by
  refine funext fun a => Fin.ext ?_
  match a with
  | ⟨0, _⟩ => show h.val + 1 * 0 = _; rw [mul_zero, add_zero]; rfl
  | ⟨1, _⟩ => show 0 + 1 * (e : ℕ) = _; rw [one_mul, zero_add]; rfl
  | ⟨2, _⟩ => show 0 + 1 * (d : ℕ) = _; rw [one_mul, zero_add]; rfl

theorem startB_apply (arg9 : Memref sig .tc .vmem S4x128x64 .f32) (harg9 : arg9.IsWhole) (x6 : Vec Ideal S4x128x64 .f32) (h : Fin 4) (e : Fin 128) (d : Fin 64) :
    startB arg9 harg9 x6 h (ix2 e d) = x6 (ix3 h e d) := by
  unfold startB
  rw [View.readAt_eq_ld, harg9.read_unread]
  exact (cast_apply _ e d).trans (congrArg x6 (rectS_idx h e d))

theorem startA_apply (arg9 : Memref sig .tc .vmem S4x128x64 .f32) (h : Fin 4) (e : Fin 128) (d : Fin 64) :
    startA (F := Ideal) arg9 h (ix2 e d) = 0 := by
  unfold startA
  have cov : ∀ y : S4x128x64.Idx, ∃ p ∈ [zeroPiece (F := Ideal)], y ∈ p.1.set := fun y =>
    ⟨_, List.mem_singleton_self _, (Rect.mem_set_unit (inb := inb_S4x128x64_S4x128x64_0_0_0)).2 fun a => by
      match a with
      | ⟨0, _⟩ => exact ⟨Nat.zero_le _, by have := (y 0).isLt; show (y 0 : ℕ) < 0 + 4; rw [zero_add]; exact this⟩
      | ⟨1, _⟩ => exact ⟨Nat.zero_le _, by have := (y 1).isLt; show (y 1 : ℕ) < 0 + 128; rw [zero_add]; exact this⟩
      | ⟨2, _⟩ => exact ⟨Nat.zero_le _, by have := (y 2).isLt; show (y 2 : ℕ) < 0 + 64; rw [zero_add]; exact this⟩⟩
  rw [View.readCov_eq_canon arg9.view [zeroPiece] (rectS h).toLoadRect fun j => cov _]
  have hz : ∀ y : S4x128x64.Idx, View.canon (Val := Elt Ideal) [zeroPiece (F := Ideal)] y = (0 : EReal) := fun y =>
    View.canon_apply_of_pieces (fun _ => (0 : EReal)) _ (fun p hp x => by
      obtain rfl := List.mem_singleton.1 hp
      show (k0_pay5 (F := Ideal)) x = 0
      pointwise [k0_pay5]) y (cov y)
  exact (cast_apply _ e d).trans (hz _)
end Cert.KernelIdeal.Chunk
end
-- ==== Proof.GlaArray.lean ====
/- The recurrence over whole arrays: four sequences of 64 chunks, four heads. -/
module
public import proofs.«01_k».proof.Proof.GlaMath
@[expose] public section
noncomputable section
namespace Cert.GlaMath
open Idealize.ShloMosaic

/-- The six arguments, by row and column. -/
structure Args where
  q : Fin 16384 → Fin 256 → EReal
  k : Fin 16384 → Fin 256 → EReal
  v : Fin 16384 → Fin 512 → EReal
  l : Fin 16384 → Fin 256 → EReal
  r : Fin 16384 → Fin 512 → EReal
  g : Fin 128 → EReal

/-- Row `i` of chunk `n` of sequence `b`. -/
def row (b : Fin 4) (n : ℕ) (i : Fin 64) : Fin 16384 := ⟨b.val * 4096 + n % 64 * 64 + i.val, by omega⟩
def colK (h : Fin 4) (d : Fin 64) : Fin 256 := ⟨64 * h.val + d.val, by omega⟩
def colV (h : Fin 4) (e : Fin 128) : Fin 512 := ⟨128 * h.val + e.val, by omega⟩

namespace Args
variable (A : Args)

/-- Chunk `n` of head `h` of sequence `b`. -/
def chunk (b h : Fin 4) (n : ℕ) : Chunk where
  q i d := A.q (row b n i) (colK h d)
  k i d := A.k (row b n i) (colK h d)
  l i d := A.l (row b n i) (colK h d)
  v i e := A.v (row b n i) (colV h e)

/-- What the recurrence gives at a row of a chunk and a column of a head. -/
def res (b h : Fin 4) (n : ℕ) (i : Fin 64) (e : Fin 128) : EReal :=
  norm (fun e => (A.chunk b h n).out (state (A.chunk b h) n) i e) A.g (A.r (row b n i) (colV h e)) e

end Args
end Cert.GlaMath
end
-- ==== Proof.GlaTile.lean ====
/- One tile of sixteen chunks against the recurrence. -/
module
public import proofs.«01_k».proof.Proof.GlaBlock
public import proofs.«01_k».proof.Proof.GlaArray
@[expose] public section
set_option maxRecDepth 16384
noncomputable section
namespace Cert.KernelIdeal.Chunk
open Idealize.ShloMosaic Idealize.ShloMosaic.TcCoe Idealize.SL.Sem
open Cert.KernelIdeal Cert.KernelIdeal.Gen

theorem stateAt_apply (Q K : ℕ → FVec Ideal S64x256 .bf16) (L : ℕ → FVec Ideal S64x256 .f32) (V : ℕ → Fin 4 → FVec Ideal S64x128 .bf16) (h : Fin 4)
    (s : FVec Ideal S128x64 .f32) (X : ℕ → GlaMath.Chunk) (k0 : ℕ) (hX : ∀ n < 16, chunk h (Q n) (K n) (L n) (V n h) = X (k0 + n))
    (hs : ∀ e d, s (ix2 e d) = GlaMath.state X k0 d e) : ∀ n ≤ 16, ∀ (e : Fin 128) (d : Fin 64),
      stateAt (F := Ideal) K L V h s n (ix2 e d) = GlaMath.state X (k0 + n) d e
  | 0, _, e, d => hs e d
  | n + 1, hn, e, d => by
    refine (nextS_apply h (Q n) (K n) (L n) (V n h) _ e d).trans ?_
    rw [hX n (by omega), show (fun (d : Fin 64) (e : Fin 128) => stateAt (F := Ideal) K L V h s n (ix2 e d)) = GlaMath.state X (k0 + n) from
      funext fun d => funext fun e => stateAt_apply Q K L V h s X k0 hX hs n (by omega) e d]
    rfl

theorem outAt_apply (Q K : ℕ → FVec Ideal S64x256 .bf16) (L : ℕ → FVec Ideal S64x256 .f32) (V R : ℕ → Fin 4 → FVec Ideal S64x128 .bf16) (hg : FVec Ideal S1x128 .f32)
    (s : Fin 4 → FVec Ideal S128x64 .f32) (h : Fin 4) (X : ℕ → GlaMath.Chunk) (k0 : ℕ) (hX : ∀ n < 16, chunk h (Q n) (K n) (L n) (V n h) = X (k0 + n))
    (hs : ∀ e d, s h (ix2 e d) = GlaMath.state X k0 d e) (n : ℕ) (hn : n < 16) (i : Fin 64) (e : Fin 128) :
    outAt (F := Ideal) Q K L V R hg s n h (ix2 i e)
      = GlaMath.norm (fun e => (X (k0 + n)).out (GlaMath.state X (k0 + n)) i e) (fun e => hg (ix2 0 e)) (R n h (ix2 i e)) e := by
  refine (normO_apply hg _ _ i e).trans ?_
  refine congrArg (fun o => GlaMath.norm o (fun e => hg (ix2 0 e)) (R n h (ix2 i e)) e) (funext fun e => ?_)
  rw [mixO_apply, hX n hn]
  refine congrArg (fun S => (X (k0 + n)).out S i e) ?_
  exact funext fun d => funext fun e => stateAt_apply Q K L V h (s h) X k0 hX hs n hn.le e d

theorem pay7_apply (v : FVec Ideal S1x128 .f32) (e : Fin 128) : k0_pay7 (F := Ideal) v (ix2 0 e) = v (ix2 0 e) := by
  pointwise [k0_pay7]

section
variable (A : GlaMath.Args) (b : Fin 4) (u : Fin 4)
variable (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S1024x512 .bf16) (harg6 : arg6.IsWhole) (arg7 : Memref sig .tc .vmem S1x128 .f32) (harg7 : arg7.IsWhole)
    (x0 : Vec Ideal S1024x256 .bf16) (x1 : Vec Ideal S1024x256 .bf16) (x2 : Vec Ideal S1024x512 .bf16) (x3 : Vec Ideal S1024x256 .f32) (x4 : Vec Ideal S1024x512 .bf16) (x5 : Vec Ideal S1x128 .f32)

/-- A row of tile `u` of sequence `b`. -/
def trow (b u : Fin 4) (r : Fin 1024) : Fin 16384 := ⟨b.val * 4096 + u.val * 1024 + r.val, by omega⟩

/-- The tile's blocks are the arguments' rows. -/
structure Holds : Prop where
  q : ∀ r d, x0 (ix2 r d) = A.q (trow b u r) d
  k : ∀ r d, x1 (ix2 r d) = A.k (trow b u r) d
  v : ∀ r d, x2 (ix2 r d) = A.v (trow b u r) d
  l : ∀ r d, x3 (ix2 r d) = A.l (trow b u r) d
  r : ∀ r d, x4 (ix2 r d) = A.r (trow b u r) d
  g : ∀ e, x5 (ix2 0 e) = A.g e

theorem trow_eq (n : ℕ) (hn : n < 16) (i : Fin 64) (hr : 64 * (n % 16) + i.val < 1024) :
    trow b u ⟨64 * (n % 16) + i.val, hr⟩ = GlaMath.row b (16 * u.val + n) i := by
  refine Fin.ext ?_
  show b.val * 4096 + u.val * 1024 + (64 * (n % 16) + i.val) = b.val * 4096 + (16 * u.val + n) % 64 * 64 + i.val
  omega

variable {A b u x0 x1 x2 x3 x4 x5} (H : Holds A b u x0 x1 x2 x3 x4 x5) (s : Fin 4 → FVec Ideal S128x64 .f32)
  (hs : ∀ h e d, s h (ix2 e d) = GlaMath.state (A.chunk b h) (16 * u.val) d e)
include H

theorem chunk_eq (h : Fin 4) (n : ℕ) (hn : n < 16) :
    chunk h (View.readAt (Elt Ideal) arg2.view (rectK n).toLoadRect (harg2.unread x0)) (View.readAt (Elt Ideal) arg3.view (rectK n).toLoadRect (harg3.unread x1))
      (View.readAt (Elt Ideal) arg5.view (rectK n).toLoadRect (harg5.unread x3)) (View.readAt (Elt Ideal) arg4.view (rectV n h).toLoadRect (harg4.unread x2))
      = A.chunk b h (16 * u.val + n) := by
  rw [load_K, load_K, load_K, load_V]
  have hq := fun (i : Fin 64) (d : Fin 64) => (H.q ⟨64 * (n % 16) + i.val, by omega⟩ ⟨64 * h.val + d.val, by omega⟩)
  have hk := fun (i : Fin 64) (d : Fin 64) => (H.k ⟨64 * (n % 16) + i.val, by omega⟩ ⟨64 * h.val + d.val, by omega⟩)
  have hl := fun (i : Fin 64) (d : Fin 64) => (H.l ⟨64 * (n % 16) + i.val, by omega⟩ ⟨64 * h.val + d.val, by omega⟩)
  have hv := fun (i : Fin 64) (e : Fin 128) => (H.v ⟨64 * (n % 16) + i.val, by omega⟩ ⟨128 * h.val + e.val, by omega⟩)
  simp only [trow_eq b u n hn] at hq hk hl hv
  unfold chunk GlaMath.Args.chunk
  rw [GlaMath.Chunk.mk.injEq]
  exact ⟨funext fun i => funext fun d => hq i d, funext fun i => funext fun d => hk i d, funext fun i => funext fun d => hl i d,
    funext fun i => funext fun e => hv i e⟩

include hs

theorem tileState_apply (h : Fin 4) (e : Fin 128) (d : Fin 64) :
    tileState arg3 harg3 arg4 harg4 arg5 harg5 x1 x2 x3 s h (ix2 e d) = GlaMath.state (A.chunk b h) (16 * u.val + 16) d e :=
  stateAt_apply (fun n => View.readAt (Elt Ideal) arg3.view (rectK n).toLoadRect (harg3.unread x0)) _ _ _ h (s h) (A.chunk b h) (16 * u.val)
    (fun n hn => chunk_eq arg3 harg3 arg3 harg3 arg4 harg4 arg5 harg5 H h n hn) (hs h) 16 le_rfl e d

theorem tileOut_apply (n : ℕ) (hn : n < 16) (h : Fin 4) (i : Fin 64) (e : Fin 128) :
    tileOut arg2 harg2 arg3 harg3 arg4 harg4 arg5 harg5 arg6 harg6 arg7 harg7 x0 x1 x2 x3 x4 x5 s n h (ix2 i e) = A.res b h (16 * u.val + n) i e := by
  refine (outAt_apply _ _ _ _ _ _ s h (A.chunk b h) (16 * u.val) (fun n hn => chunk_eq arg2 harg2 arg3 harg3 arg4 harg4 arg5 harg5 H h n hn) (hs h) n hn i e).trans ?_
  have hg : (fun e : Fin 128 => k0_pay7 (F := Ideal) (View.readAt (Elt Ideal) arg7.view (Rect.unit ![0, 0] S1x128.size inb_S1x128_S1x128_0_0).toLoadRect (harg7.unread x5)) (ix2 0 e)) = A.g := by
    funext e
    rw [View.readAt_eq_ld, harg7.read_unread]
    refine (pay7_apply _ e).trans ?_
    rw [← H.g e]
    refine congrArg x5 (funext fun a => Fin.ext ?_)
    match a with
    | ⟨0, _⟩ => rfl
    | ⟨1, _⟩ => show 0 + 1 * (e : ℕ) = _; rw [one_mul, zero_add]; rfl
  have hr : (View.readAt (Elt Ideal) arg6.view (rectV n h).toLoadRect (harg6.unread x4)) (ix2 i e) = A.r (GlaMath.row b (16 * u.val + n) i) (GlaMath.colV h e) := by
    rw [load_V]
    have := H.r ⟨64 * (n % 16) + i.val, by omega⟩ ⟨128 * h.val + e.val, by omega⟩
    rw [trow_eq b u n hn] at this
    exact this
  rw [hg, hr]
  rfl
end
end Cert.KernelIdeal.Chunk
end
-- ==== Proof.GlaKernel.lean ====
/- What the recurrence kernel's result array holds. -/
module
public import proofs.«01_k».proof.Proof.GlaTile
public import proofs.«01_k».proof.Proof.Gen.KernelIdeal.Value
public import Idealize.ShloMosaic.Lib.Pipeline.ValueKit
@[expose] public section
set_option maxRecDepth 16384
noncomputable section
namespace Cert.KernelIdeal.Chunk
open Idealize.ShloMosaic Idealize.ShloMosaic.TcCoe Idealize.SL.Sem
open Cert.KernelIdeal Cert.KernelIdeal.Gen

variable (m : (ℓ : Loc nD τ sig) → Buf (Elt Ideal) ℓ)

/-- The arguments, by row and column. -/
def args (c : Dev nD) : GlaMath.Args where
  q r d := m ((c : Thread nD τ).loc main_arg0) (ix2 r d)
  k r d := m ((c : Thread nD τ).loc main_arg1) (ix2 r d)
  v r d := m ((c : Thread nD τ).loc main_arg2) (ix2 r d)
  l r d := m ((c : Thread nD τ).loc main_arg3) (ix2 r d)
  r r d := m ((c : Thread nD τ).loc main_arg4) (ix2 r d)
  g e := m ((c : Thread nD τ).loc main_arg5) (ix1 e)

/-- The block a point works on, of each window. -/
theorem idx : ∀ t : Fin cfg0.N, (∀ a : Fin 2, win0_0.index t a = ![t.val, 0] a) ∧ (∀ a : Fin 2, win0_1.index t a = ![t.val, 0] a) ∧ (∀ a : Fin 2, win0_2.index t a = ![t.val, 0] a)
    ∧ (∀ a : Fin 2, win0_3.index t a = ![t.val, 0] a) ∧ (∀ a : Fin 2, win0_4.index t a = ![t.val, 0] a) ∧ (∀ a : Fin 2, win0_5.index t a = ![0, 0] a) ∧ (∀ a : Fin 2, win0_6.index t a = ![t.val, 0] a) :=
  (by decide +kernel : ∀ t : Fin grid0.N, _)

theorem gain (c : Dev nD) (e : Fin 128) : V m c main_v0 (ix2 0 e) = m ((c : Thread nD τ).loc main_arg5) (ix1 e) := by
  entry_read
  pointwise

def bOf (t : Fin cfg0.N) : Fin 4 := ⟨t.val / 4, by have := lt_of_lt_of_eq t.isLt N_0; omega⟩
def uOf (t : Fin cfg0.N) : Fin 4 := ⟨t.val % 4, Nat.mod_lt _ (by decide)⟩

theorem eq_idx {n k : ℕ} (i : (⟨2, ![n, k]⟩ : Shape).Idx) (a : Fin n) (b : Fin k) (h0 : (i 0 : ℕ) = a.val) (h1 : (i 1 : ℕ) = b.val) : i = ix2 a b :=
  (eq_ix2 i).trans (congrArg₂ ix2 (Fin.ext h0) (Fin.ext h1))

theorem holds (c : Dev nD) (t : Fin cfg0.N) : Holds (args m c) (bOf t) (uOf t) (iblk m c 0 t) (iblk m c 1 t) (iblk m c 2 t) (iblk m c 3 t) (iblk m c 4 t) (iblk m c 5 t) := by
  obtain ⟨h0, h1, h2, h3, h4, h5, -⟩ := idx t
  have ht := lt_of_lt_of_eq t.isLt N_0
  refine ⟨fun r d => ?_, fun r d => ?_, fun r d => ?_, fun r d => ?_, fun r d => ?_, fun e => ?_⟩
  · show V m c main_arg0 (((cfg0.win 0).blk t).view.emb (ix2 r d)) = _
    rw [V_main_arg0]
    refine congrArg (m ((c : Thread nD τ).loc main_arg0)) (eq_idx _ _ _ ?_ ?_)
    · show win0_0.index t 0 * 1024 + 1 * r.val = t.val / 4 * 4096 + t.val % 4 * 1024 + r.val
      rw [h0]; show t.val * 1024 + 1 * r.val = _; omega
    · show win0_0.index t 1 * 256 + 1 * d.val = d.val
      rw [h0]; show 0 * 256 + 1 * d.val = _; omega
  · show V m c main_arg1 (((cfg0.win 1).blk t).view.emb (ix2 r d)) = _
    rw [V_main_arg1]
    refine congrArg (m ((c : Thread nD τ).loc main_arg1)) (eq_idx _ _ _ ?_ ?_)
    · show win0_1.index t 0 * 1024 + 1 * r.val = t.val / 4 * 4096 + t.val % 4 * 1024 + r.val
      rw [h1]; show t.val * 1024 + 1 * r.val = _; omega
    · show win0_1.index t 1 * 256 + 1 * d.val = d.val
      rw [h1]; show 0 * 256 + 1 * d.val = _; omega
  · show V m c main_arg2 (((cfg0.win 2).blk t).view.emb (ix2 r d)) = _
    rw [V_main_arg2]
    refine congrArg (m ((c : Thread nD τ).loc main_arg2)) (eq_idx _ _ _ ?_ ?_)
    · show win0_2.index t 0 * 1024 + 1 * r.val = t.val / 4 * 4096 + t.val % 4 * 1024 + r.val
      rw [h2]; show t.val * 1024 + 1 * r.val = _; omega
    · show win0_2.index t 1 * 512 + 1 * d.val = d.val
      rw [h2]; show 0 * 512 + 1 * d.val = _; omega
  · show V m c main_arg3 (((cfg0.win 3).blk t).view.emb (ix2 r d)) = _
    rw [V_main_arg3]
    refine congrArg (m ((c : Thread nD τ).loc main_arg3)) (eq_idx _ _ _ ?_ ?_)
    · show win0_3.index t 0 * 1024 + 1 * r.val = t.val / 4 * 4096 + t.val % 4 * 1024 + r.val
      rw [h3]; show t.val * 1024 + 1 * r.val = _; omega
    · show win0_3.index t 1 * 256 + 1 * d.val = d.val
      rw [h3]; show 0 * 256 + 1 * d.val = _; omega
  · show V m c main_arg4 (((cfg0.win 4).blk t).view.emb (ix2 r d)) = _
    rw [V_main_arg4]
    refine congrArg (m ((c : Thread nD τ).loc main_arg4)) (eq_idx _ _ _ ?_ ?_)
    · show win0_4.index t 0 * 1024 + 1 * r.val = t.val / 4 * 4096 + t.val % 4 * 1024 + r.val
      rw [h4]; show t.val * 1024 + 1 * r.val = _; omega
    · show win0_4.index t 1 * 512 + 1 * d.val = d.val
      rw [h4]; show 0 * 512 + 1 * d.val = _; omega
  · refine Eq.trans ?_ (gain m c e)
    show V m c main_v0 (((cfg0.win 5).blk t).view.emb (ix2 0 e)) = _
    refine congrArg (V m c main_v0) (eq_idx _ _ _ ?_ ?_)
    · show win0_5.index t 0 * 1 + 1 * 0 = 0
      rw [h5]; rfl
    · show win0_5.index t 1 * 128 + 1 * e.val = e.val
      rw [h5]; show 0 * 128 + 1 * e.val = _; omega

theorem outA_apply (A : GlaMath.Args) (b : Fin 4) (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S1024x512 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S4x128x64 .f32) (harg9 : arg9.IsWhole)
    (x0 : Vec Ideal S1024x256 .bf16) (x1 : Vec Ideal S1024x256 .bf16) (x2 : Vec Ideal S1024x512 .bf16) (x3 : Vec Ideal S1024x256 .f32) (x4 : Vec Ideal S1024x512 .bf16) (x5 : Vec Ideal S1x128 .f32)
    (hc0 : cond0_0 i) (u : Fin 4) (hu : u.val = 0) (H : Holds A b u x0 x1 x2 x3 x4 x5) :
    out0_A_6 c i arg2 harg2 arg3 harg3 arg4 harg4 arg5 harg5 arg6 harg6 arg7 harg7 arg8 harg8 arg9 harg9 hc0 x0 x1 x2 x3 x4 x5
        = fill (fun n h j => if n < 16 then A.res b h (16 * u.val + n) (j 0) (j 1) else 0)
      ∧ ∀ (h : Fin 4) (e : Fin 128) (d : Fin 64), sout0_A_0 c i arg2 harg2 arg3 harg3 arg4 harg4 arg5 harg5 arg6 harg6 arg7 harg7 arg8 harg8 arg9 harg9 hc0 x0 x1 x2 x3 x4 x5 (ix3 h e d)
        = GlaMath.state (A.chunk b h) (16 * u.val + 16) d e := by
  have hs : ∀ (h : Fin 4) (e : Fin 128) (d : Fin 64), startA (F := Ideal) arg9 h (ix2 e d) = GlaMath.state (A.chunk b h) (16 * u.val) d e := by
    intro h e d
    rw [startA_apply, hu]
    rfl
  constructor
  · unfold out0_A_6
    rw [outA_eq, read_pieces]
    exact fill_congr fun n hn h i e => (tileOut_apply arg2 harg2 arg3 harg3 arg4 harg4 arg5 harg5 arg6 harg6 arg7 harg7 H (startA arg9) hs n hn h i e).trans (if_pos hn).symm
  · intro h e d
    unfold sout0_A_0
    rw [stateA_eq]
    refine (congrFun (read_piecesS VS0_0 (VS0_0.writes (Elt Ideal) VS0_0.junk [zeroPiece]) _) (ix3 h e d)).trans ?_
    exact tileState_apply arg3 harg3 arg4 harg4 arg5 harg5 H (startA arg9) hs h e d

theorem outB_apply (A : GlaMath.Args) (b : Fin 4) (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S1024x512 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S4x128x64 .f32) (harg9 : arg9.IsWhole)
    (x0 : Vec Ideal S1024x256 .bf16) (x1 : Vec Ideal S1024x256 .bf16) (x2 : Vec Ideal S1024x512 .bf16) (x3 : Vec Ideal S1024x256 .f32) (x4 : Vec Ideal S1024x512 .bf16) (x5 : Vec Ideal S1x128 .f32) (x6 : Vec Ideal S4x128x64 .f32)
    (hc0 : ¬ cond0_0 i) (u : Fin 4) (H : Holds A b u x0 x1 x2 x3 x4 x5)
    (h6 : ∀ (h : Fin 4) (e : Fin 128) (d : Fin 64), x6 (ix3 h e d) = GlaMath.state (A.chunk b h) (16 * u.val) d e) :
    out0_B_6 c i arg2 harg2 arg3 harg3 arg4 harg4 arg5 harg5 arg6 harg6 arg7 harg7 arg8 harg8 arg9 harg9 hc0 x0 x1 x2 x3 x4 x5 x6
        = fill (fun n h j => if n < 16 then A.res b h (16 * u.val + n) (j 0) (j 1) else 0)
      ∧ ∀ (h : Fin 4) (e : Fin 128) (d : Fin 64), sout0_B_0 c i arg2 harg2 arg3 harg3 arg4 harg4 arg5 harg5 arg6 harg6 arg7 harg7 arg8 harg8 arg9 harg9 hc0 x0 x1 x2 x3 x4 x5 x6 (ix3 h e d)
        = GlaMath.state (A.chunk b h) (16 * u.val + 16) d e := by
  have hs : ∀ (h : Fin 4) (e : Fin 128) (d : Fin 64), startB arg9 harg9 x6 h (ix2 e d) = GlaMath.state (A.chunk b h) (16 * u.val) d e :=
    fun h e d => (startB_apply arg9 harg9 x6 h e d).trans (h6 h e d)
  constructor
  · unfold out0_B_6
    rw [outB_eq, read_pieces]
    exact fill_congr fun n hn h i e => (tileOut_apply arg2 harg2 arg3 harg3 arg4 harg4 arg5 harg5 arg6 harg6 arg7 harg7 H (startB arg9 harg9 x6) hs n hn h i e).trans (if_pos hn).symm
  · intro h e d
    unfold sout0_B_0
    rw [stateB_eq]
    refine (congrFun (read_piecesS VS0_0 VS0_0.junk _) (ix3 h e d)).trans ?_
    exact tileState_apply arg3 harg3 arg4 harg4 arg5 harg5 H (startB arg9 harg9 x6) hs h e d

/-- What a point leaves: its block of the result, and the states. -/
def Left (c : Dev nD) (t : Fin cfg0.N) (p : Vec Ideal S1024x512 .bf16 × Vec Ideal S4x128x64 .f32) : Prop :=
  p.1 = fill (fun k h j => if k < 16 then (args m c).res (bOf t) h (16 * (uOf t).val + k) (j 0) (j 1) else 0)
    ∧ ∀ (h : Fin 4) (e : Fin 128) (d : Fin 64), p.2 (ix3 h e d) = GlaMath.state ((args m c).chunk (bOf t) h) (16 * (uOf t).val + 16) d e

set_option maxHeartbeats 4000000 in
theorem left_A (c : Dev nD) (t : Fin cfg0.N) (h0 : t.val % 4 = 0) : Left m c t (outsAt0 m c t.val t.isLt) := by
  have hu : (uOf t).val = 0 := h0
  have H := holds m c t
  have hc := (hcond0_0 t).mpr h0
  have := outA_apply (args m c) (bOf t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) hc (uOf t) hu H
  have e := outsAt0_A m c t h0
  generalize outsAt0 m c t.val t.isLt = p at e ⊢
  subst e
  exact this

set_option maxHeartbeats 4000000 in
theorem left_B (c : Dev nD) (t : Fin cfg0.N) (h0 : ¬ t.val % 4 = 0)
    (h6 : ∀ (h : Fin 4) (e : Fin 128) (d : Fin 64), (outsAt0 m c (t.val - 1) (Nat.lt_of_le_of_lt (Nat.sub_le _ _) t.isLt)).2 (ix3 h e d)
      = GlaMath.state ((args m c).chunk (bOf t) h) (16 * (uOf t).val) d e) : Left m c t (outsAt0 m c t.val t.isLt) := by
  have H := holds m c t
  have hc : ¬ cond0_0 (grid0.coords t) := fun h => h0 ((hcond0_0 t).mp h)
  have e := outsAt0_B m c t h0
  generalize (outsAt0 m c (t.val - 1) (Nat.lt_of_le_of_lt (Nat.sub_le _ _) t.isLt)).2 = x6 at e h6
  have := outB_apply (args m c) (bOf t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) x6 hc (uOf t) H h6
  generalize outsAt0 m c t.val t.isLt = p at e ⊢
  subst e
  exact this

theorem left (c : Dev nD) (n : ℕ) : ∀ hn : n < cfg0.N, Left m c ⟨n, hn⟩ (outsAt0 m c n hn) := by
  induction n with
  | zero => exact fun hn => left_A m c ⟨0, hn⟩ (Nat.zero_mod _)
  | succ n ih =>
    intro hn
    by_cases h0 : (n + 1) % 4 = 0
    · exact left_A m c ⟨n + 1, hn⟩ h0
    · refine left_B m c ⟨n + 1, hn⟩ h0 fun h e d => ?_
      refine ((ih (Nat.lt_of_succ_lt hn)).2 h e d).trans ?_
      have hb : bOf ⟨n, Nat.lt_of_succ_lt hn⟩ = bOf ⟨n + 1, hn⟩ := Fin.ext (by show n / 4 = (n + 1) / 4; omega)
      have hu : 16 * (uOf ⟨n, Nat.lt_of_succ_lt hn⟩).val + 16 = 16 * (uOf ⟨n + 1, hn⟩).val := by show 16 * (n % 4) + 16 = 16 * ((n + 1) % 4); omega
      rw [hb, hu]

/-- The result array, by row and column. -/
def G (A : GlaMath.Args) (y : S16384x512.Idx) : EReal :=
  A.res ⟨(y 0 : ℕ) / 4096, by have : (y 0 : ℕ) < 16384 := (y 0).isLt; omega⟩ ⟨(y 1 : ℕ) / 128, by have : (y 1 : ℕ) < 512 := (y 1).isLt; omega⟩
    ((y 0 : ℕ) % 4096 / 64) ⟨(y 0 : ℕ) % 64, Nat.mod_lt _ (by decide)⟩ ⟨(y 1 : ℕ) % 128, Nat.mod_lt _ (by decide)⟩

theorem final (c : Dev nD) : (dats m 0 c).arrAt 6 cfg0.N = G (args m c) := by
  refine (dats m 0 c).arrAt_eq_of_covers 6 _ (by decide +kernel) fun t _ y => ?_
  have ht := lt_of_lt_of_eq t.isLt N_0
  have y0 : (y 0 : ℕ) < 1024 := (y 0).isLt
  have y1 : (y 1 : ℕ) < 512 := (y 1).isLt
  have hI := (idx t).2.2.2.2.2.2
  have e0 : ((((cfg0.win 6).blk t).view.emb y 0 : ℕ)) = t.val * 1024 + (y 0 : ℕ) := by
    show win0_6.index t 0 * 1024 + 1 * (y 0 : ℕ) = _
    rw [hI]; show t.val * 1024 + 1 * (y 0 : ℕ) = _; omega
  have e1 : ((((cfg0.win 6).blk t).view.emb y 1 : ℕ)) = (y 1 : ℕ) := by
    show win0_6.index t 1 * 512 + 1 * (y 1 : ℕ) = _
    rw [hI]; show 0 * 512 + 1 * (y 1 : ℕ) = _; omega
  show (dats m 0 c).after 6 t y = G (args m c) (((cfg0.win 6).blk t).view.emb y)
  rw [after0_6, (left m c t.val t.isLt).1]
  unfold G fill
  simp only [e0, e1]
  rw [if_pos (by omega)]
  have a0 : (t.val * 1024 + (y 0 : ℕ)) / 4096 = t.val / 4 := by omega
  have a1 : (t.val * 1024 + (y 0 : ℕ)) % 4096 / 64 = 16 * (t.val % 4) + (y 0 : ℕ) / 64 := by omega
  have a2 : (t.val * 1024 + (y 0 : ℕ)) % 64 = (y 0 : ℕ) % 64 := by omega
  simp only [a0, a1, a2]
  rfl
end Cert.KernelIdeal.Chunk
end
-- ==== Proof.GlaScan.lean ====
/- The host's running sum along axis 3, at an index. -/
module
public import proofs.«01_k».proof.Proof.GlaMath
public import proofs.«01_k».proof.Proof.Gen.ReferenceIdeal
public import Idealize.ShloMosaic.Lib.Pointwise
@[expose] public section
set_option maxRecDepth 16384
noncomputable section
namespace Cert.ReferenceIdeal.Read
open Idealize.ShloMosaic Cert.ReferenceIdeal Cert.ReferenceIdeal.Gen

/-- Adding a list's terms one after another is adding their sum. -/
theorem foldl_eq_sum {n : ℕ} (f : Fin n → EReal) (v : EReal) :
    (List.finRange n).foldl (fun r k => r + f k) v = v + ∑ k, f k := by
  have : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [this, Fin.sum_univ_def]

/-- The window: 64 places along axis 3. -/
abbrev W : Shape := ⟨5, ![1, 1, 1, 64, 1]⟩

def place : W.Idx ≃ Fin 64 where
  toFun y := y 3
  invFun j := fun a => match a with
    | 0 => (0 : Fin 1) | 1 => (0 : Fin 1) | 2 => (0 : Fin 1) | 3 => j | 4 => (0 : Fin 1)
  left_inv y := by
    funext a
    match a with
    | 0 => exact Subsingleton.elim (α := Fin 1) _ _
    | 1 => exact Subsingleton.elim (α := Fin 1) _ _
    | 2 => exact Subsingleton.elim (α := Fin 1) _ _
    | 3 => rfl
    | 4 => exact Subsingleton.elim (α := Fin 1) _ _
  right_inv j := rfl

/-- The window's place `j` at row `i` is row `i + j - 63`. -/
def turn (i : Fin 64) : Fin 64 ≃ Fin 64 where
  toFun j := ⟨((i : ℕ) + j + 1) % 64, Nat.mod_lt _ (by decide)⟩
  invFun j := ⟨((j : ℕ) + 63 - i) % 64, Nat.mod_lt _ (by decide)⟩
  left_inv j := by have := i.isLt; have := j.isLt; apply Fin.ext; simp only; omega
  right_inv j := by have := i.isLt; have := j.isLt; apply Fin.ext; simp only; omega

/-- A window sum at an index, as one sum over the window. -/
theorem window_sum {s t u : Shape} (window strides lo hi : Fin s.rank → Nat) (x : s.Idx → EReal) (v : u.Idx → EReal)
    (h : s.ReduceWindows window strides lo hi t) (hu : 0 < u.numel) (j : t.Idx) :
    Host.reduceWindow (· + ·) window strides lo hi x v h hu j
    = v (Shape.Idx.first hu) + ∑ w : (⟨s.rank, window⟩ : Shape).Idx,
        (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else v (Shape.Idx.first hu)) := by
  unfold Host.reduceWindow
  dsimp only
  rw [foldl_eq_sum]
  congr 1
  refine Eq.trans (Finset.sum_congr rfl fun k _ => ?_) (Equiv.sum_comp (Shape.rowMajor (⟨s.rank, window⟩ : Shape)).symm (fun w => (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else v (Shape.Idx.first hu))))
  congr

theorem scan_apply (x : FVec Ideal S4x4x64x64x64 .f32) (z : S_.Idx → Ideal .f32) (hz : ∀ i, z i = 0) (b h : Fin 4) (n i d : Fin 64) :
    Host.reduceWindowAdd ![1, 1, 1, 64, 1] ![1, 1, 1, 1, 1] ![0, 0, 0, 63, 0] ![0, 0, 0, 0, 0] x z
      reduceWindows_S4x4x64x64x64_S4x4x64x64x64_w1s1p0_0_w1s1p0_0_w1s1p0_0_w64s1p63_0_w1s1p0_0 h_S_ (ix5 b h n i d)
    = GlaMath.cum (fun j => x (ix5 b h n j d)) i := by
  unfold Host.reduceWindowAdd
  rw [Ideal.hostReduceWindowAdd_def]
  unfold Ideal.hostReduceWindowAdd
  rw [window_sum, hz, zero_add]
  unfold GlaMath.cum
  refine Fintype.sum_equiv (place.trans (turn i)) _ _ fun w => ?_
  have hw : (w 3).val < 64 := (w 3).isLt
  have h0 : (w 0).val < 1 := (w 0).isLt
  have h1 : (w 1).val < 1 := (w 1).isLt
  have h2 : (w 2).val < 1 := (w 2).isLt
  have h4 : (w 4).val < 1 := (w 4).isLt
  have ht : ((place.trans (turn i)) w : ℕ) = ((i : ℕ) + (w 3).val + 1) % 64 := rfl
  have hi := i.isLt
  by_cases hc : 63 ≤ (i : ℕ) + (w 3).val
  · have hle : (place.trans (turn i)) w ≤ i := Fin.le_def.2 (by rw [ht]; omega)
    rw [if_pos hle, dif_pos]
    · refine congrArg x (funext fun a => Fin.ext ?_)
      match a with
      | 0 => show b.val * 1 + (w 0).val - 0 = b.val; omega
      | 1 => show h.val * 1 + (w 1).val - 0 = h.val; omega
      | 2 => show n.val * 1 + (w 2).val - 0 = n.val; omega
      | 3 => show i.val * 1 + (w 3).val - 63 = ((place.trans (turn i)) w : ℕ); rw [ht]; omega
      | 4 => show d.val * 1 + (w 4).val - 0 = d.val; omega
    · intro a
      match a with
      | 0 => show 0 ≤ b.val * 1 + (w 0).val ∧ b.val * 1 + (w 0).val - 0 < 4; omega
      | 1 => show 0 ≤ h.val * 1 + (w 1).val ∧ h.val * 1 + (w 1).val - 0 < 4; omega
      | 2 => show 0 ≤ n.val * 1 + (w 2).val ∧ n.val * 1 + (w 2).val - 0 < 64; omega
      | 3 => show 63 ≤ i.val * 1 + (w 3).val ∧ i.val * 1 + (w 3).val - 63 < 64; omega
      | 4 => show 0 ≤ d.val * 1 + (w 4).val ∧ d.val * 1 + (w 4).val - 0 < 64; omega
  · rw [if_neg, dif_neg]
    · intro hin
      have : 63 ≤ i.val * 1 + (w 3).val := (hin 3).1
      omega
    · rw [Fin.le_def, ht]; omega
end Cert.ReferenceIdeal.Read
end
-- ==== Proof.GlaEntry.lean ====
/- What each stretch of host operations before the loop leaves, at an index. -/
module
public import proofs.«01_k».proof.Proof.GlaArray
public import proofs.«01_k».proof.Proof.GlaScan
public import proofs.«01_k».proof.Proof.GlaPoint
public import proofs.«01_k».proof.Proof.Gen.ReferenceIdeal.Run
public import Idealize.ShloMosaic.Lib.Pointwise
public import Idealize.ShloMosaic.Lib.Pipeline.ValueKit
@[expose] public section
set_option maxRecDepth 16384
noncomputable section
namespace Cert.ReferenceIdeal.Read
open Idealize.ShloMosaic Idealize.ShloMosaic.TcCoe Idealize.SL.Sem Idealize.ShloMosaic.StableHlo
open Cert.ReferenceIdeal Cert.ReferenceIdeal.Gen

variable (X : Valuation τ sig (Elt Ideal))

/-- The arrays that are read, by index. -/
abbrev qs : S4x4x64x64x64.Idx → EReal := X (Proc.devRef .tc main_v8)
abbrev ks : S4x4x64x64x64.Idx → EReal := X (Proc.devRef .tc main_v10)
abbrev vs : S4x4x64x64x128.Idx → EReal := X (Proc.devRef .tc main_v12)
abbrev bs : S4x4x64x64x64.Idx → EReal := X (Proc.devRef .tc main_v15)
abbrev lasts : S4x4x64x1x64.Idx → EReal := X (Proc.devRef .tc main_v16)
abbrev atts : S4x4x64x64x64.Idx → EReal := X (Proc.devRef .tc main_v26)
abbrev ones : S64x64.Idx → EReal := X (Proc.devRef .tc main_v27)
abbrev trils : S64x64.Idx → EReal := X (Proc.devRef .tc main_v28)
abbrev intras : S4x4x64x64x128.Idx → EReal := X (Proc.devRef .tc main_v32)
abbrev decays : S64x4x4x64.Idx → EReal := X (Proc.devRef .tc main_v44_0)
abbrev adds : S64x4x4x64x128.Idx → EReal := X (Proc.devRef .tc main_v44_1)
abbrev states : S4x4x64x128.Idx → EReal := X (Proc.devRef .tc main_v44_3)
abbrev stack : S64x4x4x64x128.Idx → EReal := X (Proc.devRef .tc main_v44_4)

theorem row_eq (b : Fin 4) (n i : Fin 64) (h : b.val * 4096 + n.val * 64 + i.val < 16384) :
    (⟨b.val * 4096 + n.val * 64 + i.val, h⟩ : Fin 16384) = GlaMath.row b n.val i := by
  apply Fin.ext; show b.val * 4096 + n.val * 64 + i.val = b.val * 4096 + n.val % 64 * 64 + i.val; rw [Nat.mod_eq_of_lt n.isLt]

theorem colK_eq (h : Fin 4) (d : Fin 64) (hb : h.val * 64 + d.val < 256) : (⟨h.val * 64 + d.val, hb⟩ : Fin 256) = GlaMath.colK h d := by
  apply Fin.ext; show h.val * 64 + d.val = 64 * h.val + d.val; omega

theorem colV_eq (h : Fin 4) (d : Fin 128) (hb : h.val * 128 + d.val < 512) : (⟨h.val * 128 + d.val, hb⟩ : Fin 512) = GlaMath.colV h d := by
  apply Fin.ext; show h.val * 128 + d.val = 128 * h.val + d.val; omega

theorem q_apply (b h : Fin 4) (n i d : Fin 64) : qs (after hostOps0 X) (ix5 b h n i d)
    = X (Proc.devRef .tc main_arg0) (ix2 (GlaMath.row b n.val i) (GlaMath.colK h d)) := by
  after_reads_simp
  pointwise
  rw [row_eq, colK_eq]

theorem k_apply (b h : Fin 4) (n i d : Fin 64) : ks (after hostOps0 X) (ix5 b h n i d)
    = X (Proc.devRef .tc main_arg1) (ix2 (GlaMath.row b n.val i) (GlaMath.colK h d)) := by
  after_reads_simp
  pointwise
  rw [row_eq, colK_eq]

theorem v_apply (b h : Fin 4) (n i : Fin 64) (e : Fin 128) : vs (after hostOps0 X) (ix5 b h n i e)
    = X (Proc.devRef .tc main_arg2) (ix2 (GlaMath.row b n.val i) (GlaMath.colV h e)) := by
  after_reads_simp
  pointwise
  rw [row_eq, colV_eq]

theorem l_apply (b h : Fin 4) (n i d : Fin 64) : after hostOps0 X (Proc.devRef .tc main_v14) (ix5 b h n i d)
    = X (Proc.devRef .tc main_arg3) (ix2 (GlaMath.row b n.val i) (GlaMath.colK h d)) := by
  after_reads_simp
  pointwise
  rw [row_eq, colK_eq]

theorem b_apply (b h : Fin 4) (n i d : Fin 64) : bs (after hostOps0_1 X) (ix5 b h n i d)
    = GlaMath.cum (fun j => X (Proc.devRef .tc main_v14) (ix5 b h n j d)) i := by
  after_reads_simp
  refine (scan_apply (X (Proc.devRef .tc main_v14)) _ ?_ b h n i d)
  intro i
  show Ideal.ofBits .f32 0#32 = 0
  pointwise

/-- The running sum's row 63. -/
theorem last_apply (b h : Fin 4) (n d : Fin 64) : lasts (after hostOps0_2 X) (ix5 b h n 0 d)
    = bs X (ix5 b h n 63 d) := by
  after_reads_simp
  pointwise

theorem att_apply (b h : Fin 4) (n i j : Fin 64) : atts (after hostOps0_2 X) (ix5 b h n i j)
    = ∑ d : Fin 64, qs X (ix5 b h n i d) *
          Ideal.exp (bs X (ix5 b h n i d) - bs X (ix5 b h n 32 d)) *
        (ks X (ix5 b h n j d) *
          Ideal.exp (bs X (ix5 b h n 32 d) - bs X (ix5 b h n j d))) := by
  after_reads_simp
  pointwise

theorem ones_apply (i j : Fin 64) : ones (after hostOps0_2 X) (ix2 i j) = (1 : EReal) := by
  after_reads_simp
  pointwise

theorem tril_apply (i j : Fin 64) : trils (after hostOps0_3 X) (ix2 i j)
    = if j ≤ i then ones X (ix2 i j) else (0 : EReal) := by
  after_reads_simp
  show select (cmpi CmpIPredicate.sge (addi (iotaInDim S64x64 32 0) (broadcastInDim S64x64 ![] bcast_S_S64x64 (constantI S_ 32 0#32))) (iotaInDim S64x64 32 1))
    (ones X) (broadcastInDim S64x64 ![] bcast_S_S64x64 (constant (F := Ideal) S_ FTy.f32 0#32)) (ix2 i j) = _
  pointwise
  rw [show IntOp.addi (BitVec.ofNat 32 i.val) 0#32 = BitVec.ofNat 32 i.val from BitVec.add_zero _]
  exact KernelIdeal.Chunk.select_sge i j _ _

theorem intra_apply (b h : Fin 4) (n i : Fin 64) (e : Fin 128) : intras (after hostOps0_4 X) (ix5 b h n i e)
    = ∑ j : Fin 64, atts X (ix5 b h n i j) * trils X (ix2 i j) *
        vs X (ix5 b h n j e) := by
  after_reads_simp
  pointwise

/-- A chunk's whole decay. -/
theorem decay_apply (b h : Fin 4) (n d : Fin 64) : decays (after hostOps0_4 X) (ix4 n b h d)
    = Ideal.exp (lasts X (ix5 b h n 0 d)) := by
  after_reads_simp
  show transpose S64x4x4x64 [2, 0, 1, 3] _
        transposes_S4x4x64x64_S64x4x4x64_2_0_1_3 (ix4 n b h d) = _
  pointwise

/-- What a chunk adds to the state. -/
theorem add_apply (b h : Fin 4) (n d : Fin 64) (e : Fin 128) : adds (after hostOps0_4 X) (ix5 n b h d e)
    = ∑ j : Fin 64, ks X (ix5 b h n j d) *
        Ideal.exp (lasts X (ix5 b h n 0 d) - bs X (ix5 b h n j d)) *
        vs X (ix5 b h n j e) := by
  after_reads_simp
  show transpose S64x4x4x64x128 [2, 0, 1, 3, 4] _ transposes_S4x4x64x64x128_S64x4x4x64x128_2_0_1_3_4 (ix5 n b h d e) = _
  pointwise

theorem zero_apply (b h : Fin 4) (d : Fin 64) (e : Fin 128) : states (after hostOps0_4 X) (ix4 b h d e) = (0 : EReal) := by
  after_reads_simp
  show broadcastInDim S4x4x64x128 ![] bcast_S_S4x4x64x128 (constant (F := Ideal) S_ FTy.f32 0#32) (ix4 b h d e) = _
  pointwise

end Cert.ReferenceIdeal.Read
end
-- ==== Proof.GlaLoop.lean ====
/- The loop over the chunks: the state before chunk `k` and the states stored. -/
module
public import proofs.«01_k».proof.Proof.GlaEntry
public import Idealize.ShloMosaic.Lib.DynamicIndex
@[expose] public section
set_option maxRecDepth 16384
noncomputable section
namespace Cert.ReferenceIdeal.Read
open Idealize.ShloMosaic Idealize.ShloMosaic.TcCoe Idealize.SL.Sem Idealize.ShloMosaic.StableHlo
open Cert.ReferenceIdeal Cert.ReferenceIdeal.Gen Cert.ReferenceIdeal.Value

variable (m : (ℓ : Loc nD τ sig) → Buf (Elt Ideal) ℓ) (c : Dev nD)

/-- The arguments, by row and column. -/
def args : GlaMath.Args where
  q r d := m ((c.tc : Thread nD τ).loc main_arg0) (ix2 r d)
  k r d := m ((c.tc : Thread nD τ).loc main_arg1) (ix2 r d)
  v r d := m ((c.tc : Thread nD τ).loc main_arg2) (ix2 r d)
  l r d := m ((c.tc : Thread nD τ).loc main_arg3) (ix2 r d)
  r r d := m ((c.tc : Thread nD τ).loc main_arg4) (ix2 r d)
  g e := m ((c.tc : Thread nD τ).loc main_arg5) (ix1 e)

section keeps
variable (X : Valuation τ sig (Elt Ideal)) {r : Ref sig .tc}
theorem keep0 (h : r ∉ hostOps0_W) : after hostOps0 X (Proc.devRef .tc r) = X (Proc.devRef .tc r) := after_of_writes_sub _ X hostOps0_writes h
theorem keep1 (h : r ∉ hostOps0_1_W) : after hostOps0_1 X (Proc.devRef .tc r) = X (Proc.devRef .tc r) := after_of_writes_sub _ X hostOps0_1_writes h
theorem keep2 (h : r ∉ hostOps0_2_W) : after hostOps0_2 X (Proc.devRef .tc r) = X (Proc.devRef .tc r) := after_of_writes_sub _ X hostOps0_2_writes h
theorem keep3 (h : r ∉ hostOps0_3_W) : after hostOps0_3 X (Proc.devRef .tc r) = X (Proc.devRef .tc r) := after_of_writes_sub _ X hostOps0_3_writes h
theorem keep4 (h : r ∉ hostOps0_4_W) : after hostOps0_4 X (Proc.devRef .tc r) = X (Proc.devRef .tc r) := after_of_writes_sub _ X hostOps0_4_writes h
/-- One trip leaves what it does not write. -/
theorem keepTrip (h : r ∉ condOps_W ++ while0Ops0_W ++ while0Ops0_1_W ++ while0Ops0_2_W ++ while0Ops0_3_W ++ while0Ops0_4_W) :
    afterL bodyI (after condOps X) (Proc.devRef .tc r) = X (Proc.devRef .tc r) := by
  simp only [List.mem_append, not_or] at h
  simp only [afterL_cons, afterL_nil]
  rw [after_of_writes_sub _ _ while0Ops0_4_writes h.2, after_of_writes_sub _ _ while0Ops0_3_writes h.1.2, after_of_writes_sub _ _ while0Ops0_2_writes h.1.1.2,
    after_of_writes_sub _ _ while0Ops0_1_writes h.1.1.1.2, after_of_writes_sub _ _ while0Ops0_writes h.1.1.1.1.2, after_of_writes_sub _ _ condOps_writes h.1.1.1.1.1]
end keeps

/-- The buffers after the first `k` stretches. -/
abbrev L : Valuation τ sig (Elt Ideal) := launchContents m c
abbrev E1 := after hostOps0 (L m c)
abbrev E2 := after hostOps0_1 (E1 m c)
abbrev E3 := after hostOps0_2 (E2 m c)
abbrev E4 := after hostOps0_3 (E3 m c)
abbrev E5 := after hostOps0_4 (E4 m c)

section entry
variable (b h : Fin 4) (n i d : Fin 64) (e : Fin 128)

theorem q1 : qs (E1 m c) (ix5 b h n i d) = ((args m c).chunk b h n).q i d := q_apply _ b h n i d
theorem k1 : ks (E1 m c) (ix5 b h n i d) = ((args m c).chunk b h n).k i d := k_apply _ b h n i d
theorem v1 : vs (E1 m c) (ix5 b h n i e) = ((args m c).chunk b h n).v i e := v_apply _ b h n i e
theorem b2 : bs (E2 m c) (ix5 b h n i d) = ((args m c).chunk b h n).b i d :=
  (b_apply _ b h n i d).trans (congrArg (fun f => GlaMath.cum f i) (funext fun j => l_apply _ b h n j d))

theorem q2 : qs (E2 m c) = qs (E1 m c) := keep1 _ (by decide +kernel)
theorem k2 : ks (E2 m c) = ks (E1 m c) := keep1 _ (by decide +kernel)
theorem v2 : vs (E2 m c) = vs (E1 m c) := keep1 _ (by decide +kernel)
theorem q5 : qs (E5 m c) = qs (E1 m c) := (keep4 _ (by decide +kernel)).trans ((keep3 _ (by decide +kernel)).trans ((keep2 _ (by decide +kernel)).trans (q2 m c)))
theorem k4 : ks (E4 m c) = ks (E1 m c) := (keep3 _ (by decide +kernel)).trans ((keep2 _ (by decide +kernel)).trans (k2 m c))
theorem v4 : vs (E4 m c) = vs (E1 m c) := (keep3 _ (by decide +kernel)).trans ((keep2 _ (by decide +kernel)).trans (v2 m c))
theorem b4 : bs (E4 m c) = bs (E2 m c) := (keep3 _ (by decide +kernel)).trans (keep2 _ (by decide +kernel))
theorem b5 : bs (E5 m c) = bs (E2 m c) := (keep4 _ (by decide +kernel)).trans (b4 m c)
theorem last4 : lasts (E4 m c) (ix5 b h n 0 d) = ((args m c).chunk b h n).b 63 d := by
  rw [show lasts (E4 m c) = lasts (E3 m c) from keep3 _ (by decide +kernel), last_apply, b2]

theorem att4 (j : Fin 64) : atts (E4 m c) (ix5 b h n i j) = ((args m c).chunk b h n).att i j := by
  rw [show atts (E4 m c) = atts (E3 m c) from keep3 _ (by decide +kernel), att_apply]
  refine Finset.sum_congr rfl fun d _ => ?_
  rw [b2, b2, b2, q2, k2, q1, k1]

theorem tril4 (j : Fin 64) : trils (E4 m c) (ix2 i j) = if j ≤ i then (1 : EReal) else 0 := by
  rw [tril_apply, ones_apply]

theorem intra5 : intras (E5 m c) (ix5 b h n i e)
    = ∑ j : Fin 64, (if j ≤ i then ((args m c).chunk b h n).att i j else 0) * ((args m c).chunk b h n).v j e := by
  rw [intra_apply]
  refine Finset.sum_congr rfl fun j _ => ?_
  rw [att4, tril4, v4, v1, mul_ite, mul_one, mul_zero]

theorem decay5 : decays (E5 m c) (ix4 n b h d) = Ideal.exp (((args m c).chunk b h n).b 63 d) := by
  rw [decay_apply, last4]

theorem add5 : adds (E5 m c) (ix5 n b h d e)
    = ∑ j : Fin 64, (((args m c).chunk b h n).k j d * Ideal.exp (((args m c).chunk b h n).b 63 d - ((args m c).chunk b h n).b j d)) * ((args m c).chunk b h n).v j e := by
  rw [add_apply]
  refine Finset.sum_congr rfl fun j _ => ?_
  rw [last4, b4, b2, k4, k1, v4, v1]

theorem state5 : states (E5 m c) (ix4 b h d e) = 0 := zero_apply _ b h d e
end entry

/-- Where chunk `k`'s slice begins. -/
theorem start4 (start : Fin 4 → Int) (k : Fin 64) (hs : ∀ a, start a = ((![k.val, 0, 0, 0] a : ℕ) : Int)) (a : Fin 4) :
    Host.clampedStart S64x4x4x64 S1x4x4x64 rfl start a = ![k.val, 0, 0, 0] a := by
  have hk := k.isLt
  refine Host.clampedStart_of_le (s := S64x4x4x64) (t := S1x4x4x64) rfl start a _ (hs a) ?_
  match a with
  | 0 => show k.val + 1 ≤ 64; omega
  | 1 => show 0 + 4 ≤ 4; omega
  | 2 => show 0 + 4 ≤ 4; omega
  | 3 => show 0 + 64 ≤ 64; omega

theorem start5 (start : Fin 5 → Int) (k : Fin 64) (hs : ∀ a, start a = ((![k.val, 0, 0, 0, 0] a : ℕ) : Int)) (a : Fin 5) :
    Host.clampedStart S64x4x4x64x128 S1x4x4x64x128 rfl start a = ![k.val, 0, 0, 0, 0] a := by
  have hk := k.isLt
  refine Host.clampedStart_of_le (s := S64x4x4x64x128) (t := S1x4x4x64x128) rfl start a _ (hs a) ?_
  match a with
  | 0 => show k.val + 1 ≤ 64; omega
  | 1 => show 0 + 4 ≤ 4; omega
  | 2 => show 0 + 4 ≤ 4; omega
  | 3 => show 0 + 64 ≤ 64; omega
  | 4 => show 0 + 128 ≤ 128; omega

/-- Chunk `k`'s slice. -/
theorem slice4 (x : S64x4x4x64.Idx → EReal) (start : Fin 4 → Int) (k : Fin 64) (hs : ∀ a, start a = ((![k.val, 0, 0, 0] a : ℕ) : Int)) (b h : Fin 4) (d : Fin 64) :
    shapeCast S4x4x64 (Host.dynamicSlice S1x4x4x64 x start sliceFits_S64x4x4x64_S1x4x4x64) shapeCasts_S1x4x4x64_S4x4x64 (ix3 b h d) = x (ix4 k b h d) := by
  pointwise
  refine congrArg x (funext fun a => Fin.ext ?_)
  have h0 := start4 start k hs 0; have h1 := start4 start k hs 1; have h2 := start4 start k hs 2; have h3 := start4 start k hs 3
  match a with
  | 0 => exact h0
  | 1 => exact (congrArg (· + b.val) h1).trans (Nat.zero_add _)
  | 2 => exact (congrArg (· + h.val) h2).trans (Nat.zero_add _)
  | 3 => exact (congrArg (· + d.val) h3).trans (Nat.zero_add _)

theorem slice5 (x : S64x4x4x64x128.Idx → EReal) (start : Fin 5 → Int) (k : Fin 64) (hs : ∀ a, start a = ((![k.val, 0, 0, 0, 0] a : ℕ) : Int)) (b h : Fin 4) (d : Fin 64) (e : Fin 128) :
    shapeCast S4x4x64x128 (Host.dynamicSlice S1x4x4x64x128 x start sliceFits_S64x4x4x64x128_S1x4x4x64x128) shapeCasts_S1x4x4x64x128_S4x4x64x128 (ix4 b h d e) = x (ix5 k b h d e) := by
  pointwise
  refine congrArg x (funext fun a => Fin.ext ?_)
  have h0 := start5 start k hs 0; have h1 := start5 start k hs 1; have h2 := start5 start k hs 2; have h3 := start5 start k hs 3; have h4 := start5 start k hs 4
  match a with
  | 0 => exact h0
  | 1 => exact (congrArg (· + b.val) h1).trans (Nat.zero_add _)
  | 2 => exact (congrArg (· + h.val) h2).trans (Nat.zero_add _)
  | 3 => exact (congrArg (· + d.val) h3).trans (Nat.zero_add _)
  | 4 => exact (congrArg (· + e.val) h4).trans (Nat.zero_add _)

/-- One chunk's entry of the stack is written, the others stay. -/
theorem update5 (x : S64x4x4x64x128.Idx → EReal) (y : S4x4x64x128.Idx → EReal) (start : Fin 5 → Int) (k : Fin 64) (hs : ∀ a, start a = ((![k.val, 0, 0, 0, 0] a : ℕ) : Int)) (n : Fin 64) (b h : Fin 4) (d : Fin 64) (e : Fin 128) :
    Host.dynamicUpdateSlice x (broadcastInDim S1x4x4x64x128 ![1, 2, 3, 4] bcast_S4x4x64x128_S1x4x4x64x128_1_2_3_4 y) start updateFits_S64x4x4x64x128_S1x4x4x64x128 (ix5 n b h d e)
    = if n = k then y (ix4 b h d e) else x (ix5 n b h d e) := by
  pointwise
  have h0 : Host.clampedStart S64x4x4x64x128 S1x4x4x64x128 rfl start 0 = k.val := start5 start k hs 0
  have h1 : Host.clampedStart S64x4x4x64x128 S1x4x4x64x128 rfl start 1 = 0 := start5 start k hs 1
  have h2 : Host.clampedStart S64x4x4x64x128 S1x4x4x64x128 rfl start 2 = 0 := start5 start k hs 2
  have h3 : Host.clampedStart S64x4x4x64x128 S1x4x4x64x128 rfl start 3 = 0 := start5 start k hs 3
  have h4 : Host.clampedStart S64x4x4x64x128 S1x4x4x64x128 rfl start 4 = 0 := start5 start k hs 4
  have lb := b.isLt; have lh := h.isLt; have ld := d.isLt; have le := e.isLt
  by_cases hn : n = k
  · subst hn
    rw [if_pos rfl, dif_pos (by rw [h0, h1, h2, h3, h4]; omega)]
    refine congrArg y (funext fun a => Fin.ext ?_)
    match a with
    | 0 => exact (congrArg (b.val - ·) h1)
    | 1 => exact (congrArg (h.val - ·) h2)
    | 2 => exact (congrArg (d.val - ·) h3)
    | 3 => exact (congrArg (e.val - ·) h4)
  · rw [if_neg hn, dif_neg]
    rw [h0]
    intro hh
    exact hn (Fin.ext (by omega))

theorem widen (z : S4x4x64.Idx → EReal) (b h : Fin 4) (d : Fin 64) (e : Fin 128) :
    broadcastInDim S4x4x64x128 ![0, 1, 2, 3] bcast_S4x4x64x1_S4x4x64x128_0_1_2_3 (broadcastInDim S4x4x64x1 ![0, 1, 2] bcast_S4x4x64_S4x4x64x1_0_1_2 z) (ix4 b h d e) = z (ix3 b h d) := by
  pointwise

theorem word (k : Fin 64) : (BitVec.ofNat 32 k.val).toInt = (k.val : Int) := toInt_ofNat_of_lt (by omega)

variable (X : Valuation τ sig (Elt Ideal)) (k : Fin 64) (hk : X (Proc.devRef .tc main_v44_2) = fun _ => BitVec.ofNat 32 k.val)
include hk

/-- One trip's state. -/
theorem step_state (b h : Fin 4) (d : Fin 64) (e : Fin 128) :
    (step_main_v44_3 X : S4x4x64x128.Idx → EReal) (ix4 b h d e) = decays X (ix4 k b h d) * states X (ix4 b h d e) + adds X (ix5 k b h d e) := by
  unfold step_main_v44_3
  rw [hk]
  refine congrArg₂ (fun x y : EReal => x + y) (congrArg₂ (fun x y : EReal => x * y) ((widen _ b h d e).trans (slice4 (decays X) _ k ?_ b h d)) rfl) (slice5 (adds X) _ k ?_ b h d e)
  all_goals
    intro a
    have := word k
    fin_cases a
    · exact this
    all_goals rfl

/-- One trip's stack of states. -/
theorem step_stack (n : Fin 64) (b h : Fin 4) (d : Fin 64) (e : Fin 128) :
    (step_main_v44_4 X : S64x4x4x64x128.Idx → EReal) (ix5 n b h d e) = if n = k then states X (ix4 b h d e) else stack X (ix5 n b h d e) := by
  unfold step_main_v44_4
  rw [hk]
  refine update5 (stack X) (states X) _ k ?_ n b h d e
  intro a
  have := word k
  fin_cases a
  · exact this
  all_goals rfl

omit hk
/-- The buffers before trip `k`. -/
abbrev V (k : ℕ) : Valuation τ sig (Elt Ideal) := atK m k c

theorem V_keep {r : Ref sig .tc} (h : r ∉ condOps_W ++ while0Ops0_W ++ while0Ops0_1_W ++ while0Ops0_2_W ++ while0Ops0_3_W ++ while0Ops0_4_W) :
    ∀ k, V m c k (Proc.devRef .tc r) = E5 m c (Proc.devRef .tc r)
  | 0 => rfl
  | k + 1 => (keepTrip (V m c k) h).trans (V_keep h k)

theorem V_decays : ∀ k, decays (V m c k) = decays (E5 m c)
  | 0 => rfl
  | k + 1 => ((trip_agree (V m c k)) main_v44_0 (by decide)).trans ((STEP_main_v44_0 _).trans (V_decays k))

theorem V_adds : ∀ k, adds (V m c k) = adds (E5 m c)
  | 0 => rfl
  | k + 1 => ((trip_agree (V m c k)) main_v44_1 (by decide)).trans ((STEP_main_v44_1 _).trans (V_adds k))

theorem V_count (k : Fin 64) : V m c k.val (Proc.devRef .tc main_v44_2) = fun _ => BitVec.ofNat 32 k.val := by
  refine (atK_ctr m c k.val).trans (funext fun _ => ?_)
  simp [Scf.iv]

/-- The state before chunk `k`. -/
theorem V_state (b h : Fin 4) (d : Fin 64) (e : Fin 128) : ∀ k, k ≤ 64 → states (V m c k) (ix4 b h d e) = GlaMath.state ((args m c).chunk b h) k d e
  | 0, _ => state5 m c b h d e
  | k + 1, hk => by
    have ht : states (V m c (k + 1)) = step_main_v44_3 (V m c k) := ((trip_agree (V m c k)) main_v44_3 (by decide)).trans (STEP_main_v44_3 _)
    rw [ht, step_state (V m c k) ⟨k, hk⟩ (V_count m c ⟨k, hk⟩), V_state b h d e k (by omega), V_decays, V_adds, decay5, add5]
    rfl

/-- The states stored before chunk `k`. -/
theorem V_stack (n : Fin 64) (b h : Fin 4) (d : Fin 64) (e : Fin 128) : ∀ k, k ≤ 64 → n.val < k → stack (V m c k) (ix5 n b h d e) = GlaMath.state ((args m c).chunk b h) n d e
  | k + 1, hk, hn => by
    have ht : stack (V m c (k + 1)) = step_main_v44_4 (V m c k) := ((trip_agree (V m c k)) main_v44_4 (by decide)).trans (STEP_main_v44_4 _)
    rw [ht, step_stack (V m c k) ⟨k, hk⟩ (V_count m c ⟨k, hk⟩)]
    by_cases he : n = ⟨k, hk⟩
    · rw [if_pos he, V_state m c b h d e k (by omega), he]
    · rw [if_neg he]
      exact V_stack n b h d e k (by omega) (by have : n.val ≠ k := fun h => he (Fin.ext h); omega)
end Cert.ReferenceIdeal.Read
end
-- ==== Proof.GlaReference.lean ====
/- The reference's result, at an index. -/
module
public import proofs.«01_k».proof.Proof.GlaLoop
@[expose] public section
set_option maxRecDepth 16384
noncomputable section
namespace Cert.ReferenceIdeal.Read
open Idealize.ShloMosaic Idealize.ShloMosaic.TcCoe Idealize.SL.Sem Idealize.ShloMosaic.StableHlo
open Cert.ReferenceIdeal Cert.ReferenceIdeal.Gen Cert.ReferenceIdeal.Value
variable (X : Valuation τ sig (Elt Ideal))
abbrev outs : S16384x512.Idx → EReal := X (Proc.devRef .tc main_v65)
abbrev gatesIn : S16384x512.Idx → EReal := X (Proc.devRef .tc main_v66)
abbrev gates : S16384x512.Idx → EReal := X (Proc.devRef .tc main_v67)
abbrev res : S16384x512.Idx → EReal := X (Proc.devRef .tc main_v69)
abbrev rs : S16384x512.Idx → EReal := X (Proc.devRef .tc main_arg4)
abbrev gs : S128.Idx → EReal := X (Proc.devRef .tc main_arg5)

/-- A chunk's products before the norm. -/
def mixed (b h : Fin 4) (n i : Fin 64) (e : Fin 128) : EReal :=
  intras X (ix5 b h n i e) + ∑ d : Fin 64, qs X (ix5 b h n i d) * Ideal.exp (bs X (ix5 b h n i d)) * stack X (ix5 n b h d e)

def seq (r : Fin 16384) : Fin 4 := ⟨r.val / 4096, by omega⟩
def chk (r : Fin 16384) : Fin 64 := ⟨r.val % 4096 / 64, by omega⟩
def pos (r : Fin 16384) : Fin 64 := ⟨r.val % 4096 % 64, by omega⟩
def head (e : Fin 512) : Fin 4 := ⟨e.val / 128, by omega⟩
def lane (e : Fin 512) : Fin 128 := ⟨e.val % 128, by omega⟩

theorem outs_apply (r : Fin 16384) (e : Fin 512) : outs (after hostOps0_5 X) (ix2 r e)
    = mixed X (seq r) (head e) (chk r) (pos r) (lane e) * Ideal.rsqrt (Ideal.div (∑ x : Fin 128, mixed X (seq r) (head e) (chk r) (pos r) x * mixed X (seq r) (head e) (chk r) (pos r) x)
        (Ideal.ofBits .f32 0x43000000#32) + Ideal.ofBits .f32 0x358637BD#32) * gs X (ix1 (lane e)) := by
  after_reads_simp
  pointwise
  rfl

theorem silu_apply (y : S16384x512.Idx) : gates (after hostOps0_6 X) y = gatesIn X y * Ideal.logistic (gatesIn X y) := by
  after_reads_simp
  show gatesIn X y * Ideal.div (Ideal.ofBits .f32 0x3F800000#32) (Ideal.ofBits .f32 0x3F800000#32 + Ideal.exp (-gatesIn X y)) = _
  pointwise [Ideal.logistic]

theorem gate_apply (y : S16384x512.Idx) : gatesIn (after hostOps0_5 X) y = rs X y := by
  after_reads_simp
  pointwise

theorem res_apply (y : S16384x512.Idx) : res (after hostOps0_7 X) y = outs X y * gates X y := by
  after_reads_simp
  pointwise

theorem outs6 : outs (after hostOps0_6 X) = outs X := by
  after_reads_simp

variable (m : (ℓ : Loc nD τ sig) → Buf (Elt Ideal) ℓ) (c : Dev nD)

/-- What stretch 5 writes. -/
abbrev W5 : List (Ref sig .tc) := [main_v45, main_v46, main_v47, main_v48, main_v49, main_v50, main_v51, main_v52, main_cst_2, main_v53, main_v54, main_cst_3, main_v55, main_v56, main_cst_4, main_v57, main_v58, main_v59, main_v60, main_v61, main_v62, main_v63, main_v64, main_v65, main_v66]
theorem W5_writes : (hostOps0_5 (F := Ideal)).Forall fun op => op.writes ⊆ (W5.map (Proc.devRef (τ := τ) .tc)).toFinset :=
  StableHlo.forall_writes_sub_of_map rfl

/-- What stretch 6 writes. -/
abbrev W6 : List (Ref sig .tc) := [main_call5_v0, main_call5_v1, main_call5_cst, main_call5_v2, main_call5_v3, main_call5_cst_0, main_call5_v4, main_call5_v5, main_v67]
theorem W6_writes : (hostOps0_6 (F := Ideal)).Forall fun op => op.writes ⊆ (W6.map (Proc.devRef (τ := τ) .tc)).toFinset :=
  StableHlo.forall_writes_sub_of_map rfl

/-- What stretch 7 writes. -/
abbrev W7 : List (Ref sig .tc) := [main_v68, main_v69]
theorem W7_writes : (hostOps0_7 (F := Ideal)).Forall fun op => op.writes ⊆ (W7.map (Proc.devRef (τ := τ) .tc)).toFinset :=
  StableHlo.forall_writes_sub_of_map rfl

/-- The buffers after the loop. -/
def Z : Valuation τ sig (Elt Ideal) := after condOps (V m c 64)

theorem final_eq (n : ℕ) : finalContents condOps preI bodyI postI n m c = after hostOps0_7 (after hostOps0_6 (after hostOps0_5 (after condOps (atK m n c)))) := rfl

theorem Z_keep {r : Ref sig .tc} (h : r ∉ condOps_W ++ while0Ops0_W ++ while0Ops0_1_W ++ while0Ops0_2_W ++ while0Ops0_3_W ++ while0Ops0_4_W) :
    Z m c (Proc.devRef .tc r) = E5 m c (Proc.devRef .tc r) := by
  have h' := h
  simp only [List.mem_append, not_or] at h'
  exact (after_of_writes_sub _ _ condOps_writes h'.1.1.1.1.1).trans (V_keep m c h 64)

theorem Z_stack (n : Fin 64) (b h : Fin 4) (d : Fin 64) (e : Fin 128) : stack (Z m c) (ix5 n b h d e) = GlaMath.state ((args m c).chunk b h) n d e := by
  rw [show stack (Z m c) = stack (V m c 64) from cond_keeps (V m c 64) main_v44_4 (by decide), V_stack m c n b h d e 64 (le_refl _) n.isLt]

/-- What nothing before the loop writes. -/
theorem E5_keep {r : Ref sig .tc} (h : r ∉ hostOps0_W ++ hostOps0_1_W ++ hostOps0_2_W ++ hostOps0_3_W ++ hostOps0_4_W) :
    E5 m c (Proc.devRef .tc r) = L m c (Proc.devRef .tc r) := by
  simp only [List.mem_append, not_or] at h
  exact (keep4 _ h.2).trans ((keep3 _ h.1.2).trans ((keep2 _ h.1.1.2).trans ((keep1 _ h.1.1.1.2).trans (keep0 _ h.1.1.1.1))))

theorem mixed_eq (b h : Fin 4) (n i : Fin 64) (e : Fin 128) : mixed (Z m c) b h n i e
    = ((args m c).chunk b h n).out (GlaMath.state ((args m c).chunk b h) n) i e := by
  unfold mixed
  rw [show intras (Z m c) = intras (E5 m c) from Z_keep m c (by decide +kernel), show qs (Z m c) = qs (E5 m c) from Z_keep m c (by decide +kernel),
    show bs (Z m c) = bs (E5 m c) from Z_keep m c (by decide +kernel), intra5, q5, b5]
  refine congrArg₂ (· + ·) rfl (Finset.sum_congr rfl fun d _ => ?_)
  rw [q1, b2, Z_stack]

theorem gs_eq (e : Fin 128) : gs (Z m c) (ix1 e) = (args m c).g e := by
  rw [show gs (Z m c) = gs (E5 m c) from Z_keep m c (by decide +kernel), show gs (E5 m c) = gs (L m c) from E5_keep m c (by decide +kernel)]
  rfl

theorem rs_eq (r : Fin 16384) (e : Fin 512) : rs (Z m c) (ix2 r e) = (args m c).r r e := by
  rw [show rs (Z m c) = rs (E5 m c) from Z_keep m c (by decide +kernel), show rs (E5 m c) = rs (L m c) from E5_keep m c (by decide +kernel)]
  rfl

/-- The reference's result is the recurrence's. -/
theorem result (r : Fin 16384) (e : Fin 512) :
    res (finalContents condOps preI bodyI postI 64 m c) (ix2 r e) = (args m c).res (seq r) (head e) (chk r) (pos r) (lane e) := by
  rw [final_eq]
  change res (after hostOps0_7 (after hostOps0_6 (after hostOps0_5 (Z m c)))) (ix2 r e) = _
  rw [res_apply, silu_apply, gate_apply, outs6, outs_apply, rs_eq, gs_eq]
  simp only [mixed_eq]
  have hr : GlaMath.row (seq r) (chk r).val (pos r) = r := by
    apply Fin.ext
    show r.val / 4096 * 4096 + r.val % 4096 / 64 % 64 * 64 + r.val % 4096 % 64 = r.val
    omega
  have he : GlaMath.colV (head e) (lane e) = e := by
    apply Fin.ext
    show 128 * (e.val / 128) + e.val % 128 = e.val
    omega
  unfold GlaMath.Args.res GlaMath.norm
  rw [hr, he]

/-- The arguments end as they began. -/
theorem kept {r : Ref sig .tc} (h5 : r ∉ W5 ++ W6 ++ W7) (hl : r ∉ condOps_W ++ while0Ops0_W ++ while0Ops0_1_W ++ while0Ops0_2_W ++ while0Ops0_3_W ++ while0Ops0_4_W)
    (h0 : r ∉ hostOps0_W ++ hostOps0_1_W ++ hostOps0_2_W ++ hostOps0_3_W ++ hostOps0_4_W) :
    finalContents condOps preI bodyI postI 64 m c (Proc.devRef .tc r) = m ((c.tc : Thread nD τ).loc r) := by
  rw [final_eq]
  change after hostOps0_7 (after hostOps0_6 (after hostOps0_5 (Z m c))) _ = _
  simp only [List.mem_append, not_or] at h5
  rw [after_of_writes_sub _ _ W7_writes h5.2, after_of_writes_sub _ _ W6_writes h5.1.2, after_of_writes_sub _ _ W5_writes h5.1.1, Z_keep m c hl, E5_keep m c h0]

/-- A run of the reference: its result is the recurrence's, and its arguments are kept. -/
theorem run (ρ : Dev nD → PrngReg) : θ_run (defs (F := Ideal)) (onTc (τ := τ) (main (F := Ideal))) ⟨m, fun _ => 0, ρ⟩ fun r => ∀ c : Dev nD,
    (∀ y : S16384x512.Idx, (r.2.mem ((c.tc : Thread nD τ).loc main_v69) : S16384x512.Idx → EReal) y = (args m c).res (seq (y 0)) (head (y 1)) (chk (y 0)) (pos (y 0)) (lane (y 1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ⟨fun y => ?_, ?_, ?_, ?_, ?_, ?_, ?_⟩) (run_fold m ρ)
  · rw [h c main_v69 rfl]
    exact (congrArg (res (finalContents condOps preI bodyI postI 64 m c)) (eq_ix2 y)).trans (result m c (y 0) (y 1))
  · rw [h c main_arg0 rfl]; exact kept m c (by decide +kernel) (by decide +kernel) (by decide +kernel)
  · rw [h c main_arg1 rfl]; exact kept m c (by decide +kernel) (by decide +kernel) (by decide +kernel)
  · rw [h c main_arg2 rfl]; exact kept m c (by decide +kernel) (by decide +kernel) (by decide +kernel)
  · rw [h c main_arg3 rfl]; exact kept m c (by decide +kernel) (by decide +kernel) (by decide +kernel)
  · rw [h c main_arg4 rfl]; exact kept m c (by decide +kernel) (by decide +kernel) (by decide +kernel)
  · rw [h c main_arg5 rfl]; exact kept m c (by decide +kernel) (by decide +kernel) (by decide +kernel)
end Cert.ReferenceIdeal.Read
end
-- ==== Proof.GlaEquation.lean ====
/- The recurrence's kernel and its reference leave the same array. -/
module
public import proofs.«01_k».proof.Defs
public import proofs.«01_k».proof.Proof.GlaKernel
public import proofs.«01_k».proof.Proof.GlaReference
public import Idealize.ShloMosaic.Lib.Quiescent
@[expose] public section
set_option maxRecDepth 16384
noncomputable section
namespace Cert.Gla
open Idealize.ShloMosaic Idealize.SL.Sem

/-- The reference's run ends with its arguments kept and its counters at zero. -/
theorem referenceFrame : quiescent_ReferenceIdeal := fun m ρ _ =>
  (θ_run Cert.ReferenceIdeal.defs _ _).mono (fun r h => ⟨fun c => (h c).2, sem_eq_zero_of_no_sems (by decide) r.2⟩) (Cert.ReferenceIdeal.Read.run m ρ)

/-- At equal arguments the two programs' results are equal. -/
theorem equation : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Read.run m' ρ')
  have ha : Cert.ReferenceIdeal.Read.args m' c = Cert.KernelIdeal.Chunk.args m c := by
    unfold Cert.ReferenceIdeal.Read.args Cert.KernelIdeal.Chunk.args
    obtain ⟨h0, h1, h2, h3, h4, h5⟩ := hagree c
    rw [h0, h1, h2, h3, h4, h5]
  have hk : Cert.KernelIdeal.Value.G6 m c = Cert.KernelIdeal.Chunk.G (Cert.KernelIdeal.Chunk.args m c) :=
    (Cert.KernelIdeal.Value.final6 m c).symm.trans (Cert.KernelIdeal.Chunk.final m c)
  refine Eq.trans (funext fun y => ((h c).1 y).trans ?_) hk.symm
  rw [ha]
  have hp : Cert.ReferenceIdeal.Read.pos (y 0) = ⟨(y 0 : ℕ) % 64, Nat.mod_lt _ (by decide)⟩ := by
    apply Fin.ext
    show (y 0 : ℕ) % 4096 % 64 = (y 0 : ℕ) % 64
    omega
  rw [hp]
  rfl
end Cert.Gla
end
-- ==== Proof.FfnTile.lean ====
/- A tile of the gated feed-forward kernel: where its stores and loads lie, for chunks of any width, and what they hold. -/
module
public import Idealize.ShloMosaic.Lib.Pointwise
public import Idealize.ShloMosaic.Lib.Pipeline.ValueKit
@[expose] public section
set_option maxRecDepth 16384
noncomputable section
namespace Cert.FfnTile
open Idealize.ShloMosaic Idealize.ShloMosaic.TcCoe Idealize.SL.Sem

abbrev sh (n W : ℕ) : Shape := ⟨2, ![n, W]⟩
abbrev sh3 (n W : ℕ) : Shape := ⟨3, ![1, n, W]⟩

theorem inb2 {n W m V a b : ℕ} (h : a + m ≤ n) (h' : b + V ≤ W) : ∀ x, (![a, b] : Fin 2 → ℕ) x + (sh m V).size x ≤ (sh n W).size x
  | ⟨0, _⟩ => h
  | ⟨1, _⟩ => h'

theorem inb3 {n W m V a b : ℕ} (h : a + m ≤ n) (h' : b + V ≤ W) : ∀ x, (![0, a, b] : Fin 3 → ℕ) x + (sh3 m V).size x ≤ (sh3 n W).size x
  | ⟨0, _⟩ => le_rfl
  | ⟨1, _⟩ => h
  | ⟨2, _⟩ => h'

/-- `m` rows from `a` and `V` columns from `b`, of a matrix and of the one matrix of a stack. -/
abbrev box {n W : ℕ} (m V a b : ℕ) (h : a + m ≤ n) (h' : b + V ≤ W) : Rect (sh n W) := Rect.unit ![a, b] (sh m V).size (inb2 h h')
abbrev box3 {n W : ℕ} (m V a b : ℕ) (h : a + m ≤ n) (h' : b + V ≤ W) : Rect (sh3 n W) := Rect.unit ![0, a, b] (sh3 m V).size (inb3 h h')

section
variable {F : FTy → Type} [FloatOps F] {sig : RefSig}

/-- A tile's up-projection with the eight rows before it: the stores, last first. -/
def ext (W : ℕ) (halo : FVec F (sh 8 W) .f32) (u : FVec F (sh 512 W) .f32) : List (View.Piece (Elt F) (sh 520 W) .f32) :=
  [⟨box 512 W 8 0 (by decide) (Nat.zero_add W).le, u⟩, ⟨box 8 W 0 0 (by decide) (Nat.zero_add W).le, halo⟩]

theorem band_le (k : Fin 8) : 64 * k.val + 72 ≤ 520 := by omega
theorem rows_le (k : Fin 8) : 64 * k.val + 64 ≤ 512 := by omega

/-- The 72 rows a band of 64 rows takes of it. -/
def band (W : ℕ) (v : View sig .tc .vmem (sh 520 W) .f32) (halo : FVec F (sh 8 W) .f32) (u : FVec F (sh 512 W) .f32) (k : Fin 8) : FVec F (sh 72 W) .f32 :=
  View.readCov (Val := Elt F) v (ext W halo u) (box 72 W (64 * k.val) 0 (band_le k) (Nat.zero_add W).le).toLoadRect

/-- The stores of a chunk's activations, last first. -/
def acts (W o : ℕ) (h : o + W ≤ 2816) (a : Fin 8 → FVec F (sh 64 W) .bf16) : List (View.Piece (Elt F) (sh 512 2816) .bf16) :=
  [7, 6, 5, 4, 3, 2, 1, 0].map fun k : Fin 8 => ⟨box 64 W (64 * k.val) o (rows_le k) h, a k⟩
end

section
variable {sig : RefSig} {κ : Kind} {sp : Space}

theorem box_mem {n W m V a b : ℕ} (h : a + m ≤ n) (h' : b + V ≤ W) (y : (sh n W).Idx) (h1 : a ≤ (y 0 : ℕ)) (h2 : (y 0 : ℕ) < a + m)
    (h3 : b ≤ (y 1 : ℕ)) (h4 : (y 1 : ℕ) < b + V) : y ∈ (box m V a b h h').set :=
  (Rect.mem_set_unit (inb := inb2 h h')).2 fun x => match x with
    | ⟨0, _⟩ => ⟨h1, h2⟩
    | ⟨1, _⟩ => ⟨h3, h4⟩

theorem box_emb {n W m V a b : ℕ} (h : a + m ≤ n) (h' : b + V ≤ W) (i : Fin m) (j : Fin V) :
    ((box m V a b h h').emb (ix2 i j : (sh m V).Idx) : (sh n W).Idx) = ix2 ⟨a + i.val, by omega⟩ ⟨b + j.val, by omega⟩ :=
  funext fun x => Fin.ext (match x with
    | ⟨0, _⟩ => by show a + 1 * i.val = a + i.val; rw [one_mul]
    | ⟨1, _⟩ => by show b + 1 * j.val = b + j.val; rw [one_mul])

theorem box3_emb {n W m V a b : ℕ} (h : a + m ≤ n) (h' : b + V ≤ W) (i : Fin m) (j : Fin V) :
    ((box3 m V a b h h').emb (ix3 0 i j : (sh3 m V).Idx) : (sh3 n W).Idx) = ix3 0 ⟨a + i.val, by omega⟩ ⟨b + j.val, by omega⟩ :=
  funext fun x => Fin.ext (match x with
    | ⟨0, _⟩ => by show 0 + 1 * 0 = 0; rfl
    | ⟨1, _⟩ => by show a + 1 * i.val = a + i.val; rw [one_mul]
    | ⟨2, _⟩ => by show b + 1 * j.val = b + j.val; rw [one_mul])

/-- What a load reads of a block. -/
theorem load2 {n W m V a b : ℕ} {φ : EltTy} (arg : Memref sig κ sp (sh n W) φ) (harg : arg.IsWhole) (x : Vec Ideal (sh n W) φ) (h : a + m ≤ n) (h' : b + V ≤ W) (i : Fin m) (j : Fin V) :
    View.readAt (Elt Ideal) arg.view (box m V a b h h').toLoadRect (harg.unread x) (ix2 i j : (sh m V).Idx) = x (ix2 ⟨a + i.val, by omega⟩ ⟨b + j.val, by omega⟩) := by
  rw [View.readAt_eq_ld, harg.read_unread]
  exact congrArg x (box_emb h h' i j)

theorem load3 {n W m V a b : ℕ} {φ : EltTy} (arg : Memref sig κ sp (sh3 n W) φ) (harg : arg.IsWhole) (x : Vec Ideal (sh3 n W) φ) (h : a + m ≤ n) (h' : b + V ≤ W) (i : Fin m) (j : Fin V) :
    View.readAt (Elt Ideal) arg.view (box3 m V a b h h').toLoadRect (harg.unread x) (ix3 0 i j : (sh3 m V).Idx) = x (ix3 0 ⟨a + i.val, by omega⟩ ⟨b + j.val, by omega⟩) := by
  rw [View.readAt_eq_ld, harg.read_unread]
  exact congrArg x (box3_emb h h' i j)

/-- The array those stores leave. -/
def extF (W : ℕ) (halo : FVec Ideal (sh 8 W) .f32) (u : FVec Ideal (sh 512 W) .f32) (y : (sh 520 W).Idx) : EReal :=
  if h : (y 0 : ℕ) < 8 then halo (ix2 ⟨(y 0 : ℕ), h⟩ (y 1)) else u (ix2 ⟨(y 0 : ℕ) - 8, by have : (y 0 : ℕ) < 520 := (y 0).isLt; omega⟩ (y 1))

theorem ext_cover (W : ℕ) (halo : FVec Ideal (sh 8 W) .f32) (u : FVec Ideal (sh 512 W) .f32) (y : (sh 520 W).Idx) : ∃ p ∈ ext W halo u, y ∈ p.1.set := by
  have h0 : (y 0 : ℕ) < 520 := (y 0).isLt
  have h1 : (y 1 : ℕ) < W := (y 1).isLt
  by_cases h : (y 0 : ℕ) < 8
  · exact ⟨_, .tail _ (.head _), box_mem (by decide) (Nat.zero_add W).le y (Nat.zero_le _) (by omega) (Nat.zero_le _) (by omega)⟩
  · exact ⟨_, .head _, box_mem (by decide) (Nat.zero_add W).le y (by omega) (by omega) (Nat.zero_le _) (by omega)⟩

theorem ext_canon (W : ℕ) (halo : FVec Ideal (sh 8 W) .f32) (u : FVec Ideal (sh 512 W) .f32) (y : (sh 520 W).Idx) :
    View.canon (Val := Elt Ideal) (ext W halo u) y = extF W halo u y := by
  refine View.canon_apply_of_pieces (extF W halo u) _ (fun p hp x => ?_) y (ext_cover W halo u y)
  unfold ext at hp
  rcases List.mem_cons.1 hp with rfl | hp
  · obtain ⟨i, j, rfl⟩ : ∃ i j, x = (ix2 i j : (sh 512 W).Idx) := ⟨x 0, x 1, eq_ix2 x⟩
    show u (ix2 i j) = extF W halo u ((box 512 W 8 0 (by decide) (Nat.zero_add W).le).emb (ix2 i j))
    rw [box_emb]
    unfold extF
    rw [dif_neg (by show ¬ 8 + i.val < 8; omega)]
    refine congrArg u (congrArg₂ ix2 (Fin.ext ?_) (Fin.ext ?_))
    · show i.val = 8 + i.val - 8; omega
    · show j.val = 0 + j.val; omega
  · obtain rfl := List.mem_singleton.1 hp
    obtain ⟨i, j, rfl⟩ : ∃ i j, x = (ix2 i j : (sh 8 W).Idx) := ⟨x 0, x 1, eq_ix2 x⟩
    show halo (ix2 i j) = extF W halo u ((box 8 W 0 0 (by decide) (Nat.zero_add W).le).emb (ix2 i j))
    rw [box_emb]
    unfold extF
    rw [dif_pos (by show 0 + i.val < 8; omega)]
    refine congrArg halo (congrArg₂ ix2 (Fin.ext ?_) (Fin.ext ?_))
    · show i.val = 0 + i.val; omega
    · show j.val = 0 + j.val; omega

theorem read_ext (W : ℕ) (v : View sig κ sp (sh 520 W) .f32) (f : v.ty.Contents (Elt Ideal)) (halo : FVec Ideal (sh 8 W) .f32) (u : FVec Ideal (sh 512 W) .f32) :
    v.read (Elt Ideal) (v.writes (Elt Ideal) f (ext W halo u)) = extF W halo u := by
  rw [View.read_writes_eq_canon v f _ (ext_cover W halo u)]
  exact funext (ext_canon W halo u)

theorem band_apply (W : ℕ) (v : View sig .tc .vmem (sh 520 W) .f32) (halo : FVec Ideal (sh 8 W) .f32) (u : FVec Ideal (sh 512 W) .f32) (k : Fin 8) (r : Fin 72) (j : Fin W) :
    band W v halo u k (ix2 r j) = extF W halo u (ix2 ⟨64 * k.val + r.val, by omega⟩ j) := by
  unfold band
  rw [View.readCov_eq_canon v _ _ fun x => ext_cover W halo u _]
  refine (ext_canon W halo u _).trans (congrArg (extF W halo u) ?_)
  refine (box_emb (band_le k) (Nat.zero_add W).le r j).trans (congrArg₂ ix2 rfl (Fin.ext ?_))
  show 0 + j.val = j.val; omega

/-- The activations' stores agree with a matrix where each band does, -/
theorem acts_agree (W o : ℕ) (h : o + W ≤ 2816) (a : Fin 8 → FVec Ideal (sh 64 W) .bf16) (G : Fin 512 → Fin 2816 → EReal)
    (ha : ∀ (k : Fin 8) (i : Fin 64) (j : Fin W), a k (ix2 i j) = G ⟨64 * k.val + i.val, by omega⟩ ⟨o + j.val, by omega⟩) :
    ∀ p ∈ acts W o h a, ∀ x, p.2 x = (fun y : (sh 512 2816).Idx => G (y 0) (y 1)) (p.1.emb x) := by
  intro p hp x
  obtain ⟨k, -, rfl⟩ := List.mem_map.1 hp
  obtain ⟨i, j, rfl⟩ : ∃ i j, x = (ix2 i j : (sh 64 W).Idx) := ⟨x 0, x 1, eq_ix2 x⟩
  show a k (ix2 i j) = G ((box 64 W (64 * k.val) o (rows_le k) h).emb (ix2 i j) 0) ((box 64 W (64 * k.val) o (rows_le k) h).emb (ix2 i j) 1)
  rw [box_emb]
  exact ha k i j

/-- and cover their columns. -/
theorem acts_cover (W o : ℕ) (h : o + W ≤ 2816) (a : Fin 8 → FVec Ideal (sh 64 W) .bf16) (y : (sh 512 2816).Idx) (h1 : o ≤ (y 1 : ℕ)) (h2 : (y 1 : ℕ) < o + W) :
    ∃ p ∈ acts W o h a, y ∈ p.1.set := by
  have h0 : (y 0 : ℕ) < 512 := (y 0).isLt
  have hk : (y 0 : ℕ) / 64 < 8 := by omega
  refine ⟨_, List.mem_map.2 ⟨⟨(y 0 : ℕ) / 64, hk⟩, ?_, rfl⟩, box_mem (rows_le ⟨(y 0 : ℕ) / 64, hk⟩) h y ?_ ?_ h1 h2⟩
  · exact (by decide : ∀ k : Fin 8, k ∈ [7, 6, 5, 4, 3, 2, 1, (0 : Fin 8)]) _
  · show 64 * ((y 0 : ℕ) / 64) ≤ _; omega
  · show _ < 64 * ((y 0 : ℕ) / 64) + 64; omega

/-- A chunk's columns read back of all the activations stored so far. -/
theorem acts_read (W o : ℕ) (h : o + W ≤ 2816) (a : Fin 8 → FVec Ideal (sh 64 W) .bf16) (L : List (View.Piece (Elt Ideal) (sh 512 2816) .bf16)) (G : Fin 512 → Fin 2816 → EReal)
    (v : View sig κ sp (sh 512 2816) .bf16)
    (ha : ∀ (k : Fin 8) (i : Fin 64) (j : Fin W), a k (ix2 i j) = G ⟨64 * k.val + i.val, by omega⟩ ⟨o + j.val, by omega⟩)
    (hL : ∀ p ∈ L, ∀ x, p.2 x = (fun y : (sh 512 2816).Idx => G (y 0) (y 1)) (p.1.emb x)) (i : Fin 512) (j : Fin W) :
    View.readCov (Val := Elt Ideal) v (acts W o h a ++ L) (box 512 W 0 o (by decide) h).toLoadRect (ix2 i j : (sh 512 W).Idx) = G i ⟨o + j.val, by omega⟩ := by
  have cov : ∀ x : (sh 512 W).Idx, ∃ p ∈ acts W o h a ++ L, (box 512 W 0 o (by decide) h).emb x ∈ p.1.set := by
    intro x
    obtain ⟨i, j, rfl⟩ : ∃ i j, x = (ix2 i j : (sh 512 W).Idx) := ⟨x 0, x 1, eq_ix2 x⟩
    rw [box_emb]
    obtain ⟨p, hp, hy⟩ := acts_cover W o h a (ix2 ⟨0 + i.val, by omega⟩ ⟨o + j.val, by omega⟩) (Nat.le_add_right o j.val) (Nat.add_lt_add_left j.isLt o)
    exact ⟨p, List.mem_append_left _ hp, hy⟩
  rw [View.readCov_eq_canon v _ _ cov]
  refine (View.canon_apply_of_pieces (fun y : (sh 512 2816).Idx => G (y 0) (y 1)) _ (fun p hp x => ?_) _ (cov _)).trans ?_
  · rcases List.mem_append.1 hp with hp | hp
    · exact acts_agree W o h a G ha p hp x
    · exact hL p hp x
  · show G ((box (n := 512) (W := 2816) 512 W 0 o (by decide) h).emb (ix2 i j) 0) ((box (n := 512) (W := 2816) 512 W 0 o (by decide) h).emb (ix2 i j) 1) = _
    rw [box_emb]
    exact congrArg (fun r => G r _) (Fin.ext (by show 0 + i.val = i.val; omega))
end
end Cert.FfnTile
end
-- ==== Proof.FfnPieces.lean ====
/- What the gated feed-forward kernel's two cases store, as one function of the halo rows the tile starts with. -/
module
public import proofs.«01_k».proof.Proof.Gen.FfnKernelIdeal.Frame
public import proofs.«01_k».proof.Proof.FfnTile
@[expose] public section
set_option maxRecDepth 16384
noncomputable section
namespace Cert.FfnKernelIdeal.Tile
open Idealize.ShloMosaic Idealize.ShloMosaic.TcCoe Idealize.SL.Sem
open Cert.FfnKernelIdeal Cert.FfnKernelIdeal.Gen Cert.FfnTile
variable {F : FTy → Type} [FloatOps F]

abbrev sq : Rect S512x1024 := box 512 1024 0 0 (by decide) (by decide)
abbrev rw1 : Rect S1x1024 := box 1 1024 0 0 (by decide) (by decide)

/-- The gated activation of a band of the last chunk. -/
def glu512 (v60 : Vec F S3x512 .f32) (v61 : Vec F S3x512 .f32) (v62 v64 : Vec F S1x512 .f32) (v66 v67 : Vec F S72x512 .f32) : FVec F S64x512 .bf16 :=
  k0_pay113 v60 v61 (shapeCast S1x512 v62 shapeCasts_S1x512_S1x512) (shapeCast S1x512 v64 shapeCasts_S1x512_S1x512) v66 v67

/-- The eight rows before the tile, of each chunk's gate and up halves. -/
structure Halo (F : FTy → Type) where
  g0 : FVec F S8x768 .f32
  g1 : FVec F S8x768 .f32
  g2 : FVec F S8x768 .f32
  g3 : FVec F S8x512 .f32
  u0 : FVec F S8x768 .f32
  u1 : FVec F S8x768 .f32
  u2 : FVec F S8x768 .f32
  u3 : FVec F S8x512 .f32

section
variable (arg1 : Memref sig .tc .vmem S512x1024 .f32) (harg1 : arg1.IsWhole) (arg2 : Memref sig .tc .vmem S1x1024 .f32) (harg2 : arg2.IsWhole) (arg3 : Memref sig .tc .vmem S1x1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S1x2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S520x768 .f32) (harg12 : arg12.IsWhole) (arg13 : Memref sig .tc .vmem S520x768 .f32) (harg13 : arg13.IsWhole) (arg14 : Memref sig .tc .vmem S520x768 .f32) (harg14 : arg14.IsWhole) (arg15 : Memref sig .tc .vmem S520x512 .f32) (harg15 : arg15.IsWhole) (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole)
    (x0 : Vec F S512x1024 .f32) (x1 : Vec F S1x1024 .f32) (x2 : Vec F S1x1024x5632 .bf16) (x3 : Vec F S3x5632 .f32) (x4 : Vec F S1x5632 .f32) (x5 : Vec F S1x2816x1024 .bf16) (x6 : Vec F S1x1024 .f32)

/-- The tile's normalized rows. -/
def hrow : FVec F S512x1024 .bf16 :=
  View.readCov (Val := Elt F) arg9.view [⟨sq, k0_pay18 (View.readAt (Elt F) arg1.view sq.toLoadRect (harg1.unread x0)) (View.readAt (Elt F) arg2.view rw1.toLoadRect (harg2.unread x1))⟩] sq.toLoadRect

/-- The up-projection's columns from `o`. -/
def up768 (o : ℕ) (h : o + 768 ≤ 5632) : FVec F S512x768 .f32 :=
  k0_pay19 (hrow arg1 harg1 arg2 harg2 arg9 x0 x1) (View.readAt (Elt F) arg3.view (box3 (n := 1024) (W := 5632) 1024 768 0 o (by decide) h).toLoadRect (harg3.unread x2))

/-- The up-projection's columns from `o`. -/
def up512 (o : ℕ) (h : o + 512 ≤ 5632) : FVec F S512x512 .f32 :=
  k0_pay70 (hrow arg1 harg1 arg2 harg2 arg9 x0 x1) (View.readAt (Elt F) arg3.view (box3 (n := 1024) (W := 5632) 1024 512 0 o (by decide) h).toLoadRect (harg3.unread x2))

/-- A chunk's activations, by band. -/
def act768 (vg vu : View sig .tc .vmem S520x768 .f32) (hg hu : FVec F S8x768 .f32) (o : ℕ) (h : o + 768 ≤ 2816) (k : Fin 8) : FVec F S64x768 .bf16 :=
  k0_pay25 (View.readAt (Elt F) arg4.view (box (n := 3) (W := 5632) 3 768 0 o (by decide) (by omega)).toLoadRect (harg4.unread x3))
    (View.readAt (Elt F) arg4.view (box (n := 3) (W := 5632) 3 768 0 (2816 + o) (by decide) (by omega)).toLoadRect (harg4.unread x3))
    (View.readAt (Elt F) arg5.view (box (n := 1) (W := 5632) 1 768 0 o (by decide) (by omega)).toLoadRect (harg5.unread x4))
    (View.readAt (Elt F) arg5.view (box (n := 1) (W := 5632) 1 768 0 (2816 + o) (by decide) (by omega)).toLoadRect (harg5.unread x4))
    (band 768 vg hg (up768 arg1 harg1 arg2 harg2 arg3 harg3 arg9 x0 x1 x2 o (by omega)) k)
    (band 768 vu hu (up768 arg1 harg1 arg2 harg2 arg3 harg3 arg9 x0 x1 x2 (2816 + o) (by omega)) k)

/-- A chunk's activations, by band. -/
def act512 (vg vu : View sig .tc .vmem S520x512 .f32) (hg hu : FVec F S8x512 .f32) (o : ℕ) (h : o + 512 ≤ 2816) (k : Fin 8) : FVec F S64x512 .bf16 :=
  glu512 (View.readAt (Elt F) arg4.view (box (n := 3) (W := 5632) 3 512 0 o (by decide) (by omega)).toLoadRect (harg4.unread x3))
    (View.readAt (Elt F) arg4.view (box (n := 3) (W := 5632) 3 512 0 (2816 + o) (by decide) (by omega)).toLoadRect (harg4.unread x3))
    (View.readAt (Elt F) arg5.view (box (n := 1) (W := 5632) 1 512 0 o (by decide) (by omega)).toLoadRect (harg5.unread x4))
    (View.readAt (Elt F) arg5.view (box (n := 1) (W := 5632) 1 512 0 (2816 + o) (by decide) (by omega)).toLoadRect (harg5.unread x4))
    (band 512 vg hg (up512 arg1 harg1 arg2 harg2 arg3 harg3 arg9 x0 x1 x2 o (by omega)) k)
    (band 512 vu hu (up512 arg1 harg1 arg2 harg2 arg3 harg3 arg9 x0 x1 x2 (2816 + o) (by omega)) k)

variable (H : Halo F)
/-- The activations stored up to each chunk. -/
def acts0 : List (View.Piece (Elt F) S512x2816 .bf16) := acts 768 0 (by decide) (act768 arg1 harg1 arg2 harg2 arg3 harg3 arg4 harg4 arg5 harg5 arg9 x0 x1 x2 x3 x4 arg12.view arg16.view H.g0 H.u0 0 (by decide))
def acts1 : List (View.Piece (Elt F) S512x2816 .bf16) := acts 768 768 (by decide) (act768 arg1 harg1 arg2 harg2 arg3 harg3 arg4 harg4 arg5 harg5 arg9 x0 x1 x2 x3 x4 arg13.view arg17.view H.g1 H.u1 768 (by decide)) ++ acts0 arg1 harg1 arg2 harg2 arg3 harg3 arg4 harg4 arg5 harg5 arg9 arg12 arg16 x0 x1 x2 x3 x4 H
def acts2 : List (View.Piece (Elt F) S512x2816 .bf16) := acts 768 1536 (by decide) (act768 arg1 harg1 arg2 harg2 arg3 harg3 arg4 harg4 arg5 harg5 arg9 x0 x1 x2 x3 x4 arg14.view arg18.view H.g2 H.u2 1536 (by decide)) ++ acts1 arg1 harg1 arg2 harg2 arg3 harg3 arg4 harg4 arg5 harg5 arg9 arg12 arg13 arg16 arg17 x0 x1 x2 x3 x4 H
def acts3 : List (View.Piece (Elt F) S512x2816 .bf16) := acts 512 2304 (by decide) (act512 arg1 harg1 arg2 harg2 arg3 harg3 arg4 harg4 arg5 harg5 arg9 x0 x1 x2 x3 x4 arg15.view arg19.view H.g3 H.u3 2304 (by decide)) ++ acts2 arg1 harg1 arg2 harg2 arg3 harg3 arg4 harg4 arg5 harg5 arg9 arg12 arg13 arg14 arg16 arg17 arg18 x0 x1 x2 x3 x4 H

/-- The down-projection's sum after each chunk. -/
def sum0 : List (View.Piece (Elt F) S512x1024 .f32) :=
  [⟨sq, k0_pay43 (View.readCov (Val := Elt F) arg10.view (acts0 arg1 harg1 arg2 harg2 arg3 harg3 arg4 harg4 arg5 harg5 arg9 arg12 arg16 x0 x1 x2 x3 x4 H) (box (n := 512) (W := 2816) 512 768 0 0 (by decide) (by decide)).toLoadRect) (View.readAt (Elt F) arg6.view (box3 (n := 2816) (W := 1024) 768 1024 0 0 (by decide) (by decide)).toLoadRect (harg6.unread x5))⟩]
def sum1 : List (View.Piece (Elt F) S512x1024 .f32) :=
  ⟨sq, k0_pay99 (View.readCov (Val := Elt F) arg10.view (acts1 arg1 harg1 arg2 harg2 arg3 harg3 arg4 harg4 arg5 harg5 arg9 arg12 arg13 arg16 arg17 x0 x1 x2 x3 x4 H) (box (n := 512) (W := 2816) 512 768 0 768 (by decide) (by decide)).toLoadRect) (View.readAt (Elt F) arg6.view (box3 (n := 2816) (W := 1024) 768 1024 768 0 (by decide) (by decide)).toLoadRect (harg6.unread x5)) (View.readCov (Val := Elt F) arg11.view (sum0 arg1 harg1 arg2 harg2 arg3 harg3 arg4 harg4 arg5 harg5 arg6 harg6 arg9 arg10 arg12 arg16 x0 x1 x2 x3 x4 x5 H) sq.toLoadRect)⟩ :: sum0 arg1 harg1 arg2 harg2 arg3 harg3 arg4 harg4 arg5 harg5 arg6 harg6 arg9 arg10 arg12 arg16 x0 x1 x2 x3 x4 x5 H
def sum2 : List (View.Piece (Elt F) S512x1024 .f32) :=
  ⟨sq, k0_pay99 (View.readCov (Val := Elt F) arg10.view (acts2 arg1 harg1 arg2 harg2 arg3 harg3 arg4 harg4 arg5 harg5 arg9 arg12 arg13 arg14 arg16 arg17 arg18 x0 x1 x2 x3 x4 H) (box (n := 512) (W := 2816) 512 768 0 1536 (by decide) (by decide)).toLoadRect) (View.readAt (Elt F) arg6.view (box3 (n := 2816) (W := 1024) 768 1024 1536 0 (by decide) (by decide)).toLoadRect (harg6.unread x5)) (View.readCov (Val := Elt F) arg11.view (sum1 arg1 harg1 arg2 harg2 arg3 harg3 arg4 harg4 arg5 harg5 arg6 harg6 arg9 arg10 arg11 arg12 arg13 arg16 arg17 x0 x1 x2 x3 x4 x5 H) sq.toLoadRect)⟩ :: sum1 arg1 harg1 arg2 harg2 arg3 harg3 arg4 harg4 arg5 harg5 arg6 harg6 arg9 arg10 arg11 arg12 arg13 arg16 arg17 x0 x1 x2 x3 x4 x5 H
def sum3 : List (View.Piece (Elt F) S512x1024 .f32) :=
  ⟨sq, k0_pay126 (View.readCov (Val := Elt F) arg10.view (acts3 arg1 harg1 arg2 harg2 arg3 harg3 arg4 harg4 arg5 harg5 arg9 arg12 arg13 arg14 arg15 arg16 arg17 arg18 arg19 x0 x1 x2 x3 x4 H) (box (n := 512) (W := 2816) 512 512 0 2304 (by decide) (by decide)).toLoadRect) (View.readAt (Elt F) arg6.view (box3 (n := 2816) (W := 1024) 512 1024 2304 0 (by decide) (by decide)).toLoadRect (harg6.unread x5)) (View.readCov (Val := Elt F) arg11.view (sum2 arg1 harg1 arg2 harg2 arg3 harg3 arg4 harg4 arg5 harg5 arg6 harg6 arg9 arg10 arg11 arg12 arg13 arg14 arg16 arg17 arg18 x0 x1 x2 x3 x4 x5 H) sq.toLoadRect)⟩ :: sum2 arg1 harg1 arg2 harg2 arg3 harg3 arg4 harg4 arg5 harg5 arg6 harg6 arg9 arg10 arg11 arg12 arg13 arg14 arg16 arg17 arg18 x0 x1 x2 x3 x4 x5 H

/-- The tile's result. -/
def res : List (View.Piece (Elt F) S512x1024 .f32) :=
  [⟨sq, k0_pay127 (View.readAt (Elt F) arg1.view sq.toLoadRect (harg1.unread x0)) (View.readCov (Val := Elt F) arg11.view (sum3 arg1 harg1 arg2 harg2 arg3 harg3 arg4 harg4 arg5 harg5 arg6 harg6 arg9 arg10 arg11 arg12 arg13 arg14 arg15 arg16 arg17 arg18 arg19 x0 x1 x2 x3 x4 x5 H) sq.toLoadRect) (View.readAt (Elt F) arg7.view rw1.toLoadRect (harg7.unread x6))⟩]

def haloA : Halo F := ⟨k0_pay1, k0_pay2, k0_pay3, k0_pay4, k0_pay5, k0_pay6, k0_pay7, k0_pay15 k0_pay8⟩

end
section
variable (arg12 : Memref sig .tc .vmem S520x768 .f32) (harg12 : arg12.IsWhole) (arg13 : Memref sig .tc .vmem S520x768 .f32) (harg13 : arg13.IsWhole) (arg14 : Memref sig .tc .vmem S520x768 .f32) (harg14 : arg14.IsWhole) (arg15 : Memref sig .tc .vmem S520x512 .f32) (harg15 : arg15.IsWhole) (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole)
    (xs3 : Vec F S520x768 .f32) (xs4 : Vec F S520x768 .f32) (xs5 : Vec F S520x768 .f32) (xs6 : Vec F S520x512 .f32) (xs7 : Vec F S520x768 .f32) (xs8 : Vec F S520x768 .f32) (xs9 : Vec F S520x768 .f32) (xs10 : Vec F S520x512 .f32)
def haloB : Halo F := ⟨k0_pay9 (View.readAt (Elt F) arg12.view (box (n := 520) (W := 768) 8 768 512 0 (by decide) (by decide)).toLoadRect (harg12.unread xs3)), k0_pay10 (View.readAt (Elt F) arg13.view (box (n := 520) (W := 768) 8 768 512 0 (by decide) (by decide)).toLoadRect (harg13.unread xs4)), k0_pay11 (View.readAt (Elt F) arg14.view (box (n := 520) (W := 768) 8 768 512 0 (by decide) (by decide)).toLoadRect (harg14.unread xs5)), k0_pay12 (View.readAt (Elt F) arg15.view (box (n := 520) (W := 512) 8 512 512 0 (by decide) (by decide)).toLoadRect (harg15.unread xs6)), k0_pay13 (View.readAt (Elt F) arg16.view (box (n := 520) (W := 768) 8 768 512 0 (by decide) (by decide)).toLoadRect (harg16.unread xs7)), k0_pay14 (View.readAt (Elt F) arg17.view (box (n := 520) (W := 768) 8 768 512 0 (by decide) (by decide)).toLoadRect (harg17.unread xs8)), k0_pay16 (View.readAt (Elt F) arg18.view (box (n := 520) (W := 768) 8 768 512 0 (by decide) (by decide)).toLoadRect (harg18.unread xs9)), k0_pay17 (View.readAt (Elt F) arg19.view (box (n := 520) (W := 512) 8 512 512 0 (by decide) (by decide)).toLoadRect (harg19.unread xs10))⟩
end
section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S1x2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S520x768 .f32) (harg12 : arg12.IsWhole) (arg13 : Memref sig .tc .vmem S520x768 .f32) (harg13 : arg13.IsWhole) (arg14 : Memref sig .tc .vmem S520x768 .f32) (harg14 : arg14.IsWhole) (arg15 : Memref sig .tc .vmem S520x512 .f32) (harg15 : arg15.IsWhole) (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole)
    (x0 : Vec F S512x1024 .f32) (x1 : Vec F S1x1024 .f32) (x2 : Vec F S1x1024x5632 .bf16) (x3 : Vec F S3x5632 .f32) (x4 : Vec F S1x5632 .f32) (x5 : Vec F S1x2816x1024 .bf16) (x6 : Vec F S1x1024 .f32)
    (xs3 : Vec F S520x768 .f32) (xs4 : Vec F S520x768 .f32) (xs5 : Vec F S520x768 .f32) (xs6 : Vec F S520x512 .f32) (xs7 : Vec F S520x768 .f32) (xs8 : Vec F S520x768 .f32) (xs9 : Vec F S520x768 .f32) (xs10 : Vec F S520x512 .f32)

set_option maxHeartbeats 4000000 in
theorem resA (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).1 = res arg1 harg1 arg2 harg2 arg3 harg3 arg4 harg4 arg5 harg5 arg6 harg6 arg7 harg7 arg9 arg10 arg11 arg12 arg13 arg14 arg15 arg16 arg17 arg18 arg19 x0 x1 x2 x3 x4 x5 x6 haloA := by
  sl_kernel_rfl

theorem extA_3 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.1 = ext 768 haloA.g0 (up768 arg1 harg1 arg2 harg2 arg3 harg3 arg9 x0 x1 x2 0 (by decide)) := by
  sl_kernel_rfl

theorem extA_4 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.1 = ext 768 haloA.g1 (up768 arg1 harg1 arg2 harg2 arg3 harg3 arg9 x0 x1 x2 768 (by decide)) := by
  sl_kernel_rfl

theorem extA_5 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.1 = ext 768 haloA.g2 (up768 arg1 harg1 arg2 harg2 arg3 harg3 arg9 x0 x1 x2 1536 (by decide)) := by
  sl_kernel_rfl

theorem extA_6 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.1 = ext 512 haloA.g3 (up512 arg1 harg1 arg2 harg2 arg3 harg3 arg9 x0 x1 x2 2304 (by decide)) := by
  sl_kernel_rfl

theorem extA_7 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.1 = ext 768 haloA.u0 (up768 arg1 harg1 arg2 harg2 arg3 harg3 arg9 x0 x1 x2 2816 (by decide)) := by
  sl_kernel_rfl

theorem extA_8 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.1 = ext 768 haloA.u1 (up768 arg1 harg1 arg2 harg2 arg3 harg3 arg9 x0 x1 x2 3584 (by decide)) := by
  sl_kernel_rfl

theorem extA_9 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.2.1 = ext 768 haloA.u2 (up768 arg1 harg1 arg2 harg2 arg3 harg3 arg9 x0 x1 x2 4352 (by decide)) := by
  sl_kernel_rfl

theorem extA_10 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.2.2.1 = ext 512 haloA.u3 (up512 arg1 harg1 arg2 harg2 arg3 harg3 arg9 x0 x1 x2 5120 (by decide)) := by
  sl_kernel_rfl

set_option maxHeartbeats 4000000 in
theorem resB (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10).1 = res arg1 harg1 arg2 harg2 arg3 harg3 arg4 harg4 arg5 harg5 arg6 harg6 arg7 harg7 arg9 arg10 arg11 arg12 arg13 arg14 arg15 arg16 arg17 arg18 arg19 x0 x1 x2 x3 x4 x5 x6 (haloB arg12 harg12 arg13 harg13 arg14 harg14 arg15 harg15 arg16 harg16 arg17 harg17 arg18 harg18 arg19 harg19 xs3 xs4 xs5 xs6 xs7 xs8 xs9 xs10) := by
  sl_kernel_rfl

theorem extB_3 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10).2.1 = ext 768 (haloB arg12 harg12 arg13 harg13 arg14 harg14 arg15 harg15 arg16 harg16 arg17 harg17 arg18 harg18 arg19 harg19 xs3 xs4 xs5 xs6 xs7 xs8 xs9 xs10).g0 (up768 arg1 harg1 arg2 harg2 arg3 harg3 arg9 x0 x1 x2 0 (by decide)) := by
  sl_kernel_rfl

theorem extB_4 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10).2.2.1 = ext 768 (haloB arg12 harg12 arg13 harg13 arg14 harg14 arg15 harg15 arg16 harg16 arg17 harg17 arg18 harg18 arg19 harg19 xs3 xs4 xs5 xs6 xs7 xs8 xs9 xs10).g1 (up768 arg1 harg1 arg2 harg2 arg3 harg3 arg9 x0 x1 x2 768 (by decide)) := by
  sl_kernel_rfl

theorem extB_5 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10).2.2.2.1 = ext 768 (haloB arg12 harg12 arg13 harg13 arg14 harg14 arg15 harg15 arg16 harg16 arg17 harg17 arg18 harg18 arg19 harg19 xs3 xs4 xs5 xs6 xs7 xs8 xs9 xs10).g2 (up768 arg1 harg1 arg2 harg2 arg3 harg3 arg9 x0 x1 x2 1536 (by decide)) := by
  sl_kernel_rfl

theorem extB_6 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10).2.2.2.2.1 = ext 512 (haloB arg12 harg12 arg13 harg13 arg14 harg14 arg15 harg15 arg16 harg16 arg17 harg17 arg18 harg18 arg19 harg19 xs3 xs4 xs5 xs6 xs7 xs8 xs9 xs10).g3 (up512 arg1 harg1 arg2 harg2 arg3 harg3 arg9 x0 x1 x2 2304 (by decide)) := by
  sl_kernel_rfl

theorem extB_7 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10).2.2.2.2.2.1 = ext 768 (haloB arg12 harg12 arg13 harg13 arg14 harg14 arg15 harg15 arg16 harg16 arg17 harg17 arg18 harg18 arg19 harg19 xs3 xs4 xs5 xs6 xs7 xs8 xs9 xs10).u0 (up768 arg1 harg1 arg2 harg2 arg3 harg3 arg9 x0 x1 x2 2816 (by decide)) := by
  sl_kernel_rfl

theorem extB_8 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10).2.2.2.2.2.2.1 = ext 768 (haloB arg12 harg12 arg13 harg13 arg14 harg14 arg15 harg15 arg16 harg16 arg17 harg17 arg18 harg18 arg19 harg19 xs3 xs4 xs5 xs6 xs7 xs8 xs9 xs10).u1 (up768 arg1 harg1 arg2 harg2 arg3 harg3 arg9 x0 x1 x2 3584 (by decide)) := by
  sl_kernel_rfl

theorem extB_9 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10).2.2.2.2.2.2.2.1 = ext 768 (haloB arg12 harg12 arg13 harg13 arg14 harg14 arg15 harg15 arg16 harg16 arg17 harg17 arg18 harg18 arg19 harg19 xs3 xs4 xs5 xs6 xs7 xs8 xs9 xs10).u2 (up768 arg1 harg1 arg2 harg2 arg3 harg3 arg9 x0 x1 x2 4352 (by decide)) := by
  sl_kernel_rfl

theorem extB_10 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10).2.2.2.2.2.2.2.2.1 = ext 512 (haloB arg12 harg12 arg13 harg13 arg14 harg14 arg15 harg15 arg16 harg16 arg17 harg17 arg18 harg18 arg19 harg19 xs3 xs4 xs5 xs6 xs7 xs8 xs9 xs10).u3 (up512 arg1 harg1 arg2 harg2 arg3 harg3 arg9 x0 x1 x2 5120 (by decide)) := by
  sl_kernel_rfl

end
end Cert.FfnKernelIdeal.Tile
end
-- ==== Proof.FfnMath.lean ====
/- The gated feed-forward layer over the reals: norm, up-projection, a three-row convolution, gate, down-projection and residual. -/
module
public import Idealize.ShloMosaic.Lib.Pointwise
@[expose] public section
noncomputable section
namespace Cert.FfnMath
open Idealize.ShloMosaic

/-- A row scaled to unit mean square, by a gain. -/
def rms (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- Three rows weighted, over a bias. -/
def conv (w : Fin 3 → EReal) (b : EReal) (a : Fin 3 → EReal) : EReal := b + w 0 * a 0 + w 1 * a 1 + w 2 * a 2

def glu (g u : EReal) : EReal := g * Ideal.logistic g * u

/-- The arguments, by row and column. -/
structure Args where
  x : Fin 16384 → Fin 1024 → EReal
  g : Fin 1024 → EReal
  wu : Fin 1024 → Fin 5632 → EReal
  cw : Fin 3 → Fin 5632 → EReal
  cb : Fin 5632 → EReal
  wd : Fin 2816 → Fin 1024 → EReal

def lo (f : Fin 2816) : Fin 5632 := ⟨f.val, by omega⟩
def hi (f : Fin 2816) : Fin 5632 := ⟨2816 + f.val, by omega⟩

namespace Args
variable (A : Args)

def up (r : Fin 16384) (f : Fin 5632) : EReal := ∑ d : Fin 1024, rms (A.x r) A.g d * A.wu d f

/-- Row `r - 2 + s` of the up-projection, zero before the sequence of 4096 rows begins. -/
def back (r : Fin 16384) (f : Fin 5632) (s : Fin 3) : EReal :=
  if r.val % 4096 + s.val < 2 then 0 else A.up ⟨r.val + s.val - 2, by omega⟩ f

def pre (r : Fin 16384) (f : Fin 5632) : EReal := conv (fun s => A.cw s f) (A.cb f) (A.back r f)

def act (r : Fin 16384) (f : Fin 2816) : EReal := glu (A.pre r (lo f)) (A.pre r (hi f))

/-- The layer with its residual. -/
def y (r : Fin 16384) (d : Fin 1024) : EReal := A.x r d + ∑ f : Fin 2816, A.act r f * A.wd f d

/-- Row `i` of tile `t`. -/
def trow (t : Fin 32) (i : Fin 512) : Fin 16384 := ⟨512 * t.val + i.val, by omega⟩

/-- The up-projection's eight rows before tile `t`, zero where a sequence begins. -/
def halo (t : Fin 32) (i : Fin 8) (f : Fin 5632) : EReal :=
  if t.val % 8 = 0 then 0 else A.up ⟨512 * t.val + i.val - 8, by omega⟩ f

/-- The tile's 512 rows after those eight. -/
def ext (t : Fin 32) (e : Fin 520) (f : Fin 5632) : EReal :=
  if h : e.val < 8 then A.halo t ⟨e.val, h⟩ f else A.up (trow t ⟨e.val - 8, by omega⟩) f

theorem ext_back (t : Fin 32) (i : Fin 512) (f : Fin 5632) (s : Fin 3) (h : i.val + 6 + s.val < 520) :
    A.ext t ⟨i.val + 6 + s.val, h⟩ f = A.back (trow t i) f s := by
  unfold ext back halo trow
  have hs := s.isLt
  by_cases h1 : i.val + 6 + s.val < 8
  · rw [dif_pos h1]
    by_cases h2 : t.val % 8 = 0
    · rw [if_pos h2, if_pos (by show (512 * t.val + i.val) % 4096 + s.val < 2; omega)]
    · rw [if_neg h2, if_neg (by show ¬ (512 * t.val + i.val) % 4096 + s.val < 2; omega)]
      exact congrArg (fun r => A.up r f) (Fin.ext (by show 512 * t.val + (i.val + 6 + s.val) - 8 = 512 * t.val + i.val + s.val - 2; omega))
  · rw [dif_neg h1, if_neg (by show ¬ (512 * t.val + i.val) % 4096 + s.val < 2; omega)]
    exact congrArg (fun r => A.up r f) (Fin.ext (by show 512 * t.val + (i.val + 6 + s.val - 8) = 512 * t.val + i.val + s.val - 2; omega))

/-- The last eight rows of a tile are the halo of the next. -/
theorem ext_halo (n : ℕ) (h : n + 1 < 32) (h0 : ¬ (n + 1) % 8 = 0) (i : Fin 8) (f : Fin 5632) :
    A.ext ⟨n, by omega⟩ ⟨512 + i.val, by omega⟩ f = A.halo ⟨n + 1, h⟩ i f := by
  unfold ext halo trow
  rw [dif_neg (by show ¬ 512 + i.val < 8; omega), if_neg h0]
  exact congrArg (fun r => A.up r f) (Fin.ext (by show 512 * n + (512 + i.val - 8) = 512 * (n + 1) + i.val - 8; omega))
end Args

/-- A sum over 2816 columns by the chunks of 768, 768, 768 and 512. -/
theorem sum_chunks (f : Fin 2816 → EReal) : ∑ i, f i = (∑ j : Fin 768, f ⟨j.val, by omega⟩) + (∑ j : Fin 768, f ⟨768 + j.val, by omega⟩)
    + (∑ j : Fin 768, f ⟨1536 + j.val, by omega⟩) + ∑ j : Fin 512, f ⟨2304 + j.val, by omega⟩ := by
  refine (Fin.sum_univ_add (a := 2304) (b := 512) f).trans (congrArg₂ (· + ·) ?_ rfl)
  refine (Fin.sum_univ_add (a := 1536) (b := 768) _).trans (congrArg₂ (· + ·) ?_ rfl)
  exact Fin.sum_univ_add (a := 768) (b := 768) _
end Cert.FfnMath
end
-- ==== Proof.FfnPoint.lean ====
/- The feed-forward kernel's vectors read at an index, over the reals. -/
module
public import proofs.«01_k».proof.Proof.FfnPieces
public import proofs.«01_k».proof.Proof.FfnMath
@[expose] public section
set_option maxRecDepth 16384
noncomputable section
namespace Cert.FfnKernelIdeal.Tile
open Idealize.ShloMosaic Idealize.ShloMosaic.TcCoe Idealize.SL.Sem
open Cert.FfnKernelIdeal Cert.FfnKernelIdeal.Gen Cert.FfnTile

theorem pay18_apply (v : Vec Ideal S512x1024 .f32) (g : Vec Ideal S1x1024 .f32) (i : Fin 512) (d : Fin 1024) :
    k0_pay18 (F := Ideal) v g (ix2 i d) = FfnMath.rms (fun d => v (ix2 i d)) (fun d => g (ix2 0 d)) d := by
  pointwise [k0_pay18, FfnMath.rms]

theorem pay127_apply (v a : Vec Ideal S512x1024 .f32) (g : Vec Ideal S1x1024 .f32) (i : Fin 512) (d : Fin 1024) :
    k0_pay127 (F := Ideal) v a g (ix2 i d) = FfnMath.rms (fun d => v (ix2 i d) + a (ix2 i d)) (fun d => g (ix2 0 d)) d := by
  pointwise [k0_pay127, FfnMath.rms]

theorem upP768_apply (h : Vec Ideal S512x1024 .bf16) (u : Vec Ideal S1x1024x768 .bf16) (i : Fin 512) (j : Fin 768) :
    k0_pay19 (F := Ideal) h u (ix2 i j) = ∑ d : Fin 1024, h (ix2 i d) * u (ix3 0 d j) := by
  pointwise [k0_pay19]

theorem upP512_apply (h : Vec Ideal S512x1024 .bf16) (u : Vec Ideal S1x1024x512 .bf16) (i : Fin 512) (j : Fin 512) :
    k0_pay70 (F := Ideal) h u (ix2 i j) = ∑ d : Fin 1024, h (ix2 i d) * u (ix3 0 d j) := by
  pointwise [k0_pay70]

theorem gluP768_apply (wg wu : Vec Ideal S3x768 .f32) (bg bu : Vec Ideal S1x768 .f32) (ag au : Vec Ideal S72x768 .f32) (i : Fin 64) (j : Fin 768) :
    k0_pay25 (F := Ideal) wg wu bg bu ag au (ix2 i j)
      = FfnMath.glu (FfnMath.conv (fun s => wg (ix2 s j)) (bg (ix2 0 j)) (fun s => ag (ix2 ⟨i.val + 6 + s.val, by omega⟩ j)))
          (FfnMath.conv (fun s => wu (ix2 s j)) (bu (ix2 0 j)) (fun s => au (ix2 ⟨i.val + 6 + s.val, by omega⟩ j))) := by
  have e0 : (⟨i.val + 6 + (0 : Fin 3).val, by omega⟩ : Fin 72) = ⟨6 + i.val, by omega⟩ := Fin.ext (by show i.val + 6 + 0 = 6 + i.val; omega)
  have e1 : (⟨i.val + 6 + (1 : Fin 3).val, by omega⟩ : Fin 72) = ⟨7 + i.val, by omega⟩ := Fin.ext (by show i.val + 6 + 1 = 7 + i.val; omega)
  have e2 : (⟨i.val + 6 + (2 : Fin 3).val, by omega⟩ : Fin 72) = ⟨8 + i.val, by omega⟩ := Fin.ext (by show i.val + 6 + 2 = 8 + i.val; omega)
  unfold FfnMath.glu FfnMath.conv
  beta_reduce
  rw [e0, e1, e2]
  pointwise [k0_pay25, k0_pay23, k0_pay24]

theorem gluP512_apply (wg wu : Vec Ideal S3x512 .f32) (bg bu : Vec Ideal S1x512 .f32) (ag au : Vec Ideal S72x512 .f32) (i : Fin 64) (j : Fin 512) :
    glu512 (F := Ideal) wg wu bg bu ag au (ix2 i j)
      = FfnMath.glu (FfnMath.conv (fun s => wg (ix2 s j)) (bg (ix2 0 j)) (fun s => ag (ix2 ⟨i.val + 6 + s.val, by omega⟩ j)))
          (FfnMath.conv (fun s => wu (ix2 s j)) (bu (ix2 0 j)) (fun s => au (ix2 ⟨i.val + 6 + s.val, by omega⟩ j))) := by
  have e0 : (⟨i.val + 6 + (0 : Fin 3).val, by omega⟩ : Fin 72) = ⟨6 + i.val, by omega⟩ := Fin.ext (by show i.val + 6 + 0 = 6 + i.val; omega)
  have e1 : (⟨i.val + 6 + (1 : Fin 3).val, by omega⟩ : Fin 72) = ⟨7 + i.val, by omega⟩ := Fin.ext (by show i.val + 6 + 1 = 7 + i.val; omega)
  have e2 : (⟨i.val + 6 + (2 : Fin 3).val, by omega⟩ : Fin 72) = ⟨8 + i.val, by omega⟩ := Fin.ext (by show i.val + 6 + 2 = 8 + i.val; omega)
  unfold FfnMath.glu FfnMath.conv
  beta_reduce
  rw [e0, e1, e2]
  pointwise [glu512, k0_pay113]

theorem sumP0_apply (a : Vec Ideal S512x768 .bf16) (u : Vec Ideal S1x768x1024 .bf16) (i : Fin 512) (d : Fin 1024) :
    k0_pay43 (F := Ideal) a u (ix2 i d) = ∑ j : Fin 768, a (ix2 i j) * u (ix3 0 j d) := by
  pointwise [k0_pay43]

theorem sumP768_apply (a : Vec Ideal S512x768 .bf16) (u : Vec Ideal S1x768x1024 .bf16) (s : Vec Ideal S512x1024 .f32) (i : Fin 512) (d : Fin 1024) :
    k0_pay99 (F := Ideal) a u s (ix2 i d) = s (ix2 i d) + ∑ j : Fin 768, a (ix2 i j) * u (ix3 0 j d) := by
  pointwise [k0_pay99]

theorem sumP512_apply (a : Vec Ideal S512x512 .bf16) (u : Vec Ideal S1x512x1024 .bf16) (s : Vec Ideal S512x1024 .f32) (i : Fin 512) (d : Fin 1024) :
    k0_pay126 (F := Ideal) a u s (ix2 i d) = s (ix2 i d) + ∑ j : Fin 512, a (ix2 i j) * u (ix3 0 j d) := by
  pointwise [k0_pay126]

/-- The halo rows' own stores: zero, or the rows loaded. -/
structure Halo.Is (H : Halo Ideal) (h : Fin 8 → Fin 5632 → EReal) : Prop where
  g0 : ∀ (i : Fin 8) (j : Fin 768), H.g0 (ix2 i j) = h i ⟨0 + j.val, by omega⟩
  g1 : ∀ (i : Fin 8) (j : Fin 768), H.g1 (ix2 i j) = h i ⟨768 + j.val, by omega⟩
  g2 : ∀ (i : Fin 8) (j : Fin 768), H.g2 (ix2 i j) = h i ⟨1536 + j.val, by omega⟩
  g3 : ∀ (i : Fin 8) (j : Fin 512), H.g3 (ix2 i j) = h i ⟨2304 + j.val, by omega⟩
  u0 : ∀ (i : Fin 8) (j : Fin 768), H.u0 (ix2 i j) = h i ⟨2816 + j.val, by omega⟩
  u1 : ∀ (i : Fin 8) (j : Fin 768), H.u1 (ix2 i j) = h i ⟨3584 + j.val, by omega⟩
  u2 : ∀ (i : Fin 8) (j : Fin 768), H.u2 (ix2 i j) = h i ⟨4352 + j.val, by omega⟩
  u3 : ∀ (i : Fin 8) (j : Fin 512), H.u3 (ix2 i j) = h i ⟨5120 + j.val, by omega⟩

theorem haloA_is : Halo.Is haloA fun _ _ => 0 where
  g0 i j := by show k0_pay1 (F := Ideal) (ix2 i j) = 0; pointwise [k0_pay1]
  g1 i j := by show k0_pay2 (F := Ideal) (ix2 i j) = 0; pointwise [k0_pay2]
  g2 i j := by show k0_pay3 (F := Ideal) (ix2 i j) = 0; pointwise [k0_pay3]
  g3 i j := by show k0_pay4 (F := Ideal) (ix2 i j) = 0; pointwise [k0_pay4]
  u0 i j := by show k0_pay5 (F := Ideal) (ix2 i j) = 0; pointwise [k0_pay5]
  u1 i j := by show k0_pay6 (F := Ideal) (ix2 i j) = 0; pointwise [k0_pay6]
  u2 i j := by show k0_pay7 (F := Ideal) (ix2 i j) = 0; pointwise [k0_pay7]
  u3 i j := by show k0_pay15 k0_pay8 (F := Ideal) (ix2 i j) = 0; pointwise [k0_pay15, k0_pay8]

theorem pay9_apply (v : Vec Ideal S8x768 .f32) (i : Fin 8) (j : Fin 768) : k0_pay9 (F := Ideal) v (ix2 i j) = v (ix2 i j) := by
  pointwise [k0_pay9]
theorem pay10_apply (v : Vec Ideal S8x768 .f32) (i : Fin 8) (j : Fin 768) : k0_pay10 (F := Ideal) v (ix2 i j) = v (ix2 i j) := by
  pointwise [k0_pay10]
theorem pay11_apply (v : Vec Ideal S8x768 .f32) (i : Fin 8) (j : Fin 768) : k0_pay11 (F := Ideal) v (ix2 i j) = v (ix2 i j) := by
  pointwise [k0_pay11]
theorem pay12_apply (v : Vec Ideal S8x512 .f32) (i : Fin 8) (j : Fin 512) : k0_pay12 (F := Ideal) v (ix2 i j) = v (ix2 i j) := by
  pointwise [k0_pay12]
theorem pay13_apply (v : Vec Ideal S8x768 .f32) (i : Fin 8) (j : Fin 768) : k0_pay13 (F := Ideal) v (ix2 i j) = v (ix2 i j) := by
  pointwise [k0_pay13]
theorem pay14_apply (v : Vec Ideal S8x768 .f32) (i : Fin 8) (j : Fin 768) : k0_pay14 (F := Ideal) v (ix2 i j) = v (ix2 i j) := by
  pointwise [k0_pay14]
theorem pay16_apply (v : Vec Ideal S8x768 .f32) (i : Fin 8) (j : Fin 768) : k0_pay16 (F := Ideal) v (ix2 i j) = v (ix2 i j) := by
  pointwise [k0_pay16]
theorem pay17_apply (v : Vec Ideal S8x512 .f32) (i : Fin 8) (j : Fin 512) : k0_pay17 (F := Ideal) v (ix2 i j) = v (ix2 i j) := by
  pointwise [k0_pay17]

theorem haloB_is (arg12 : Memref sig .tc .vmem S520x768 .f32) (harg12 : arg12.IsWhole) (arg13 : Memref sig .tc .vmem S520x768 .f32) (harg13 : arg13.IsWhole) (arg14 : Memref sig .tc .vmem S520x768 .f32) (harg14 : arg14.IsWhole) (arg15 : Memref sig .tc .vmem S520x512 .f32) (harg15 : arg15.IsWhole) (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole)
    (xs3 : Vec Ideal S520x768 .f32) (xs4 : Vec Ideal S520x768 .f32) (xs5 : Vec Ideal S520x768 .f32) (xs6 : Vec Ideal S520x512 .f32) (xs7 : Vec Ideal S520x768 .f32) (xs8 : Vec Ideal S520x768 .f32) (xs9 : Vec Ideal S520x768 .f32) (xs10 : Vec Ideal S520x512 .f32) (h : Fin 8 → Fin 5632 → EReal)
    (h3 : ∀ (i : Fin 8) (j : Fin 768), xs3 (ix2 ⟨512 + i.val, by omega⟩ j) = h i ⟨0 + j.val, by omega⟩)
    (h4 : ∀ (i : Fin 8) (j : Fin 768), xs4 (ix2 ⟨512 + i.val, by omega⟩ j) = h i ⟨768 + j.val, by omega⟩)
    (h5 : ∀ (i : Fin 8) (j : Fin 768), xs5 (ix2 ⟨512 + i.val, by omega⟩ j) = h i ⟨1536 + j.val, by omega⟩)
    (h6 : ∀ (i : Fin 8) (j : Fin 512), xs6 (ix2 ⟨512 + i.val, by omega⟩ j) = h i ⟨2304 + j.val, by omega⟩)
    (h7 : ∀ (i : Fin 8) (j : Fin 768), xs7 (ix2 ⟨512 + i.val, by omega⟩ j) = h i ⟨2816 + j.val, by omega⟩)
    (h8 : ∀ (i : Fin 8) (j : Fin 768), xs8 (ix2 ⟨512 + i.val, by omega⟩ j) = h i ⟨3584 + j.val, by omega⟩)
    (h9 : ∀ (i : Fin 8) (j : Fin 768), xs9 (ix2 ⟨512 + i.val, by omega⟩ j) = h i ⟨4352 + j.val, by omega⟩)
    (h10 : ∀ (i : Fin 8) (j : Fin 512), xs10 (ix2 ⟨512 + i.val, by omega⟩ j) = h i ⟨5120 + j.val, by omega⟩)
    : Halo.Is (haloB arg12 harg12 arg13 harg13 arg14 harg14 arg15 harg15 arg16 harg16 arg17 harg17 arg18 harg18 arg19 harg19 xs3 xs4 xs5 xs6 xs7 xs8 xs9 xs10) h where
  g0 i j := by
    refine (pay9_apply _ i j).trans ((load2 arg12 harg12 xs3 (by decide) (by decide) i j).trans (Eq.trans (congrArg xs3 (congrArg₂ ix2 rfl (Fin.ext ?_))) (h3 i j)))
    show 0 + j.val = j.val; omega
  g1 i j := by
    refine (pay10_apply _ i j).trans ((load2 arg13 harg13 xs4 (by decide) (by decide) i j).trans (Eq.trans (congrArg xs4 (congrArg₂ ix2 rfl (Fin.ext ?_))) (h4 i j)))
    show 0 + j.val = j.val; omega
  g2 i j := by
    refine (pay11_apply _ i j).trans ((load2 arg14 harg14 xs5 (by decide) (by decide) i j).trans (Eq.trans (congrArg xs5 (congrArg₂ ix2 rfl (Fin.ext ?_))) (h5 i j)))
    show 0 + j.val = j.val; omega
  g3 i j := by
    refine (pay12_apply _ i j).trans ((load2 arg15 harg15 xs6 (by decide) (by decide) i j).trans (Eq.trans (congrArg xs6 (congrArg₂ ix2 rfl (Fin.ext ?_))) (h6 i j)))
    show 0 + j.val = j.val; omega
  u0 i j := by
    refine (pay13_apply _ i j).trans ((load2 arg16 harg16 xs7 (by decide) (by decide) i j).trans (Eq.trans (congrArg xs7 (congrArg₂ ix2 rfl (Fin.ext ?_))) (h7 i j)))
    show 0 + j.val = j.val; omega
  u1 i j := by
    refine (pay14_apply _ i j).trans ((load2 arg17 harg17 xs8 (by decide) (by decide) i j).trans (Eq.trans (congrArg xs8 (congrArg₂ ix2 rfl (Fin.ext ?_))) (h8 i j)))
    show 0 + j.val = j.val; omega
  u2 i j := by
    refine (pay16_apply _ i j).trans ((load2 arg18 harg18 xs9 (by decide) (by decide) i j).trans (Eq.trans (congrArg xs9 (congrArg₂ ix2 rfl (Fin.ext ?_))) (h9 i j)))
    show 0 + j.val = j.val; omega
  u3 i j := by
    refine (pay17_apply _ i j).trans ((load2 arg19 harg19 xs10 (by decide) (by decide) i j).trans (Eq.trans (congrArg xs10 (congrArg₂ ix2 rfl (Fin.ext ?_))) (h10 i j)))
    show 0 + j.val = j.val; omega
end Cert.FfnKernelIdeal.Tile
end
-- ==== Proof.FfnBlock.lean ====
/- One tile of the feed-forward kernel against the layer's mathematics. -/
module
public import proofs.«01_k».proof.Proof.FfnPoint
@[expose] public section
set_option maxRecDepth 16384
noncomputable section
namespace Cert.FfnKernelIdeal.Tile
open Idealize.ShloMosaic Idealize.ShloMosaic.TcCoe Idealize.SL.Sem
open Cert.FfnKernelIdeal Cert.FfnKernelIdeal.Gen Cert.FfnTile

section
variable (A : FfnMath.Args) (t : Fin 32)
variable (arg1 : Memref sig .tc .vmem S512x1024 .f32) (harg1 : arg1.IsWhole) (arg2 : Memref sig .tc .vmem S1x1024 .f32) (harg2 : arg2.IsWhole) (arg3 : Memref sig .tc .vmem S1x1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S1x2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S520x768 .f32) (harg12 : arg12.IsWhole) (arg13 : Memref sig .tc .vmem S520x768 .f32) (harg13 : arg13.IsWhole) (arg14 : Memref sig .tc .vmem S520x768 .f32) (harg14 : arg14.IsWhole) (arg15 : Memref sig .tc .vmem S520x512 .f32) (harg15 : arg15.IsWhole) (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole)
    (x0 : Vec Ideal S512x1024 .f32) (x1 : Vec Ideal S1x1024 .f32) (x2 : Vec Ideal S1x1024x5632 .bf16) (x3 : Vec Ideal S3x5632 .f32) (x4 : Vec Ideal S1x5632 .f32) (x5 : Vec Ideal S1x2816x1024 .bf16) (x6 : Vec Ideal S1x1024 .f32) (H : Halo Ideal)

/-- The tile's blocks are the arguments' rows, and its halo the rows before. -/
structure Holds : Prop where
  x : ∀ i d, x0 (ix2 i d) = A.x (FfnMath.Args.trow t i) d
  g : ∀ d, x1 (ix2 0 d) = A.g d
  wu : ∀ d f, x2 (ix3 0 d f) = A.wu d f
  cw : ∀ s f, x3 (ix2 s f) = A.cw s f
  cb : ∀ f, x4 (ix2 0 f) = A.cb f
  wd : ∀ f d, x5 (ix3 0 f d) = A.wd f d

variable {A t x0 x1 x2 x3 x4 x5 H} (K : Holds A t x0 x1 x2 x3 x4 x5) (hH : H.Is (A.halo t))
include K

theorem x_apply (i : Fin 512) (d : Fin 1024) : View.readAt (Elt Ideal) arg1.view sq.toLoadRect (harg1.unread x0) (ix2 i d) = A.x (FfnMath.Args.trow t i) d := by
  refine (load2 arg1 harg1 x0 (by decide) (by decide) i d).trans (Eq.trans (congrArg x0 (congrArg₂ ix2 (Fin.ext ?_) (Fin.ext ?_))) (K.x i d))
  · show 0 + i.val = i.val; omega
  · show 0 + d.val = d.val; omega

theorem g_apply (d : Fin 1024) : View.readAt (Elt Ideal) arg2.view rw1.toLoadRect (harg2.unread x1) (ix2 0 d) = A.g d := by
  refine (load2 arg2 harg2 x1 (by decide) (by decide) 0 d).trans (Eq.trans (congrArg x1 (congrArg₂ ix2 (Fin.ext ?_) (Fin.ext ?_))) (K.g d))
  · rfl
  · show 0 + d.val = d.val; omega

theorem hrow_apply (i : Fin 512) (d : Fin 1024) :
    hrow arg1 harg1 arg2 harg2 arg9 x0 x1 (ix2 i d) = FfnMath.rms (A.x (FfnMath.Args.trow t i)) A.g d := by
  unfold hrow
  refine (congrFun (View.readCov_unit_lit' (Val := Elt Ideal) arg9.view (inb2 (by decide) (by decide)) _ (by decide)) (ix2 i d)).trans ?_
  rw [pay18_apply]
  exact congrArg₂ (fun x g => FfnMath.rms x g d) (funext fun d => x_apply arg1 harg1 K i d) (funext fun d => g_apply arg2 harg2 K d)

theorem up768_apply (o : ℕ) (h : o + 768 ≤ 5632) (i : Fin 512) (j : Fin 768) :
    up768 arg1 harg1 arg2 harg2 arg3 harg3 arg9 x0 x1 x2 o h (ix2 i j) = A.up (FfnMath.Args.trow t i) ⟨o + j.val, by omega⟩ := by
  unfold up768
  rw [upP768_apply]
  refine Finset.sum_congr rfl fun d _ => congrArg₂ (· * ·) (hrow_apply arg1 harg1 arg2 harg2 arg9 K i d) ?_
  refine (load3 arg3 harg3 x2 (by decide) h d j).trans (Eq.trans (congrArg x2 (congrArg₂ (ix3 0) (Fin.ext ?_) rfl)) (K.wu d ⟨o + j.val, by omega⟩))
  show 0 + d.val = d.val; omega

theorem ext768_apply (o : ℕ) (h : o + 768 ≤ 5632) (halo : FVec Ideal S8x768 .f32) (hh : ∀ (i : Fin 8) (j : Fin 768), halo (ix2 i j) = A.halo t i ⟨o + j.val, by omega⟩) (e : Fin 520) (j : Fin 768) :
    extF 768 halo (up768 arg1 harg1 arg2 harg2 arg3 harg3 arg9 x0 x1 x2 o h) (ix2 e j) = A.ext t e ⟨o + j.val, by omega⟩ := by
  unfold extF FfnMath.Args.ext
  by_cases he : e.val < 8
  · rw [dif_pos he, dif_pos (show ((ix2 e j : S520x768.Idx) 0 : ℕ) < 8 from he)]
    exact hh ⟨e.val, he⟩ j
  · rw [dif_neg he, dif_neg (show ¬ ((ix2 e j : S520x768.Idx) 0 : ℕ) < 8 from he)]
    exact up768_apply arg1 harg1 arg2 harg2 arg3 harg3 arg9 K o h ⟨e.val - 8, by omega⟩ j

theorem act768_apply (vg vu : View sig .tc .vmem S520x768 .f32) (hg hu : FVec Ideal S8x768 .f32) (o : ℕ) (h : o + 768 ≤ 2816)
    (hhg : ∀ (i : Fin 8) (j : Fin 768), hg (ix2 i j) = A.halo t i ⟨o + j.val, by omega⟩) (hhu : ∀ (i : Fin 8) (j : Fin 768), hu (ix2 i j) = A.halo t i ⟨2816 + o + j.val, by omega⟩)
    (k : Fin 8) (i : Fin 64) (j : Fin 768) :
    act768 arg1 harg1 arg2 harg2 arg3 harg3 arg4 harg4 arg5 harg5 arg9 x0 x1 x2 x3 x4 vg vu hg hu o h k (ix2 i j)
      = A.act (FfnMath.Args.trow t ⟨64 * k.val + i.val, by omega⟩) ⟨o + j.val, by omega⟩ := by
  have hf : (⟨2816 + o + j.val, by omega⟩ : Fin 5632) = FfnMath.hi ⟨o + j.val, by omega⟩ := Fin.ext (Nat.add_assoc 2816 o j.val)
  have hb : ∀ (o' : ℕ) (h' : o' + 768 ≤ 5632) (v : View sig .tc .vmem S520x768 .f32) (ha : FVec Ideal S8x768 .f32) (hh : ∀ (i : Fin 8) (j : Fin 768), ha (ix2 i j) = A.halo t i ⟨o' + j.val, by omega⟩) (s : Fin 3),
      band 768 v ha (up768 arg1 harg1 arg2 harg2 arg3 harg3 arg9 x0 x1 x2 o' h') k (ix2 ⟨i.val + 6 + s.val, by omega⟩ j)
        = A.back (FfnMath.Args.trow t ⟨64 * k.val + i.val, by omega⟩) ⟨o' + j.val, by omega⟩ s := fun o' h' v ha hh s => by
    rw [band_apply, ext768_apply arg1 harg1 arg2 harg2 arg3 harg3 arg9 K o' h' ha hh, ← FfnMath.Args.ext_back A t ⟨64 * k.val + i.val, by omega⟩ ⟨o' + j.val, by omega⟩ s (by show 64 * k.val + i.val + 6 + s.val < 520; omega)]
    exact congrArg (fun e => A.ext t e _) (Fin.ext (by show 64 * k.val + (i.val + 6 + s.val) = 64 * k.val + i.val + 6 + s.val; omega))
  have hw : ∀ (o' : ℕ) (h' : o' + 768 ≤ 5632) (s : Fin 3),
      View.readAt (Elt Ideal) arg4.view (box (n := 3) (W := 5632) 3 768 0 o' (by decide) h').toLoadRect (harg4.unread x3) (ix2 s j) = A.cw s ⟨o' + j.val, by omega⟩ := fun o' h' s => by
    refine (load2 arg4 harg4 x3 (by decide) h' s j).trans (Eq.trans (congrArg x3 (congrArg₂ ix2 (Fin.ext ?_) rfl)) (K.cw s ⟨o' + j.val, by omega⟩))
    show 0 + s.val = s.val; omega
  have hc : ∀ (o' : ℕ) (h' : o' + 768 ≤ 5632),
      View.readAt (Elt Ideal) arg5.view (box (n := 1) (W := 5632) 1 768 0 o' (by decide) h').toLoadRect (harg5.unread x4) (ix2 0 j) = A.cb ⟨o' + j.val, by omega⟩ := fun o' h' =>
    (load2 arg5 harg5 x4 (by decide) h' 0 j).trans (K.cb ⟨o' + j.val, by omega⟩)
  unfold act768
  rw [gluP768_apply]
  unfold FfnMath.Args.act FfnMath.Args.pre
  refine congrArg₂ FfnMath.glu ?_ ?_
  · exact congr (congrArg₂ FfnMath.conv (funext fun s => hw o (by omega) s) (hc o (by omega))) (funext fun s => hb o (by omega) vg hg hhg s)
  · rw [← hf]
    exact congr (congrArg₂ FfnMath.conv (funext fun s => hw (2816 + o) (by omega) s) (hc (2816 + o) (by omega))) (funext fun s => hb (2816 + o) (by omega) vu hu hhu s)

theorem up512_apply (o : ℕ) (h : o + 512 ≤ 5632) (i : Fin 512) (j : Fin 512) :
    up512 arg1 harg1 arg2 harg2 arg3 harg3 arg9 x0 x1 x2 o h (ix2 i j) = A.up (FfnMath.Args.trow t i) ⟨o + j.val, by omega⟩ := by
  unfold up512
  rw [upP512_apply]
  refine Finset.sum_congr rfl fun d _ => congrArg₂ (· * ·) (hrow_apply arg1 harg1 arg2 harg2 arg9 K i d) ?_
  refine (load3 arg3 harg3 x2 (by decide) h d j).trans (Eq.trans (congrArg x2 (congrArg₂ (ix3 0) (Fin.ext ?_) rfl)) (K.wu d ⟨o + j.val, by omega⟩))
  show 0 + d.val = d.val; omega

theorem ext512_apply (o : ℕ) (h : o + 512 ≤ 5632) (halo : FVec Ideal S8x512 .f32) (hh : ∀ (i : Fin 8) (j : Fin 512), halo (ix2 i j) = A.halo t i ⟨o + j.val, by omega⟩) (e : Fin 520) (j : Fin 512) :
    extF 512 halo (up512 arg1 harg1 arg2 harg2 arg3 harg3 arg9 x0 x1 x2 o h) (ix2 e j) = A.ext t e ⟨o + j.val, by omega⟩ := by
  unfold extF FfnMath.Args.ext
  by_cases he : e.val < 8
  · rw [dif_pos he, dif_pos (show ((ix2 e j : S520x512.Idx) 0 : ℕ) < 8 from he)]
    exact hh ⟨e.val, he⟩ j
  · rw [dif_neg he, dif_neg (show ¬ ((ix2 e j : S520x512.Idx) 0 : ℕ) < 8 from he)]
    exact up512_apply arg1 harg1 arg2 harg2 arg3 harg3 arg9 K o h ⟨e.val - 8, by omega⟩ j

theorem act512_apply (vg vu : View sig .tc .vmem S520x512 .f32) (hg hu : FVec Ideal S8x512 .f32) (o : ℕ) (h : o + 512 ≤ 2816)
    (hhg : ∀ (i : Fin 8) (j : Fin 512), hg (ix2 i j) = A.halo t i ⟨o + j.val, by omega⟩) (hhu : ∀ (i : Fin 8) (j : Fin 512), hu (ix2 i j) = A.halo t i ⟨2816 + o + j.val, by omega⟩)
    (k : Fin 8) (i : Fin 64) (j : Fin 512) :
    act512 arg1 harg1 arg2 harg2 arg3 harg3 arg4 harg4 arg5 harg5 arg9 x0 x1 x2 x3 x4 vg vu hg hu o h k (ix2 i j)
      = A.act (FfnMath.Args.trow t ⟨64 * k.val + i.val, by omega⟩) ⟨o + j.val, by omega⟩ := by
  have hf : (⟨2816 + o + j.val, by omega⟩ : Fin 5632) = FfnMath.hi ⟨o + j.val, by omega⟩ := Fin.ext (Nat.add_assoc 2816 o j.val)
  have hb : ∀ (o' : ℕ) (h' : o' + 512 ≤ 5632) (v : View sig .tc .vmem S520x512 .f32) (ha : FVec Ideal S8x512 .f32) (hh : ∀ (i : Fin 8) (j : Fin 512), ha (ix2 i j) = A.halo t i ⟨o' + j.val, by omega⟩) (s : Fin 3),
      band 512 v ha (up512 arg1 harg1 arg2 harg2 arg3 harg3 arg9 x0 x1 x2 o' h') k (ix2 ⟨i.val + 6 + s.val, by omega⟩ j)
        = A.back (FfnMath.Args.trow t ⟨64 * k.val + i.val, by omega⟩) ⟨o' + j.val, by omega⟩ s := fun o' h' v ha hh s => by
    rw [band_apply, ext512_apply arg1 harg1 arg2 harg2 arg3 harg3 arg9 K o' h' ha hh, ← FfnMath.Args.ext_back A t ⟨64 * k.val + i.val, by omega⟩ ⟨o' + j.val, by omega⟩ s (by show 64 * k.val + i.val + 6 + s.val < 520; omega)]
    exact congrArg (fun e => A.ext t e _) (Fin.ext (by show 64 * k.val + (i.val + 6 + s.val) = 64 * k.val + i.val + 6 + s.val; omega))
  have hw : ∀ (o' : ℕ) (h' : o' + 512 ≤ 5632) (s : Fin 3),
      View.readAt (Elt Ideal) arg4.view (box (n := 3) (W := 5632) 3 512 0 o' (by decide) h').toLoadRect (harg4.unread x3) (ix2 s j) = A.cw s ⟨o' + j.val, by omega⟩ := fun o' h' s => by
    refine (load2 arg4 harg4 x3 (by decide) h' s j).trans (Eq.trans (congrArg x3 (congrArg₂ ix2 (Fin.ext ?_) rfl)) (K.cw s ⟨o' + j.val, by omega⟩))
    show 0 + s.val = s.val; omega
  have hc : ∀ (o' : ℕ) (h' : o' + 512 ≤ 5632),
      View.readAt (Elt Ideal) arg5.view (box (n := 1) (W := 5632) 1 512 0 o' (by decide) h').toLoadRect (harg5.unread x4) (ix2 0 j) = A.cb ⟨o' + j.val, by omega⟩ := fun o' h' =>
    (load2 arg5 harg5 x4 (by decide) h' 0 j).trans (K.cb ⟨o' + j.val, by omega⟩)
  unfold act512
  rw [gluP512_apply]
  unfold FfnMath.Args.act FfnMath.Args.pre
  refine congrArg₂ FfnMath.glu ?_ ?_
  · exact congr (congrArg₂ FfnMath.conv (funext fun s => hw o (by omega) s) (hc o (by omega))) (funext fun s => hb o (by omega) vg hg hhg s)
  · rw [← hf]
    exact congr (congrArg₂ FfnMath.conv (funext fun s => hw (2816 + o) (by omega) s) (hc (2816 + o) (by omega))) (funext fun s => hb (2816 + o) (by omega) vu hu hhu s)

include hH

/-- The activations stored so far agree with the mathematics. -/
theorem agree0 : ∀ p ∈ acts0 arg1 harg1 arg2 harg2 arg3 harg3 arg4 harg4 arg5 harg5 arg9 arg12 arg16 x0 x1 x2 x3 x4 H, ∀ x, p.2 x = (fun y : S512x2816.Idx => A.act (FfnMath.Args.trow t (y 0)) (y 1)) (p.1.emb x) :=
  fun p hp x => acts_agree 768 0 (by decide) _ (fun i f => A.act (FfnMath.Args.trow t i) f) (act768_apply arg1 harg1 arg2 harg2 arg3 harg3 arg4 harg4 arg5 harg5 arg9 K arg12.view arg16.view H.g0 H.u0 0 (by decide) hH.g0 hH.u0) p hp x

theorem col0 (v : View sig .tc .vmem S512x2816 .bf16) (i : Fin 512) (j : Fin 768) :
    View.readCov (Val := Elt Ideal) v (acts0 arg1 harg1 arg2 harg2 arg3 harg3 arg4 harg4 arg5 harg5 arg9 arg12 arg16 x0 x1 x2 x3 x4 H) (box (n := 512) (W := 2816) 512 768 0 0 (by decide) (by decide)).toLoadRect (ix2 i j)
      = A.act (FfnMath.Args.trow t i) ⟨0 + j.val, by omega⟩ := by
  unfold acts0
  rw [← List.append_nil (acts 768 0 _ _)]
  exact acts_read 768 0 (by decide) _ [] (fun i f => A.act (FfnMath.Args.trow t i) f) v (act768_apply arg1 harg1 arg2 harg2 arg3 harg3 arg4 harg4 arg5 harg5 arg9 K arg12.view arg16.view H.g0 H.u0 0 (by decide) hH.g0 hH.u0) (fun p hp => absurd hp (List.not_mem_nil)) i j

theorem agree1 : ∀ p ∈ acts1 arg1 harg1 arg2 harg2 arg3 harg3 arg4 harg4 arg5 harg5 arg9 arg12 arg13 arg16 arg17 x0 x1 x2 x3 x4 H, ∀ x, p.2 x = (fun y : S512x2816.Idx => A.act (FfnMath.Args.trow t (y 0)) (y 1)) (p.1.emb x) :=
  fun p hp x => (List.mem_append.1 hp).elim (fun hp => acts_agree 768 768 (by decide) _ (fun i f => A.act (FfnMath.Args.trow t i) f) (act768_apply arg1 harg1 arg2 harg2 arg3 harg3 arg4 harg4 arg5 harg5 arg9 K arg13.view arg17.view H.g1 H.u1 768 (by decide) hH.g1 hH.u1) p hp x) (fun hp => agree0 arg1 harg1 arg2 harg2 arg3 harg3 arg4 harg4 arg5 harg5 arg9 arg12 arg16 K hH p hp x)

theorem col1 (v : View sig .tc .vmem S512x2816 .bf16) (i : Fin 512) (j : Fin 768) :
    View.readCov (Val := Elt Ideal) v (acts1 arg1 harg1 arg2 harg2 arg3 harg3 arg4 harg4 arg5 harg5 arg9 arg12 arg13 arg16 arg17 x0 x1 x2 x3 x4 H) (box (n := 512) (W := 2816) 512 768 0 768 (by decide) (by decide)).toLoadRect (ix2 i j)
      = A.act (FfnMath.Args.trow t i) ⟨768 + j.val, by omega⟩ := by
  unfold acts1
  exact acts_read 768 768 (by decide) _ (acts0 arg1 harg1 arg2 harg2 arg3 harg3 arg4 harg4 arg5 harg5 arg9 arg12 arg16 x0 x1 x2 x3 x4 H) (fun i f => A.act (FfnMath.Args.trow t i) f) v (act768_apply arg1 harg1 arg2 harg2 arg3 harg3 arg4 harg4 arg5 harg5 arg9 K arg13.view arg17.view H.g1 H.u1 768 (by decide) hH.g1 hH.u1) (agree0 arg1 harg1 arg2 harg2 arg3 harg3 arg4 harg4 arg5 harg5 arg9 arg12 arg16 K hH) i j

theorem agree2 : ∀ p ∈ acts2 arg1 harg1 arg2 harg2 arg3 harg3 arg4 harg4 arg5 harg5 arg9 arg12 arg13 arg14 arg16 arg17 arg18 x0 x1 x2 x3 x4 H, ∀ x, p.2 x = (fun y : S512x2816.Idx => A.act (FfnMath.Args.trow t (y 0)) (y 1)) (p.1.emb x) :=
  fun p hp x => (List.mem_append.1 hp).elim (fun hp => acts_agree 768 1536 (by decide) _ (fun i f => A.act (FfnMath.Args.trow t i) f) (act768_apply arg1 harg1 arg2 harg2 arg3 harg3 arg4 harg4 arg5 harg5 arg9 K arg14.view arg18.view H.g2 H.u2 1536 (by decide) hH.g2 hH.u2) p hp x) (fun hp => agree1 arg1 harg1 arg2 harg2 arg3 harg3 arg4 harg4 arg5 harg5 arg9 arg12 arg13 arg16 arg17 K hH p hp x)

theorem col2 (v : View sig .tc .vmem S512x2816 .bf16) (i : Fin 512) (j : Fin 768) :
    View.readCov (Val := Elt Ideal) v (acts2 arg1 harg1 arg2 harg2 arg3 harg3 arg4 harg4 arg5 harg5 arg9 arg12 arg13 arg14 arg16 arg17 arg18 x0 x1 x2 x3 x4 H) (box (n := 512) (W := 2816) 512 768 0 1536 (by decide) (by decide)).toLoadRect (ix2 i j)
      = A.act (FfnMath.Args.trow t i) ⟨1536 + j.val, by omega⟩ := by
  unfold acts2
  exact acts_read 768 1536 (by decide) _ (acts1 arg1 harg1 arg2 harg2 arg3 harg3 arg4 harg4 arg5 harg5 arg9 arg12 arg13 arg16 arg17 x0 x1 x2 x3 x4 H) (fun i f => A.act (FfnMath.Args.trow t i) f) v (act768_apply arg1 harg1 arg2 harg2 arg3 harg3 arg4 harg4 arg5 harg5 arg9 K arg14.view arg18.view H.g2 H.u2 1536 (by decide) hH.g2 hH.u2) (agree1 arg1 harg1 arg2 harg2 arg3 harg3 arg4 harg4 arg5 harg5 arg9 arg12 arg13 arg16 arg17 K hH) i j

theorem agree3 : ∀ p ∈ acts3 arg1 harg1 arg2 harg2 arg3 harg3 arg4 harg4 arg5 harg5 arg9 arg12 arg13 arg14 arg15 arg16 arg17 arg18 arg19 x0 x1 x2 x3 x4 H, ∀ x, p.2 x = (fun y : S512x2816.Idx => A.act (FfnMath.Args.trow t (y 0)) (y 1)) (p.1.emb x) :=
  fun p hp x => (List.mem_append.1 hp).elim (fun hp => acts_agree 512 2304 (by decide) _ (fun i f => A.act (FfnMath.Args.trow t i) f) (act512_apply arg1 harg1 arg2 harg2 arg3 harg3 arg4 harg4 arg5 harg5 arg9 K arg15.view arg19.view H.g3 H.u3 2304 (by decide) hH.g3 hH.u3) p hp x) (fun hp => agree2 arg1 harg1 arg2 harg2 arg3 harg3 arg4 harg4 arg5 harg5 arg9 arg12 arg13 arg14 arg16 arg17 arg18 K hH p hp x)

theorem col3 (v : View sig .tc .vmem S512x2816 .bf16) (i : Fin 512) (j : Fin 512) :
    View.readCov (Val := Elt Ideal) v (acts3 arg1 harg1 arg2 harg2 arg3 harg3 arg4 harg4 arg5 harg5 arg9 arg12 arg13 arg14 arg15 arg16 arg17 arg18 arg19 x0 x1 x2 x3 x4 H) (box (n := 512) (W := 2816) 512 512 0 2304 (by decide) (by decide)).toLoadRect (ix2 i j)
      = A.act (FfnMath.Args.trow t i) ⟨2304 + j.val, by omega⟩ := by
  unfold acts3
  exact acts_read 512 2304 (by decide) _ (acts2 arg1 harg1 arg2 harg2 arg3 harg3 arg4 harg4 arg5 harg5 arg9 arg12 arg13 arg14 arg16 arg17 arg18 x0 x1 x2 x3 x4 H) (fun i f => A.act (FfnMath.Args.trow t i) f) v (act512_apply arg1 harg1 arg2 harg2 arg3 harg3 arg4 harg4 arg5 harg5 arg9 K arg15.view arg19.view H.g3 H.u3 2304 (by decide) hH.g3 hH.u3) (agree2 arg1 harg1 arg2 harg2 arg3 harg3 arg4 harg4 arg5 harg5 arg9 arg12 arg13 arg14 arg16 arg17 arg18 K hH) i j

theorem total0 (v : View sig .tc .vmem S512x1024 .f32) (i : Fin 512) (d : Fin 1024) :
    View.readCov (Val := Elt Ideal) v (sum0 arg1 harg1 arg2 harg2 arg3 harg3 arg4 harg4 arg5 harg5 arg6 harg6 arg9 arg10 arg12 arg16 x0 x1 x2 x3 x4 x5 H) sq.toLoadRect (ix2 i d)
      = (∑ j : Fin 768, A.act (FfnMath.Args.trow t i) ⟨0 + j.val, by omega⟩ * A.wd ⟨0 + j.val, by omega⟩ d) := by
  unfold sum0
  refine (congrFun (View.readCov_unit_lit' (Val := Elt Ideal) v (inb2 (by decide) (by decide)) _ (by decide)) (ix2 i d)).trans ?_
  rw [sumP0_apply]
  refine (Finset.sum_congr rfl fun j _ => congrArg₂ (· * ·) (col0 arg1 harg1 arg2 harg2 arg3 harg3 arg4 harg4 arg5 harg5 arg9 arg12 arg16 K hH arg10.view i j) ?_)
  exact (load3 arg6 harg6 x5 (by decide) (by decide) j d).trans (Eq.trans (congrArg x5 (congrArg₂ (ix3 0) rfl (Fin.ext (by show 0 + d.val = d.val; omega)))) (K.wd ⟨0 + j.val, by omega⟩ d))

theorem total1 (v : View sig .tc .vmem S512x1024 .f32) (i : Fin 512) (d : Fin 1024) :
    View.readCov (Val := Elt Ideal) v (sum1 arg1 harg1 arg2 harg2 arg3 harg3 arg4 harg4 arg5 harg5 arg6 harg6 arg9 arg10 arg11 arg12 arg13 arg16 arg17 x0 x1 x2 x3 x4 x5 H) sq.toLoadRect (ix2 i d)
      = (∑ j : Fin 768, A.act (FfnMath.Args.trow t i) ⟨0 + j.val, by omega⟩ * A.wd ⟨0 + j.val, by omega⟩ d) + (∑ j : Fin 768, A.act (FfnMath.Args.trow t i) ⟨768 + j.val, by omega⟩ * A.wd ⟨768 + j.val, by omega⟩ d) := by
  unfold sum1
  refine (congrFun (View.readCov_cons_unit_lit' (Val := Elt Ideal) v (inb2 (by decide) (by decide)) (inb2 (by decide) (by decide)) _ _ (by decide) (by decide)) (ix2 i d)).trans ?_
  rw [sumP768_apply]
  refine congrArg₂ (· + ·) (total0 arg1 harg1 arg2 harg2 arg3 harg3 arg4 harg4 arg5 harg5 arg6 harg6 arg9 arg10 arg12 arg16 K hH arg11.view i d) (Finset.sum_congr rfl fun j _ => congrArg₂ (· * ·) (col1 arg1 harg1 arg2 harg2 arg3 harg3 arg4 harg4 arg5 harg5 arg9 arg12 arg13 arg16 arg17 K hH arg10.view i j) ?_)
  exact (load3 arg6 harg6 x5 (by decide) (by decide) j d).trans (Eq.trans (congrArg x5 (congrArg₂ (ix3 0) rfl (Fin.ext (by show 0 + d.val = d.val; omega)))) (K.wd ⟨768 + j.val, by omega⟩ d))

theorem total2 (v : View sig .tc .vmem S512x1024 .f32) (i : Fin 512) (d : Fin 1024) :
    View.readCov (Val := Elt Ideal) v (sum2 arg1 harg1 arg2 harg2 arg3 harg3 arg4 harg4 arg5 harg5 arg6 harg6 arg9 arg10 arg11 arg12 arg13 arg14 arg16 arg17 arg18 x0 x1 x2 x3 x4 x5 H) sq.toLoadRect (ix2 i d)
      = (∑ j : Fin 768, A.act (FfnMath.Args.trow t i) ⟨0 + j.val, by omega⟩ * A.wd ⟨0 + j.val, by omega⟩ d) + (∑ j : Fin 768, A.act (FfnMath.Args.trow t i) ⟨768 + j.val, by omega⟩ * A.wd ⟨768 + j.val, by omega⟩ d) + (∑ j : Fin 768, A.act (FfnMath.Args.trow t i) ⟨1536 + j.val, by omega⟩ * A.wd ⟨1536 + j.val, by omega⟩ d) := by
  unfold sum2
  refine (congrFun (View.readCov_cons_unit_lit' (Val := Elt Ideal) v (inb2 (by decide) (by decide)) (inb2 (by decide) (by decide)) _ _ (by decide) (by decide)) (ix2 i d)).trans ?_
  rw [sumP768_apply]
  refine congrArg₂ (· + ·) (total1 arg1 harg1 arg2 harg2 arg3 harg3 arg4 harg4 arg5 harg5 arg6 harg6 arg9 arg10 arg11 arg12 arg13 arg16 arg17 K hH arg11.view i d) (Finset.sum_congr rfl fun j _ => congrArg₂ (· * ·) (col2 arg1 harg1 arg2 harg2 arg3 harg3 arg4 harg4 arg5 harg5 arg9 arg12 arg13 arg14 arg16 arg17 arg18 K hH arg10.view i j) ?_)
  exact (load3 arg6 harg6 x5 (by decide) (by decide) j d).trans (Eq.trans (congrArg x5 (congrArg₂ (ix3 0) rfl (Fin.ext (by show 0 + d.val = d.val; omega)))) (K.wd ⟨1536 + j.val, by omega⟩ d))

theorem total3 (v : View sig .tc .vmem S512x1024 .f32) (i : Fin 512) (d : Fin 1024) :
    View.readCov (Val := Elt Ideal) v (sum3 arg1 harg1 arg2 harg2 arg3 harg3 arg4 harg4 arg5 harg5 arg6 harg6 arg9 arg10 arg11 arg12 arg13 arg14 arg15 arg16 arg17 arg18 arg19 x0 x1 x2 x3 x4 x5 H) sq.toLoadRect (ix2 i d)
      = (∑ j : Fin 768, A.act (FfnMath.Args.trow t i) ⟨0 + j.val, by omega⟩ * A.wd ⟨0 + j.val, by omega⟩ d) + (∑ j : Fin 768, A.act (FfnMath.Args.trow t i) ⟨768 + j.val, by omega⟩ * A.wd ⟨768 + j.val, by omega⟩ d) + (∑ j : Fin 768, A.act (FfnMath.Args.trow t i) ⟨1536 + j.val, by omega⟩ * A.wd ⟨1536 + j.val, by omega⟩ d) + (∑ j : Fin 512, A.act (FfnMath.Args.trow t i) ⟨2304 + j.val, by omega⟩ * A.wd ⟨2304 + j.val, by omega⟩ d) := by
  unfold sum3
  refine (congrFun (View.readCov_cons_unit_lit' (Val := Elt Ideal) v (inb2 (by decide) (by decide)) (inb2 (by decide) (by decide)) _ _ (by decide) (by decide)) (ix2 i d)).trans ?_
  rw [sumP512_apply]
  refine congrArg₂ (· + ·) (total2 arg1 harg1 arg2 harg2 arg3 harg3 arg4 harg4 arg5 harg5 arg6 harg6 arg9 arg10 arg11 arg12 arg13 arg14 arg16 arg17 arg18 K hH arg11.view i d) (Finset.sum_congr rfl fun j _ => congrArg₂ (· * ·) (col3 arg1 harg1 arg2 harg2 arg3 harg3 arg4 harg4 arg5 harg5 arg9 arg12 arg13 arg14 arg15 arg16 arg17 arg18 arg19 K hH arg10.view i j) ?_)
  exact (load3 arg6 harg6 x5 (by decide) (by decide) j d).trans (Eq.trans (congrArg x5 (congrArg₂ (ix3 0) rfl (Fin.ext (by show 0 + d.val = d.val; omega)))) (K.wd ⟨2304 + j.val, by omega⟩ d))

/-- The tile's result. -/
theorem res_read (v : View sig .tc .vmem S512x1024 .f32) (f : v.ty.Contents (Elt Ideal)) (i : Fin 512) (d : Fin 1024) :
    v.read (Elt Ideal) (v.writes (Elt Ideal) f (res arg1 harg1 arg2 harg2 arg3 harg3 arg4 harg4 arg5 harg5 arg6 harg6 arg7 harg7 arg9 arg10 arg11 arg12 arg13 arg14 arg15 arg16 arg17 arg18 arg19 x0 x1 x2 x3 x4 x5 x6 H)) (ix2 i d)
      = FfnMath.rms (A.y (FfnMath.Args.trow t i)) (fun d => x6 (ix2 0 d)) d := by
  have cov : ∀ y, ∃ p ∈ res arg1 harg1 arg2 harg2 arg3 harg3 arg4 harg4 arg5 harg5 arg6 harg6 arg7 harg7 arg9 arg10 arg11 arg12 arg13 arg14 arg15 arg16 arg17 arg18 arg19 x0 x1 x2 x3 x4 x5 x6 H, y ∈ p.1.set := fun y =>
    ⟨_, .head _, box_mem (by decide) (by decide) y (Nat.zero_le _) (by have : (y 0 : ℕ) < 512 := (y 0).isLt; omega) (Nat.zero_le _) (by have : (y 1 : ℕ) < 1024 := (y 1).isLt; omega)⟩
  rw [View.read_writes_eq_canon v f _ cov]
  unfold res
  refine (congrFun (View.canon_cons_unit_lit' (Val := Elt Ideal) (inb2 (by decide) (by decide)) _ [] (by decide)) (ix2 i d)).trans ?_
  rw [pay127_apply]
  refine congrArg₂ (fun x g => FfnMath.rms x g d) (funext fun d => ?_) (funext fun d => ?_)
  · refine congrArg₂ (· + ·) (x_apply arg1 harg1 K i d) ((total3 arg1 harg1 arg2 harg2 arg3 harg3 arg4 harg4 arg5 harg5 arg6 harg6 arg9 arg10 arg11 arg12 arg13 arg14 arg15 arg16 arg17 arg18 arg19 K hH arg11.view i d).trans ?_)
    rw [FfnMath.sum_chunks]
    simp only [Nat.zero_add]
  · refine (load2 arg7 harg7 x6 (by decide) (by decide) 0 d).trans (congrArg x6 (congrArg₂ ix2 rfl (Fin.ext ?_)))
    show 0 + d.val = d.val; omega
end
end Cert.FfnKernelIdeal.Tile
end
-- ==== Proof.FfnRun.lean ====
/- What a tile of the feed-forward kernel leaves. -/
module
public import proofs.«01_k».proof.Proof.FfnBlock
@[expose] public section
set_option maxRecDepth 16384
noncomputable section
namespace Cert.FfnKernelIdeal.Tile
open Idealize.ShloMosaic Idealize.ShloMosaic.TcCoe Idealize.SL.Sem
open Cert.FfnKernelIdeal Cert.FfnKernelIdeal.Gen Cert.FfnTile

/-- A tile's block of the result, and its eight extended chunks of the up-projection. -/
structure Left (A : FfnMath.Args) (fg : Fin 1024 → EReal) (t : Fin 32) (y : Vec Ideal S512x1024 .f32) (xs3 : Vec Ideal S520x768 .f32) (xs4 : Vec Ideal S520x768 .f32) (xs5 : Vec Ideal S520x768 .f32) (xs6 : Vec Ideal S520x512 .f32) (xs7 : Vec Ideal S520x768 .f32) (xs8 : Vec Ideal S520x768 .f32) (xs9 : Vec Ideal S520x768 .f32) (xs10 : Vec Ideal S520x512 .f32) : Prop where
  out : ∀ i d, y (ix2 i d) = FfnMath.rms (A.y (FfnMath.Args.trow t i)) fg d
  s3 : ∀ (e : Fin 520) (j : Fin 768), xs3 (ix2 e j) = A.ext t e ⟨0 + j.val, by omega⟩
  s4 : ∀ (e : Fin 520) (j : Fin 768), xs4 (ix2 e j) = A.ext t e ⟨768 + j.val, by omega⟩
  s5 : ∀ (e : Fin 520) (j : Fin 768), xs5 (ix2 e j) = A.ext t e ⟨1536 + j.val, by omega⟩
  s6 : ∀ (e : Fin 520) (j : Fin 512), xs6 (ix2 e j) = A.ext t e ⟨2304 + j.val, by omega⟩
  s7 : ∀ (e : Fin 520) (j : Fin 768), xs7 (ix2 e j) = A.ext t e ⟨2816 + j.val, by omega⟩
  s8 : ∀ (e : Fin 520) (j : Fin 768), xs8 (ix2 e j) = A.ext t e ⟨3584 + j.val, by omega⟩
  s9 : ∀ (e : Fin 520) (j : Fin 768), xs9 (ix2 e j) = A.ext t e ⟨4352 + j.val, by omega⟩
  s10 : ∀ (e : Fin 520) (j : Fin 512), xs10 (ix2 e j) = A.ext t e ⟨5120 + j.val, by omega⟩

section
variable {A : FfnMath.Args} {t : Fin 32} (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S1x2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S520x768 .f32) (harg12 : arg12.IsWhole) (arg13 : Memref sig .tc .vmem S520x768 .f32) (harg13 : arg13.IsWhole) (arg14 : Memref sig .tc .vmem S520x768 .f32) (harg14 : arg14.IsWhole) (arg15 : Memref sig .tc .vmem S520x512 .f32) (harg15 : arg15.IsWhole) (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole)
    (x0 : Vec Ideal S512x1024 .f32) (x1 : Vec Ideal S1x1024 .f32) (x2 : Vec Ideal S1x1024x5632 .bf16) (x3 : Vec Ideal S3x5632 .f32) (x4 : Vec Ideal S1x5632 .f32) (x5 : Vec Ideal S1x2816x1024 .bf16) (x6 : Vec Ideal S1x1024 .f32)
    (xs3 : Vec Ideal S520x768 .f32) (xs4 : Vec Ideal S520x768 .f32) (xs5 : Vec Ideal S520x768 .f32) (xs6 : Vec Ideal S520x512 .f32) (xs7 : Vec Ideal S520x768 .f32) (xs8 : Vec Ideal S520x768 .f32) (xs9 : Vec Ideal S520x768 .f32) (xs10 : Vec Ideal S520x512 .f32)
    (K : Holds A t x0 x1 x2 x3 x4 x5)
include K

theorem outA (hc0 : cond0_0 i) (hc1 : ¬ cond0_1 i) (hH : Halo.Is haloA (A.halo t)) (r : Fin 512) (d : Fin 1024) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 r d) = FfnMath.rms (A.y (FfnMath.Args.trow t r)) (fun d => x6 (ix2 0 d)) d := by
  unfold out0_A_7
  rw [resA]
  exact res_read arg1 harg1 arg2 harg2 arg3 harg3 arg4 harg4 arg5 harg5 arg6 harg6 arg7 harg7 arg9 arg10 arg11 arg12 arg13 arg14 arg15 arg16 arg17 arg18 arg19 x6 K hH VO0_7 VO0_7.junk r d

theorem chunkA_3 (hc0 : cond0_0 i) (hc1 : ¬ cond0_1 i) (hH : Halo.Is haloA (A.halo t)) (e : Fin 520) (j : Fin 768) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 e j) = A.ext t e ⟨0 + j.val, by omega⟩ := by
  unfold sout0_A_3
  rw [extA_3, read_ext]
  exact ext768_apply arg1 harg1 arg2 harg2 arg3 harg3 arg9 K 0 (by decide) haloA.g0 hH.g0 e j

theorem chunkA_4 (hc0 : cond0_0 i) (hc1 : ¬ cond0_1 i) (hH : Halo.Is haloA (A.halo t)) (e : Fin 520) (j : Fin 768) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 e j) = A.ext t e ⟨768 + j.val, by omega⟩ := by
  unfold sout0_A_4
  rw [extA_4, read_ext]
  exact ext768_apply arg1 harg1 arg2 harg2 arg3 harg3 arg9 K 768 (by decide) haloA.g1 hH.g1 e j

theorem chunkA_5 (hc0 : cond0_0 i) (hc1 : ¬ cond0_1 i) (hH : Halo.Is haloA (A.halo t)) (e : Fin 520) (j : Fin 768) :
    sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 e j) = A.ext t e ⟨1536 + j.val, by omega⟩ := by
  unfold sout0_A_5
  rw [extA_5, read_ext]
  exact ext768_apply arg1 harg1 arg2 harg2 arg3 harg3 arg9 K 1536 (by decide) haloA.g2 hH.g2 e j

theorem chunkA_6 (hc0 : cond0_0 i) (hc1 : ¬ cond0_1 i) (hH : Halo.Is haloA (A.halo t)) (e : Fin 520) (j : Fin 512) :
    sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 e j) = A.ext t e ⟨2304 + j.val, by omega⟩ := by
  unfold sout0_A_6
  rw [extA_6, read_ext]
  exact ext512_apply arg1 harg1 arg2 harg2 arg3 harg3 arg9 K 2304 (by decide) haloA.g3 hH.g3 e j

theorem chunkA_7 (hc0 : cond0_0 i) (hc1 : ¬ cond0_1 i) (hH : Halo.Is haloA (A.halo t)) (e : Fin 520) (j : Fin 768) :
    sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 e j) = A.ext t e ⟨2816 + j.val, by omega⟩ := by
  unfold sout0_A_7
  rw [extA_7, read_ext]
  exact ext768_apply arg1 harg1 arg2 harg2 arg3 harg3 arg9 K 2816 (by decide) haloA.u0 hH.u0 e j

theorem chunkA_8 (hc0 : cond0_0 i) (hc1 : ¬ cond0_1 i) (hH : Halo.Is haloA (A.halo t)) (e : Fin 520) (j : Fin 768) :
    sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 e j) = A.ext t e ⟨3584 + j.val, by omega⟩ := by
  unfold sout0_A_8
  rw [extA_8, read_ext]
  exact ext768_apply arg1 harg1 arg2 harg2 arg3 harg3 arg9 K 3584 (by decide) haloA.u1 hH.u1 e j

theorem chunkA_9 (hc0 : cond0_0 i) (hc1 : ¬ cond0_1 i) (hH : Halo.Is haloA (A.halo t)) (e : Fin 520) (j : Fin 768) :
    sout0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 e j) = A.ext t e ⟨4352 + j.val, by omega⟩ := by
  unfold sout0_A_9
  rw [extA_9, read_ext]
  exact ext768_apply arg1 harg1 arg2 harg2 arg3 harg3 arg9 K 4352 (by decide) haloA.u2 hH.u2 e j

theorem chunkA_10 (hc0 : cond0_0 i) (hc1 : ¬ cond0_1 i) (hH : Halo.Is haloA (A.halo t)) (e : Fin 520) (j : Fin 512) :
    sout0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 e j) = A.ext t e ⟨5120 + j.val, by omega⟩ := by
  unfold sout0_A_10
  rw [extA_10, read_ext]
  exact ext512_apply arg1 harg1 arg2 harg2 arg3 harg3 arg9 K 5120 (by decide) haloA.u3 hH.u3 e j

theorem outB (hc0 : ¬ cond0_0 i) (hc1 : cond0_1 i) (hH : Halo.Is (haloB arg12 harg12 arg13 harg13 arg14 harg14 arg15 harg15 arg16 harg16 arg17 harg17 arg18 harg18 arg19 harg19 xs3 xs4 xs5 xs6 xs7 xs8 xs9 xs10) (A.halo t)) (r : Fin 512) (d : Fin 1024) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10 (ix2 r d) = FfnMath.rms (A.y (FfnMath.Args.trow t r)) (fun d => x6 (ix2 0 d)) d := by
  unfold out0_B_7
  rw [resB]
  exact res_read arg1 harg1 arg2 harg2 arg3 harg3 arg4 harg4 arg5 harg5 arg6 harg6 arg7 harg7 arg9 arg10 arg11 arg12 arg13 arg14 arg15 arg16 arg17 arg18 arg19 x6 K hH VO0_7 VO0_7.junk r d

theorem chunkB_3 (hc0 : ¬ cond0_0 i) (hc1 : cond0_1 i) (hH : Halo.Is (haloB arg12 harg12 arg13 harg13 arg14 harg14 arg15 harg15 arg16 harg16 arg17 harg17 arg18 harg18 arg19 harg19 xs3 xs4 xs5 xs6 xs7 xs8 xs9 xs10) (A.halo t)) (e : Fin 520) (j : Fin 768) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10 (ix2 e j) = A.ext t e ⟨0 + j.val, by omega⟩ := by
  unfold sout0_B_3
  rw [extB_3, read_ext]
  exact ext768_apply arg1 harg1 arg2 harg2 arg3 harg3 arg9 K 0 (by decide) (haloB arg12 harg12 arg13 harg13 arg14 harg14 arg15 harg15 arg16 harg16 arg17 harg17 arg18 harg18 arg19 harg19 xs3 xs4 xs5 xs6 xs7 xs8 xs9 xs10).g0 hH.g0 e j

theorem chunkB_4 (hc0 : ¬ cond0_0 i) (hc1 : cond0_1 i) (hH : Halo.Is (haloB arg12 harg12 arg13 harg13 arg14 harg14 arg15 harg15 arg16 harg16 arg17 harg17 arg18 harg18 arg19 harg19 xs3 xs4 xs5 xs6 xs7 xs8 xs9 xs10) (A.halo t)) (e : Fin 520) (j : Fin 768) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10 (ix2 e j) = A.ext t e ⟨768 + j.val, by omega⟩ := by
  unfold sout0_B_4
  rw [extB_4, read_ext]
  exact ext768_apply arg1 harg1 arg2 harg2 arg3 harg3 arg9 K 768 (by decide) (haloB arg12 harg12 arg13 harg13 arg14 harg14 arg15 harg15 arg16 harg16 arg17 harg17 arg18 harg18 arg19 harg19 xs3 xs4 xs5 xs6 xs7 xs8 xs9 xs10).g1 hH.g1 e j

theorem chunkB_5 (hc0 : ¬ cond0_0 i) (hc1 : cond0_1 i) (hH : Halo.Is (haloB arg12 harg12 arg13 harg13 arg14 harg14 arg15 harg15 arg16 harg16 arg17 harg17 arg18 harg18 arg19 harg19 xs3 xs4 xs5 xs6 xs7 xs8 xs9 xs10) (A.halo t)) (e : Fin 520) (j : Fin 768) :
    sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10 (ix2 e j) = A.ext t e ⟨1536 + j.val, by omega⟩ := by
  unfold sout0_B_5
  rw [extB_5, read_ext]
  exact ext768_apply arg1 harg1 arg2 harg2 arg3 harg3 arg9 K 1536 (by decide) (haloB arg12 harg12 arg13 harg13 arg14 harg14 arg15 harg15 arg16 harg16 arg17 harg17 arg18 harg18 arg19 harg19 xs3 xs4 xs5 xs6 xs7 xs8 xs9 xs10).g2 hH.g2 e j

theorem chunkB_6 (hc0 : ¬ cond0_0 i) (hc1 : cond0_1 i) (hH : Halo.Is (haloB arg12 harg12 arg13 harg13 arg14 harg14 arg15 harg15 arg16 harg16 arg17 harg17 arg18 harg18 arg19 harg19 xs3 xs4 xs5 xs6 xs7 xs8 xs9 xs10) (A.halo t)) (e : Fin 520) (j : Fin 512) :
    sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10 (ix2 e j) = A.ext t e ⟨2304 + j.val, by omega⟩ := by
  unfold sout0_B_6
  rw [extB_6, read_ext]
  exact ext512_apply arg1 harg1 arg2 harg2 arg3 harg3 arg9 K 2304 (by decide) (haloB arg12 harg12 arg13 harg13 arg14 harg14 arg15 harg15 arg16 harg16 arg17 harg17 arg18 harg18 arg19 harg19 xs3 xs4 xs5 xs6 xs7 xs8 xs9 xs10).g3 hH.g3 e j

theorem chunkB_7 (hc0 : ¬ cond0_0 i) (hc1 : cond0_1 i) (hH : Halo.Is (haloB arg12 harg12 arg13 harg13 arg14 harg14 arg15 harg15 arg16 harg16 arg17 harg17 arg18 harg18 arg19 harg19 xs3 xs4 xs5 xs6 xs7 xs8 xs9 xs10) (A.halo t)) (e : Fin 520) (j : Fin 768) :
    sout0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10 (ix2 e j) = A.ext t e ⟨2816 + j.val, by omega⟩ := by
  unfold sout0_B_7
  rw [extB_7, read_ext]
  exact ext768_apply arg1 harg1 arg2 harg2 arg3 harg3 arg9 K 2816 (by decide) (haloB arg12 harg12 arg13 harg13 arg14 harg14 arg15 harg15 arg16 harg16 arg17 harg17 arg18 harg18 arg19 harg19 xs3 xs4 xs5 xs6 xs7 xs8 xs9 xs10).u0 hH.u0 e j

theorem chunkB_8 (hc0 : ¬ cond0_0 i) (hc1 : cond0_1 i) (hH : Halo.Is (haloB arg12 harg12 arg13 harg13 arg14 harg14 arg15 harg15 arg16 harg16 arg17 harg17 arg18 harg18 arg19 harg19 xs3 xs4 xs5 xs6 xs7 xs8 xs9 xs10) (A.halo t)) (e : Fin 520) (j : Fin 768) :
    sout0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10 (ix2 e j) = A.ext t e ⟨3584 + j.val, by omega⟩ := by
  unfold sout0_B_8
  rw [extB_8, read_ext]
  exact ext768_apply arg1 harg1 arg2 harg2 arg3 harg3 arg9 K 3584 (by decide) (haloB arg12 harg12 arg13 harg13 arg14 harg14 arg15 harg15 arg16 harg16 arg17 harg17 arg18 harg18 arg19 harg19 xs3 xs4 xs5 xs6 xs7 xs8 xs9 xs10).u1 hH.u1 e j

theorem chunkB_9 (hc0 : ¬ cond0_0 i) (hc1 : cond0_1 i) (hH : Halo.Is (haloB arg12 harg12 arg13 harg13 arg14 harg14 arg15 harg15 arg16 harg16 arg17 harg17 arg18 harg18 arg19 harg19 xs3 xs4 xs5 xs6 xs7 xs8 xs9 xs10) (A.halo t)) (e : Fin 520) (j : Fin 768) :
    sout0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10 (ix2 e j) = A.ext t e ⟨4352 + j.val, by omega⟩ := by
  unfold sout0_B_9
  rw [extB_9, read_ext]
  exact ext768_apply arg1 harg1 arg2 harg2 arg3 harg3 arg9 K 4352 (by decide) (haloB arg12 harg12 arg13 harg13 arg14 harg14 arg15 harg15 arg16 harg16 arg17 harg17 arg18 harg18 arg19 harg19 xs3 xs4 xs5 xs6 xs7 xs8 xs9 xs10).u2 hH.u2 e j

theorem chunkB_10 (hc0 : ¬ cond0_0 i) (hc1 : cond0_1 i) (hH : Halo.Is (haloB arg12 harg12 arg13 harg13 arg14 harg14 arg15 harg15 arg16 harg16 arg17 harg17 arg18 harg18 arg19 harg19 xs3 xs4 xs5 xs6 xs7 xs8 xs9 xs10) (A.halo t)) (e : Fin 520) (j : Fin 512) :
    sout0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs3 xs4 xs5 xs6 xs7 xs8 xs9 xs10 (ix2 e j) = A.ext t e ⟨5120 + j.val, by omega⟩ := by
  unfold sout0_B_10
  rw [extB_10, read_ext]
  exact ext512_apply arg1 harg1 arg2 harg2 arg3 harg3 arg9 K 5120 (by decide) (haloB arg12 harg12 arg13 harg13 arg14 harg14 arg15 harg15 arg16 harg16 arg17 harg17 arg18 harg18 arg19 harg19 xs3 xs4 xs5 xs6 xs7 xs8 xs9 xs10).u3 hH.u3 e j

end

theorem haloA_eq (A : FfnMath.Args) (t : Fin 32) (hz : t.val % 8 = 0) : Halo.Is haloA (A.halo t) := by
  have e : A.halo t = fun _ _ => 0 := funext fun i => funext fun f => if_pos hz
  rw [e]; exact haloA_is

end Cert.FfnKernelIdeal.Tile
end
-- ==== Proof.FfnKernel.lean ====
/- What the feed-forward kernel's result array holds. -/
module
public import proofs.«01_k».proof.Proof.FfnRun
public import proofs.«01_k».proof.Proof.Gen.FfnKernelIdeal.Value
public import Idealize.ShloMosaic.Lib.Pipeline.ValueKit
@[expose] public section
set_option maxRecDepth 16384
noncomputable section
namespace Cert.FfnKernelIdeal.Tile
open Idealize.ShloMosaic Idealize.ShloMosaic.TcCoe Idealize.SL.Sem
open Cert.FfnKernelIdeal Cert.FfnKernelIdeal.Gen Cert.FfnTile

variable (m : (ℓ : Loc nD τ sig) → Buf (Elt Ideal) ℓ)

/-- The arguments, by row and column: the second layer of each weight stack. -/
def args (c : Dev nD) : FfnMath.Args where
  x r d := m ((c : Thread nD τ).loc main_arg0) (ix2 r d)
  g d := m ((c : Thread nD τ).loc main_arg1) (ix1 d)
  wu d f := m ((c : Thread nD τ).loc main_arg2) (ix3 1 d f)
  cw s f := m ((c : Thread nD τ).loc main_arg3) (ix2 s f)
  cb f := m ((c : Thread nD τ).loc main_arg4) (ix1 f)
  wd f d := m ((c : Thread nD τ).loc main_arg5) (ix3 1 f d)

/-- The final norm's gain. -/
def fgain (c : Dev nD) (d : Fin 1024) : EReal := m ((c : Thread nD τ).loc main_arg6) (ix1 d)

/-- The block a point works on, of each window. -/
theorem idx : ∀ t : Fin cfg0.N, (∀ a : Fin 2, win0_0.index t a = ![t.val, 0] a) ∧ (∀ a : Fin 2, win0_1.index t a = ![0, 0] a) ∧ (∀ a : Fin 3, win0_2.index t a = ![1, 0, 0] a)
    ∧ (∀ a : Fin 2, win0_3.index t a = ![0, 0] a) ∧ (∀ a : Fin 2, win0_4.index t a = ![0, 0] a) ∧ (∀ a : Fin 3, win0_5.index t a = ![1, 0, 0] a) ∧ (∀ a : Fin 2, win0_6.index t a = ![0, 0] a) ∧ (∀ a : Fin 2, win0_7.index t a = ![t.val, 0] a) :=
  (by decide +kernel : ∀ t : Fin grid0.N, _)

theorem v0_apply (c : Dev nD) (e : Fin 1024) : V m c main_v0 (ix2 0 e) = m ((c : Thread nD τ).loc main_arg1) (ix1 e) := by
  entry_read
  pointwise

theorem v1_apply (c : Dev nD) (e : Fin 5632) : V m c main_v1 (ix2 0 e) = m ((c : Thread nD τ).loc main_arg4) (ix1 e) := by
  entry_read
  pointwise

theorem v2_apply (c : Dev nD) (e : Fin 1024) : V m c main_v2 (ix2 0 e) = m ((c : Thread nD τ).loc main_arg6) (ix1 e) := by
  entry_read
  pointwise

def tOf (t : Fin cfg0.N) : Fin 32 := ⟨t.val, lt_of_lt_of_eq t.isLt N_0⟩

theorem eq_idx {n k : ℕ} (i : (⟨2, ![n, k]⟩ : Shape).Idx) (a : Fin n) (b : Fin k) (h0 : (i 0 : ℕ) = a.val) (h1 : (i 1 : ℕ) = b.val) : i = ix2 a b :=
  (eq_ix2 i).trans (congrArg₂ ix2 (Fin.ext h0) (Fin.ext h1))

theorem eq_idx3 {l n k : ℕ} (i : (⟨3, ![l, n, k]⟩ : Shape).Idx) (q : Fin l) (a : Fin n) (b : Fin k) (h : (i 0 : ℕ) = q.val) (h0 : (i 1 : ℕ) = a.val) (h1 : (i 2 : ℕ) = b.val) : i = ix3 q a b := by
  rw [eq_ix3 i]
  rw [show i 0 = q from Fin.ext h, show i 1 = a from Fin.ext h0, show i 2 = b from Fin.ext h1]

theorem gain6 (c : Dev nD) (t : Fin cfg0.N) (d : Fin 1024) : iblk m c 6 t (ix2 0 d) = fgain m c d := by
  have h6 := (idx t).2.2.2.2.2.2.1
  refine Eq.trans ?_ (v2_apply m c d)
  show V m c main_v2 (((cfg0.win 6).blk t).view.emb (ix2 0 d)) = _
  refine congrArg (V m c main_v2) (eq_idx _ _ _ ?_ ?_)
  · show win0_6.index t 0 * 1 + 1 * 0 = 0
    rw [h6]; rfl
  · show win0_6.index t 1 * 1024 + 1 * d.val = d.val
    rw [h6]; show 0 * 1024 + 1 * d.val = _; omega

theorem holds (c : Dev nD) (t : Fin cfg0.N) : Holds (args m c) (tOf t) (iblk m c 0 t) (iblk m c 1 t) (iblk m c 2 t) (iblk m c 3 t) (iblk m c 4 t) (iblk m c 5 t) := by
  obtain ⟨h0, h1, h2, h3, h4, h5, -, -⟩ := idx t
  refine ⟨fun r d => ?_, fun d => ?_, fun d f => ?_, fun s f => ?_, fun f => ?_, fun f d => ?_⟩
  · show V m c main_arg0 (((cfg0.win 0).blk t).view.emb (ix2 r d)) = _
    rw [V_main_arg0]
    refine congrArg (m ((c : Thread nD τ).loc main_arg0)) (eq_idx _ _ _ ?_ ?_)
    · show win0_0.index t 0 * 512 + 1 * r.val = 512 * t.val + r.val
      rw [h0]; show t.val * 512 + 1 * r.val = _; omega
    · show win0_0.index t 1 * 1024 + 1 * d.val = d.val
      rw [h0]; show 0 * 1024 + 1 * d.val = _; omega
  · refine Eq.trans ?_ (v0_apply m c d)
    show V m c main_v0 (((cfg0.win 1).blk t).view.emb (ix2 0 d)) = _
    refine congrArg (V m c main_v0) (eq_idx _ _ _ ?_ ?_)
    · show win0_1.index t 0 * 1 + 1 * 0 = 0
      rw [h1]; rfl
    · show win0_1.index t 1 * 1024 + 1 * d.val = d.val
      rw [h1]; show 0 * 1024 + 1 * d.val = _; omega
  · show V m c main_arg2 (((cfg0.win 2).blk t).view.emb (ix3 0 d f)) = _
    rw [V_main_arg2]
    refine congrArg (m ((c : Thread nD τ).loc main_arg2)) (eq_idx3 _ _ _ _ ?_ ?_ ?_)
    · show win0_2.index t 0 * 1 + 1 * 0 = 1
      rw [h2]; rfl
    · show win0_2.index t 1 * 1024 + 1 * d.val = d.val
      rw [h2]; show 0 * 1024 + 1 * d.val = _; omega
    · show win0_2.index t 2 * 5632 + 1 * f.val = f.val
      rw [h2]; show 0 * 5632 + 1 * f.val = _; omega
  · show V m c main_arg3 (((cfg0.win 3).blk t).view.emb (ix2 s f)) = _
    rw [V_main_arg3]
    refine congrArg (m ((c : Thread nD τ).loc main_arg3)) (eq_idx _ _ _ ?_ ?_)
    · show win0_3.index t 0 * 3 + 1 * s.val = s.val
      rw [h3]; show 0 * 3 + 1 * s.val = _; omega
    · show win0_3.index t 1 * 5632 + 1 * f.val = f.val
      rw [h3]; show 0 * 5632 + 1 * f.val = _; omega
  · refine Eq.trans ?_ (v1_apply m c f)
    show V m c main_v1 (((cfg0.win 4).blk t).view.emb (ix2 0 f)) = _
    refine congrArg (V m c main_v1) (eq_idx _ _ _ ?_ ?_)
    · show win0_4.index t 0 * 1 + 1 * 0 = 0
      rw [h4]; rfl
    · show win0_4.index t 1 * 5632 + 1 * f.val = f.val
      rw [h4]; show 0 * 5632 + 1 * f.val = _; omega
  · show V m c main_arg5 (((cfg0.win 5).blk t).view.emb (ix3 0 f d)) = _
    rw [V_main_arg5]
    refine congrArg (m ((c : Thread nD τ).loc main_arg5)) (eq_idx3 _ _ _ _ ?_ ?_ ?_)
    · show win0_5.index t 0 * 1 + 1 * 0 = 1
      rw [h5]; rfl
    · show win0_5.index t 1 * 2816 + 1 * f.val = f.val
      rw [h5]; show 0 * 2816 + 1 * f.val = _; omega
    · show win0_5.index t 2 * 1024 + 1 * d.val = d.val
      rw [h5]; show 0 * 1024 + 1 * d.val = _; omega

theorem Left.of_eq {A : FfnMath.Args} {fg : Fin 1024 → EReal} {t : Fin 32} {p : Vec Ideal S512x1024 .f32 × Vec Ideal S520x768 .f32 × Vec Ideal S520x768 .f32 × Vec Ideal S520x768 .f32 × Vec Ideal S520x512 .f32 × Vec Ideal S520x768 .f32 × Vec Ideal S520x768 .f32 × Vec Ideal S520x768 .f32 × Vec Ideal S520x512 .f32} {y : Vec Ideal S512x1024 .f32}
    {xs3 : Vec Ideal S520x768 .f32} {xs4 : Vec Ideal S520x768 .f32} {xs5 : Vec Ideal S520x768 .f32} {xs6 : Vec Ideal S520x512 .f32} {xs7 : Vec Ideal S520x768 .f32} {xs8 : Vec Ideal S520x768 .f32} {xs9 : Vec Ideal S520x768 .f32} {xs10 : Vec Ideal S520x512 .f32}
    (e : p = (y, xs3, xs4, xs5, xs6, xs7, xs8, xs9, xs10)) (L : Left A fg t y xs3 xs4 xs5 xs6 xs7 xs8 xs9 xs10) : Left A fg t p.1 p.2.1 p.2.2.1 p.2.2.2.1 p.2.2.2.2.1 p.2.2.2.2.2.1 p.2.2.2.2.2.2.1 p.2.2.2.2.2.2.2.1 p.2.2.2.2.2.2.2.2 := by
  subst e
  exact L

set_option maxHeartbeats 1000000 in
theorem left_A (c : Dev nD) (t : Fin cfg0.N) (h0 : t.val % 8 = 0) : Left (args m c) (fgain m c) (tOf t) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2 := by
  have K := holds m c t
  have h1 : ¬¬ (t.val % 8 = 0) := not_not_intro h0
  have hH : Halo.Is haloA ((args m c).halo (tOf t)) := haloA_eq _ _ h0
  have hf : (fun d : Fin 1024 => iblk m c 6 t (ix2 0 d)) = fgain m c := funext (gain6 m c t)
  have oo := outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) K ((hcond0_0 t).mpr h0) (fun h => h1 ((hcond0_1 t).mp h)) hH
  rw [hf] at oo
  refine Left.of_eq (outsAt0_A m c t h0 h1) (Left.mk oo ?_ ?_ ?_ ?_ ?_ ?_ ?_ ?_)
  · exact chunkA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) K ((hcond0_0 t).mpr h0) (fun h => h1 ((hcond0_1 t).mp h)) hH
  · exact chunkA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) K ((hcond0_0 t).mpr h0) (fun h => h1 ((hcond0_1 t).mp h)) hH
  · exact chunkA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) K ((hcond0_0 t).mpr h0) (fun h => h1 ((hcond0_1 t).mp h)) hH
  · exact chunkA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) K ((hcond0_0 t).mpr h0) (fun h => h1 ((hcond0_1 t).mp h)) hH
  · exact chunkA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) K ((hcond0_0 t).mpr h0) (fun h => h1 ((hcond0_1 t).mp h)) hH
  · exact chunkA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) K ((hcond0_0 t).mpr h0) (fun h => h1 ((hcond0_1 t).mp h)) hH
  · exact chunkA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) K ((hcond0_0 t).mpr h0) (fun h => h1 ((hcond0_1 t).mp h)) hH
  · exact chunkA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) K ((hcond0_0 t).mpr h0) (fun h => h1 ((hcond0_1 t).mp h)) hH

set_option maxHeartbeats 1000000 in
theorem left_B (c : Dev nD) (t : Fin cfg0.N) (h0 : ¬ t.val % 8 = 0)
    (h3 : ∀ (i : Fin 8) (j : Fin 768), (outsAt0 m c (t.val - 1) (Nat.lt_of_le_of_lt (Nat.sub_le _ _) t.isLt)).2.1 (ix2 ⟨512 + i.val, by omega⟩ j) = (args m c).halo (tOf t) i ⟨0 + j.val, by omega⟩) (h4 : ∀ (i : Fin 8) (j : Fin 768), (outsAt0 m c (t.val - 1) (Nat.lt_of_le_of_lt (Nat.sub_le _ _) t.isLt)).2.2.1 (ix2 ⟨512 + i.val, by omega⟩ j) = (args m c).halo (tOf t) i ⟨768 + j.val, by omega⟩) (h5 : ∀ (i : Fin 8) (j : Fin 768), (outsAt0 m c (t.val - 1) (Nat.lt_of_le_of_lt (Nat.sub_le _ _) t.isLt)).2.2.2.1 (ix2 ⟨512 + i.val, by omega⟩ j) = (args m c).halo (tOf t) i ⟨1536 + j.val, by omega⟩) (h6 : ∀ (i : Fin 8) (j : Fin 512), (outsAt0 m c (t.val - 1) (Nat.lt_of_le_of_lt (Nat.sub_le _ _) t.isLt)).2.2.2.2.1 (ix2 ⟨512 + i.val, by omega⟩ j) = (args m c).halo (tOf t) i ⟨2304 + j.val, by omega⟩) (h7 : ∀ (i : Fin 8) (j : Fin 768), (outsAt0 m c (t.val - 1) (Nat.lt_of_le_of_lt (Nat.sub_le _ _) t.isLt)).2.2.2.2.2.1 (ix2 ⟨512 + i.val, by omega⟩ j) = (args m c).halo (tOf t) i ⟨2816 + j.val, by omega⟩) (h8 : ∀ (i : Fin 8) (j : Fin 768), (outsAt0 m c (t.val - 1) (Nat.lt_of_le_of_lt (Nat.sub_le _ _) t.isLt)).2.2.2.2.2.2.1 (ix2 ⟨512 + i.val, by omega⟩ j) = (args m c).halo (tOf t) i ⟨3584 + j.val, by omega⟩) (h9 : ∀ (i : Fin 8) (j : Fin 768), (outsAt0 m c (t.val - 1) (Nat.lt_of_le_of_lt (Nat.sub_le _ _) t.isLt)).2.2.2.2.2.2.2.1 (ix2 ⟨512 + i.val, by omega⟩ j) = (args m c).halo (tOf t) i ⟨4352 + j.val, by omega⟩) (h10 : ∀ (i : Fin 8) (j : Fin 512), (outsAt0 m c (t.val - 1) (Nat.lt_of_le_of_lt (Nat.sub_le _ _) t.isLt)).2.2.2.2.2.2.2.2 (ix2 ⟨512 + i.val, by omega⟩ j) = (args m c).halo (tOf t) i ⟨5120 + j.val, by omega⟩) :
    Left (args m c) (fgain m c) (tOf t) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2 := by
  have K := holds m c t
  have hf : (fun d : Fin 1024 => iblk m c 6 t (ix2 0 d)) = fgain m c := funext (gain6 m c t)
  have e := outsAt0_B m c t h0 h0
  generalize outsAt0 m c (t.val - 1) (Nat.lt_of_le_of_lt (Nat.sub_le _ _) t.isLt) = q at e h3 h4 h5 h6 h7 h8 h9 h10
  have hH := haloB_is scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) q.2.1 q.2.2.1 q.2.2.2.1 q.2.2.2.2.1 q.2.2.2.2.2.1 q.2.2.2.2.2.2.1 q.2.2.2.2.2.2.2.1 q.2.2.2.2.2.2.2.2 ((args m c).halo (tOf t)) h3 h4 h5 h6 h7 h8 h9 h10
  have oo := outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  rw [hf] at oo
  refine Left.of_eq e (Left.mk oo ?_ ?_ ?_ ?_ ?_ ?_ ?_ ?_)
  · exact chunkB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH

theorem left (c : Dev nD) (n : ℕ) : ∀ hn : n < cfg0.N, Left (args m c) (fgain m c) (tOf ⟨n, hn⟩) (outsAt0 m c n hn).1 (outsAt0 m c n hn).2.1 (outsAt0 m c n hn).2.2.1 (outsAt0 m c n hn).2.2.2.1 (outsAt0 m c n hn).2.2.2.2.1 (outsAt0 m c n hn).2.2.2.2.2.1 (outsAt0 m c n hn).2.2.2.2.2.2.1 (outsAt0 m c n hn).2.2.2.2.2.2.2.1 (outsAt0 m c n hn).2.2.2.2.2.2.2.2 := by
  induction n with
  | zero => exact fun hn => left_A m c ⟨0, hn⟩ (Nat.zero_mod _)
  | succ n ih =>
    intro hn
    by_cases h0 : (n + 1) % 8 = 0
    · exact left_A m c ⟨n + 1, hn⟩ h0
    · have L := ih (Nat.lt_of_succ_lt hn)
      have hb := lt_of_lt_of_eq hn N_0
      exact left_B m c ⟨n + 1, hn⟩ h0 (fun i j => (L.s3 ⟨512 + i.val, by omega⟩ j).trans ((args m c).ext_halo n hb h0 i ⟨0 + j.val, by omega⟩)) (fun i j => (L.s4 ⟨512 + i.val, by omega⟩ j).trans ((args m c).ext_halo n hb h0 i ⟨768 + j.val, by omega⟩)) (fun i j => (L.s5 ⟨512 + i.val, by omega⟩ j).trans ((args m c).ext_halo n hb h0 i ⟨1536 + j.val, by omega⟩)) (fun i j => (L.s6 ⟨512 + i.val, by omega⟩ j).trans ((args m c).ext_halo n hb h0 i ⟨2304 + j.val, by omega⟩)) (fun i j => (L.s7 ⟨512 + i.val, by omega⟩ j).trans ((args m c).ext_halo n hb h0 i ⟨2816 + j.val, by omega⟩)) (fun i j => (L.s8 ⟨512 + i.val, by omega⟩ j).trans ((args m c).ext_halo n hb h0 i ⟨3584 + j.val, by omega⟩)) (fun i j => (L.s9 ⟨512 + i.val, by omega⟩ j).trans ((args m c).ext_halo n hb h0 i ⟨4352 + j.val, by omega⟩)) (fun i j => (L.s10 ⟨512 + i.val, by omega⟩ j).trans ((args m c).ext_halo n hb h0 i ⟨5120 + j.val, by omega⟩))

/-- The result array, by row and column. -/
def G (A : FfnMath.Args) (fg : Fin 1024 → EReal) (y : S16384x1024.Idx) : EReal := FfnMath.rms (A.y (y 0)) fg (y 1)

theorem final (c : Dev nD) : (dats m 0 c).arrAt 7 cfg0.N = G (args m c) (fgain m c) := by
  refine (dats m 0 c).arrAt_eq_of_covers 7 _ (by decide +kernel) fun t _ y => ?_
  have hI := (idx t).2.2.2.2.2.2.2
  have e0 : ((cfg0.win 7).blk t).view.emb y 0 = FfnMath.Args.trow (tOf t) (y 0) := Fin.ext (by
    show win0_7.index t 0 * 512 + 1 * (y 0 : ℕ) = 512 * t.val + (y 0 : ℕ)
    rw [hI]; show t.val * 512 + 1 * (y 0 : ℕ) = _; omega)
  have e1 : ((cfg0.win 7).blk t).view.emb y 1 = y 1 := Fin.ext (by
    show win0_7.index t 1 * 1024 + 1 * (y 1 : ℕ) = _
    rw [hI]; show 0 * 1024 + 1 * (y 1 : ℕ) = _; omega)
  show (dats m 0 c).after 7 t y = FfnMath.rms ((args m c).y (((cfg0.win 7).blk t).view.emb y 0)) (fgain m c) (((cfg0.win 7).blk t).view.emb y 1)
  rw [e0, e1, after0_7]
  exact (congrArg (outsAt0 m c t.val t.isLt).1 (eq_ix2 y)).trans ((left m c t.val t.isLt).out (y 0) (y 1))
end Cert.FfnKernelIdeal.Tile
end
-- ==== Proof.FfnReference.lean ====
/- The feed-forward reference's result, at an index. -/
module
public import proofs.«01_k».proof.Proof.FfnMath
public import proofs.«01_k».proof.Proof.Gen.FfnReferenceIdeal.Run
public import Idealize.ShloMosaic.Lib.Pointwise
@[expose] public section
set_option maxRecDepth 16384
noncomputable section
namespace Cert.FfnReferenceIdeal.Read
open Idealize.ShloMosaic Idealize.ShloMosaic.TcCoe Idealize.SL.Sem Idealize.ShloMosaic.StableHlo
open Cert.FfnReferenceIdeal Cert.FfnReferenceIdeal.Gen Cert.FfnReferenceIdeal.Value

section
variable {F : FTy → Type} [FloatOps F]

/-- The rows by sequence. -/
def rows (x : Vec F S16384x1024 .f32) : Vec F S4x4096x1024 .f32 := shapeCast _ x shapeCasts_S16384x1024_S4x4096x1024

def normed (x : Vec F S4x4096x1024 .f32) (g : Vec F S1024 .f32) : Vec F S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

def upped (h : Vec F S4x4096x1024 .f32) (wu : Vec F S2x1024x5632 .bf16) : Vec F S4x4096x5632 .f32 :=
  Host.dotGeneral dot_S4x4096x1024_S1024x5632_S4x4096x5632_2_0_01_1_n_n none h (extf .f32 (shapeCast _ (extractStridedSlice S1x1024x5632 ![1, 0, 0] wu slices_S2x1024x5632_S1x1024x5632_1_0_0) shapeCasts_S1x1024x5632_S1024x5632 : FVec F S1024x5632 .bf16) bitsLt_bf16_f32)

def padded (a : Vec F S4x4096x5632 .f32) : Vec F S4x4098x5632 .f32 :=
  pad S4x4098x5632 ![0, 2, 0] ![0, 0, 0] ![0, 0, 0] a (sitofp .f32 (constantI S_ 32 0#32)) pads_S4x4096x5632_S4x4098x5632_000_200_000 h_S_

def weight0 (cw : Vec F S3x5632 .f32) : Vec F S4x4096x5632 .f32 :=
  broadcastInDim S4x4096x5632 ![0, 1, 2] bcast_S1x1x5632_S4x4096x5632_0_1_2 (broadcastInDim S1x1x5632 ![2] bcast_S5632_S1x1x5632_2 (shapeCast _ (extractStridedSlice S1x5632 ![0, 0] cw slices_S3x5632_S1x5632_0_0) shapeCasts_S1x5632_S5632))
def weight1 (cw : Vec F S3x5632 .f32) : Vec F S4x4096x5632 .f32 :=
  broadcastInDim S4x4096x5632 ![0, 1, 2] bcast_S1x1x5632_S4x4096x5632_0_1_2 (broadcastInDim S1x1x5632 ![2] bcast_S5632_S1x1x5632_2 (shapeCast _ (extractStridedSlice S1x5632 ![1, 0] cw slices_S3x5632_S1x5632_1_0) shapeCasts_S1x5632_S5632))
def weight2 (cw : Vec F S3x5632 .f32) : Vec F S4x4096x5632 .f32 :=
  broadcastInDim S4x4096x5632 ![0, 1, 2] bcast_S1x1x5632_S4x4096x5632_0_1_2 (broadcastInDim S1x1x5632 ![2] bcast_S5632_S1x1x5632_2 (shapeCast _ (extractStridedSlice S1x5632 ![2, 0] cw slices_S3x5632_S1x5632_2_0) shapeCasts_S1x5632_S5632))

def convolved (p : Vec F S4x4098x5632 .f32) (cw : Vec F S3x5632 .f32) (cb : Vec F S5632 .f32) : Vec F S4x4096x5632 .f32 :=
  addf (broadcastInDim S4x4096x5632 ![0, 1, 2] bcast_S1x1x5632_S4x4096x5632_0_1_2 (broadcastInDim S1x1x5632 ![2] bcast_S5632_S1x1x5632_2 cb))
    (addf (addf (addf (broadcastInDim S4x4096x5632 ![] bcast_S_S4x4096x5632 (constant S_ .f32 0x00000000#32))
      (mulf (weight0 cw) (extractStridedSlice S4x4096x5632 ![0, 0, 0] p slices_S4x4098x5632_S4x4096x5632_0_0_0)))
      (mulf (weight1 cw) (extractStridedSlice S4x4096x5632 ![0, 1, 0] p slices_S4x4098x5632_S4x4096x5632_0_1_0)))
      (mulf (weight2 cw) (extractStridedSlice S4x4096x5632 ![0, 2, 0] p slices_S4x4098x5632_S4x4096x5632_0_2_0)))

def gate (q : Vec F S4x4096x5632 .f32) : Vec F S4x4096x2816 .f32 := extractStridedSlice S4x4096x2816 ![0, 0, 0] q slices_S4x4096x5632_S4x4096x2816_0_0_0
def value (q : Vec F S4x4096x5632 .f32) : Vec F S4x4096x2816 .f32 := extractStridedSlice S4x4096x2816 ![0, 0, 2816] q slices_S4x4096x5632_S4x4096x2816_0_0_2816
def one : Vec F S4x4096x2816 .f32 := broadcastInDim S4x4096x2816 ![] bcast_S_S4x4096x2816 (constant S_ .f32 0x3F800000#32)

def gated (q : Vec F S4x4096x5632 .f32) : Vec F S4x4096x2816 .f32 :=
  mulf (mulf (gate q) (Host.divf one (addf one (Host.exp (Host.negf (gate q)))))) (value q)

def layer (x : Vec F S4x4096x1024 .f32) (a : Vec F S4x4096x2816 .f32) (wd : Vec F S2x2816x1024 .bf16) : Vec F S4x4096x1024 .f32 :=
  addf x (Host.dotGeneral dot_S4x4096x2816_S2816x1024_S4x4096x1024_2_0_01_1_n_n none a (extf .f32 (shapeCast _ (extractStridedSlice S1x2816x1024 ![1, 0, 0] wd slices_S2x2816x1024_S1x2816x1024_1_0_0) shapeCasts_S1x2816x1024_S2816x1024 : FVec F S2816x1024 .bf16) bitsLt_bf16_f32))

def whole (x : Vec F S16384x1024 .f32) (g : Vec F S1024 .f32) (wu : Vec F S2x1024x5632 .bf16) (cw : Vec F S3x5632 .f32) (cb : Vec F S5632 .f32) (wd : Vec F S2x2816x1024 .bf16) (fg : Vec F S1024 .f32) : Vec F S16384x1024 .f32 :=
  shapeCast _ (normed (layer (rows x) (gated (convolved (padded (upped (normed (rows x) g) wu)) cw cb)) wd) fg) shapeCasts_S4x4096x1024_S16384x1024

set_option maxHeartbeats 4000000 in
theorem res_eq (m : (ℓ : Loc nD τ sig) → Buf (Elt F) ℓ) (c : Dev nD) : res_main_v66 m c
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_main_v66
  rfl
end

/-- Row `s` of sequence `b`. -/
def at4 (b : Fin 4) (s : Fin 4096) : Fin 16384 := ⟨b.val * 4096 + s.val, by omega⟩

theorem rows_apply (x : Vec Ideal S16384x1024 .f32) (b : Fin 4) (s : Fin 4096) (d : Fin 1024) : rows x (ix3 b s d) = x (ix2 (at4 b s) d) := by
  unfold rows at4
  pointwise

theorem normed_apply (x : Vec Ideal S4x4096x1024 .f32) (g : Vec Ideal S1024 .f32) (b : Fin 4) (s : Fin 4096) (d : Fin 1024) :
    normed x g (ix3 b s d) = FfnMath.rms (fun k => x (ix3 b s k)) (fun k => g (ix1 k)) d := by
  unfold normed FfnMath.rms
  pointwise

theorem upped_apply (h : Vec Ideal S4x4096x1024 .f32) (wu : Vec Ideal S2x1024x5632 .bf16) (b : Fin 4) (s : Fin 4096) (f : Fin 5632) :
    upped h wu (ix3 b s f) = ∑ d : Fin 1024, h (ix3 b s d) * wu (ix3 1 d f) := by
  unfold upped
  pointwise

theorem zero_sitofp : (FloatOps.sitofp FTy.f32 (0#32) : Ideal .f32) = 0 := by
  show (((0#32 : BitVec 32).toInt : ℝ) : EReal) = 0
  simp

theorem padded_lo (a : Vec Ideal S4x4096x5632 .f32) (b : Fin 4) (s : Fin 4098) (f : Fin 5632) (h : s.val < 2) : padded a (ix3 b s f) = 0 := by
  unfold padded
  pointwise
  rw [dif_neg (by omega)]
  exact zero_sitofp

theorem padded_hi (a : Vec Ideal S4x4096x5632 .f32) (b : Fin 4) (s : Fin 4098) (f : Fin 5632) (h : ¬ s.val < 2) : padded a (ix3 b s f) = a (ix3 b ⟨s.val - 2, by omega⟩ f) := by
  unfold padded
  pointwise
  rw [dif_pos (by omega)]

theorem weight0_apply (cw : Vec Ideal S3x5632 .f32) (b : Fin 4) (s : Fin 4096) (f : Fin 5632) : weight0 cw (ix3 b s f) = cw (ix2 0 f) := by
  unfold weight0
  pointwise
theorem weight1_apply (cw : Vec Ideal S3x5632 .f32) (b : Fin 4) (s : Fin 4096) (f : Fin 5632) : weight1 cw (ix3 b s f) = cw (ix2 1 f) := by
  unfold weight1
  pointwise
theorem weight2_apply (cw : Vec Ideal S3x5632 .f32) (b : Fin 4) (s : Fin 4096) (f : Fin 5632) : weight2 cw (ix3 b s f) = cw (ix2 2 f) := by
  unfold weight2
  pointwise

theorem convolved_apply (p : Vec Ideal S4x4098x5632 .f32) (cw : Vec Ideal S3x5632 .f32) (cb : Vec Ideal S5632 .f32) (b : Fin 4) (s : Fin 4096) (f : Fin 5632) :
    convolved p cw cb (ix3 b s f) = cb (ix1 f) + (cw (ix2 0 f) * p (ix3 b ⟨s.val, by omega⟩ f) + cw (ix2 1 f) * p (ix3 b ⟨1 + s.val, by omega⟩ f) + cw (ix2 2 f) * p (ix3 b ⟨2 + s.val, by omega⟩ f)) := by
  rw [← weight0_apply cw b s f, ← weight1_apply cw b s f, ← weight2_apply cw b s f]
  unfold convolved
  generalize weight0 cw = w0
  generalize weight1 cw = w1
  generalize weight2 cw = w2
  pointwise

theorem gate_apply (q : Vec Ideal S4x4096x5632 .f32) (b : Fin 4) (s : Fin 4096) (f : Fin 2816) : gate q (ix3 b s f) = q (ix3 b s (FfnMath.lo f)) := by
  unfold gate FfnMath.lo
  pointwise
theorem value_apply (q : Vec Ideal S4x4096x5632 .f32) (b : Fin 4) (s : Fin 4096) (f : Fin 2816) : value q (ix3 b s f) = q (ix3 b s (FfnMath.hi f)) := by
  unfold value FfnMath.hi
  pointwise
theorem gated_apply (q : Vec Ideal S4x4096x5632 .f32) (b : Fin 4) (s : Fin 4096) (f : Fin 2816) : gated q (ix3 b s f) = FfnMath.glu (q (ix3 b s (FfnMath.lo f))) (q (ix3 b s (FfnMath.hi f))) := by
  rw [← gate_apply q, ← value_apply q]
  unfold gated one FfnMath.glu
  generalize gate q = g
  generalize value q = u
  pointwise [Ideal.logistic]

theorem layer_apply (x : Vec Ideal S4x4096x1024 .f32) (a : Vec Ideal S4x4096x2816 .f32) (wd : Vec Ideal S2x2816x1024 .bf16) (b : Fin 4) (s : Fin 4096) (d : Fin 1024) :
    layer x a wd (ix3 b s d) = x (ix3 b s d) + ∑ f : Fin 2816, a (ix3 b s f) * wd (ix3 1 f d) := by
  unfold layer
  pointwise

variable (m : (ℓ : Loc nD τ sig) → Buf (Elt Ideal) ℓ) (c : Dev nD)

/-- The arguments, by row and column: the second layer of each weight stack. -/
def args : FfnMath.Args where
  x r d := m ((c.tc : Thread nD τ).loc main_arg0) (ix2 r d)
  g d := m ((c.tc : Thread nD τ).loc main_arg1) (ix1 d)
  wu d f := m ((c.tc : Thread nD τ).loc main_arg2) (ix3 1 d f)
  cw s f := m ((c.tc : Thread nD τ).loc main_arg3) (ix2 s f)
  cb f := m ((c.tc : Thread nD τ).loc main_arg4) (ix1 f)
  wd f d := m ((c.tc : Thread nD τ).loc main_arg5) (ix3 1 f d)

section
variable {A : FfnMath.Args} {x : Vec Ideal S16384x1024 .f32} {g : Vec Ideal S1024 .f32} {wu : Vec Ideal S2x1024x5632 .bf16} {cw : Vec Ideal S3x5632 .f32} {cb : Vec Ideal S5632 .f32} {wd : Vec Ideal S2x2816x1024 .bf16}
    (hx : ∀ r d, x (ix2 r d) = A.x r d) (hg : ∀ d, g (ix1 d) = A.g d) (hu : ∀ d f, wu (ix3 1 d f) = A.wu d f) (hw : ∀ s f, cw (ix2 s f) = A.cw s f) (hb : ∀ f, cb (ix1 f) = A.cb f) (hd : ∀ f d, wd (ix3 1 f d) = A.wd f d)
include hx hg hu

theorem up_eq (b : Fin 4) (s : Fin 4096) (f : Fin 5632) : upped (normed (rows x) g) wu (ix3 b s f) = A.up (at4 b s) f := by
  rw [upped_apply]
  refine Finset.sum_congr rfl fun d _ => congrArg₂ (· * ·) ?_ (hu d f)
  rw [normed_apply]
  exact congrArg₂ (fun x g => FfnMath.rms x g d) (funext fun k => (rows_apply x b s k).trans (hx _ k)) (funext hg)

theorem back_eq (b : Fin 4) (s : Fin 4096) (f : Fin 5632) (j : Fin 3) (e : Fin 4098) (he : e.val = j.val + s.val) :
    padded (upped (normed (rows x) g) wu) (ix3 b e f) = A.back (at4 b s) f j := by
  have hm : (at4 b s).val % 4096 = s.val := by show (b.val * 4096 + s.val) % 4096 = s.val; omega
  unfold FfnMath.Args.back
  by_cases h : e.val < 2
  · rw [padded_lo _ _ _ _ h, if_pos (by omega)]
  · rw [padded_hi _ _ _ _ h, if_neg (by omega), up_eq hx hg hu]
    exact congrArg (fun r => A.up r f) (Fin.ext (by show b.val * 4096 + (e.val - 2) = b.val * 4096 + s.val + j.val - 2; omega))

include hw hb
theorem pre_eq (b : Fin 4) (s : Fin 4096) (f : Fin 5632) : convolved (padded (upped (normed (rows x) g) wu)) cw cb (ix3 b s f) = A.pre (at4 b s) f := by
  rw [convolved_apply, back_eq hx hg hu b s f 0 _ (Nat.zero_add _).symm, back_eq hx hg hu b s f 1 _ rfl, back_eq hx hg hu b s f 2 _ rfl, hb, hw, hw, hw]
  unfold FfnMath.Args.pre FfnMath.conv
  simp only [add_assoc]

include hd
theorem y_eq (b : Fin 4) (s : Fin 4096) (d : Fin 1024) : layer (rows x) (gated (convolved (padded (upped (normed (rows x) g) wu)) cw cb)) wd (ix3 b s d) = A.y (at4 b s) d := by
  rw [layer_apply, rows_apply, hx]
  refine congrArg₂ (· + ·) rfl (Finset.sum_congr rfl fun f _ => congrArg₂ (· * ·) ?_ (hd f d))
  rw [gated_apply, pre_eq hx hg hu hw hb, pre_eq hx hg hu hw hb]
  rfl
end

theorem rowed (v : Vec Ideal S4x4096x1024 .f32) (r : Fin 16384) (d : Fin 1024) :
    (shapeCast _ v shapeCasts_S4x4096x1024_S16384x1024 : Vec Ideal S16384x1024 .f32) (ix2 r d) = v (ix3 ⟨r.val / 4096, by omega⟩ ⟨r.val % 4096, by omega⟩ d) := by
  pointwise

/-- The reference's result is the layer's, normed. -/
theorem result (r : Fin 16384) (d : Fin 1024) : (res_main_v66 m c : S16384x1024.Idx → EReal) (ix2 r d)
    = FfnMath.rms ((args m c).y r) (fun d => m ((c.tc : Thread nD τ).loc main_arg6) (ix1 d)) d := by
  rw [res_eq]
  unfold whole
  rw [rowed, normed_apply]
  refine congrArg (fun x => FfnMath.rms x _ d) (funext fun k => ?_)
  rw [y_eq (A := args m c) (fun _ _ => rfl) (fun _ => rfl) (fun _ _ => rfl) (fun _ _ => rfl) (fun _ => rfl) (fun _ _ => rfl)]
  exact congrArg (fun r => (args m c).y r k) (Fin.ext (by show r.val / 4096 * 4096 + r.val % 4096 = r.val; omega))
end Cert.FfnReferenceIdeal.Read
end
-- ==== Proof.FfnEquation.lean ====
/- The feed-forward kernel's result is its reference's. -/
module
public import proofs.«01_k».proof.Defs
public import proofs.«01_k».proof.Proof.FfnKernel
public import proofs.«01_k».proof.Proof.FfnReference
public import Idealize.ShloMosaic.Lib.Quiescent
@[expose] public section
set_option maxRecDepth 16384
noncomputable section
namespace Cert.Ffn
open Idealize.ShloMosaic Idealize.ShloMosaic.TcCoe Idealize.SL.Sem

theorem referenceFrame : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem equation : algebraic_FfnKernelIdeal_FfnReferenceIdeal := by
  intro m ρ m' ρ' _ hagree
  refine ⟨_, Cert.FfnKernelIdeal.Value.run (F := Ideal) m ρ, ?_⟩
  refine (θ_run Cert.FfnReferenceIdeal.defs _ _).mono (fun _ h c => ⟨?_, (h c).2⟩) (Cert.FfnReferenceIdeal.Value.run (F := Ideal) m' ρ')
  rw [(h c).1]
  obtain ⟨h0, h1, h2, h3, h4, h5, h6⟩ := hagree c
  have ha : Cert.FfnReferenceIdeal.Read.args m' c = Cert.FfnKernelIdeal.Tile.args m c := by
    unfold Cert.FfnReferenceIdeal.Read.args Cert.FfnKernelIdeal.Tile.args
    simp only [h0, h1, h2, h3, h4, h5]
  have hf : (fun d : Fin 1024 => (m' ((c.tc : Thread Cert.FfnReferenceIdeal.nD Cert.FfnReferenceIdeal.τ).loc Cert.FfnReferenceIdeal.main_arg6) (ix1 d) : EReal)) = Cert.FfnKernelIdeal.Tile.fgain m c := by
    unfold Cert.FfnKernelIdeal.Tile.fgain
    simp only [h6]
  have hk : Cert.FfnKernelIdeal.Value.G7 m c = Cert.FfnKernelIdeal.Tile.G (Cert.FfnKernelIdeal.Tile.args m c) (Cert.FfnKernelIdeal.Tile.fgain m c) :=
    (Cert.FfnKernelIdeal.Value.final7 m c).symm.trans (Cert.FfnKernelIdeal.Tile.final m c)
  refine Eq.trans (funext fun y => ?_) hk.symm
  refine (congrArg (Cert.FfnReferenceIdeal.Value.res_main_v66 m' c : Cert.FfnReferenceIdeal.S16384x1024.Idx → EReal) (eq_ix2 y)).trans ((Cert.FfnReferenceIdeal.Read.result m' c (y 0) (y 1)).trans ?_)
  rw [ha, hf]
  rfl
end Cert.Ffn
end
-- ==== Proof.OutPieces.lean ====
/- What the first layer's feed-forward kernel stores, as one function of the halo rows the tile starts with and of its input after the attentions' projection. -/
module
public import proofs.«01_k».proof.Proof.Gen.OutKernelIdeal.Frame
public import proofs.«01_k».proof.Proof.FfnPieces
@[expose] public section
set_option maxRecDepth 16384
noncomputable section
namespace Cert.OutKernelIdeal.Tile
open Idealize.ShloMosaic Idealize.ShloMosaic.TcCoe Idealize.SL.Sem
open Cert.OutKernelIdeal Cert.OutKernelIdeal.Gen Cert.FfnTile
open Cert.FfnKernelIdeal.Tile (Halo glu512 haloA)
variable {F : FTy → Type} [FloatOps F]

abbrev sq : Rect S512x1024 := box 512 1024 0 0 (by decide) (by decide)
abbrev half : Rect S512x512 := box 512 512 0 0 (by decide) (by decide)
abbrev rw1 : Rect S1x1024 := box 1 1024 0 0 (by decide) (by decide)

section
variable (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg12 : Memref sig .tc .vmem S512x1024 .f32)
    (x0 : Vec F S512x512 .bf16) (x1 : Vec F S512x512 .bf16) (x2 : Vec F S512x1024 .bf16) (x3 : Vec F S512x1024 .bf16) (x4 : Vec F S512x1024 .f32)
/-- The tile's input with the attentions' output projection. -/
def first : FVec F S512x1024 .f32 :=
  k0_pay19 (View.readAt (Elt F) arg5.view sq.toLoadRect (harg5.unread x4)) (View.readAt (Elt F) arg1.view half.toLoadRect (harg1.unread x0)) (View.readAt (Elt F) arg3.view sq.toLoadRect (harg3.unread x2))
    (View.readAt (Elt F) arg2.view half.toLoadRect (harg2.unread x1)) (View.readAt (Elt F) arg4.view sq.toLoadRect (harg4.unread x3))
def xin : FVec F S512x1024 .f32 := View.readCov (Val := Elt F) arg12.view [⟨sq, first arg1 harg1 arg2 harg2 arg3 harg3 arg4 harg4 arg5 harg5 x0 x1 x2 x3 x4⟩] sq.toLoadRect
end
section
variable (arg5 : Memref sig .tc .vmem S512x1024 .f32) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2816 .bf16) (harg14 : arg14.IsWhole) (arg15 : Memref sig .tc .vmem S512x1024 .f32) (harg15 : arg15.IsWhole) (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole) (arg20 : Memref sig .tc .vmem S520x768 .f32) (harg20 : arg20.IsWhole) (arg21 : Memref sig .tc .vmem S520x768 .f32) (harg21 : arg21.IsWhole) (arg22 : Memref sig .tc .vmem S520x768 .f32) (harg22 : arg22.IsWhole) (arg23 : Memref sig .tc .vmem S520x512 .f32) (harg23 : arg23.IsWhole)
    (xv : Vec F S512x1024 .f32) (x5 : Vec F S1x1024 .f32) (x6 : Vec F S1x1024x5632 .bf16) (x7 : Vec F S3x5632 .f32) (x8 : Vec F S1x5632 .f32) (x9 : Vec F S1x2816x1024 .bf16) (x10 : Vec F S1x1024 .f32)

/-- The tile's normalized rows. -/
def hrow : FVec F S512x1024 .bf16 :=
  View.readCov (Val := Elt F) arg13.view [⟨sq, k0_pay21 (k0_pay20 xv) (View.readAt (Elt F) arg6.view rw1.toLoadRect (harg6.unread x5))⟩] sq.toLoadRect

/-- The up-projection's columns from `o`. -/
def up768 (o : ℕ) (h : o + 768 ≤ 5632) : FVec F S512x768 .f32 :=
  Cert.FfnKernelIdeal.Gen.k0_pay19 (hrow arg6 harg6 arg13 xv x5) (View.readAt (Elt F) arg7.view (box3 (n := 1024) (W := 5632) 1024 768 0 o (by decide) h).toLoadRect (harg7.unread x6))

/-- The up-projection's columns from `o`. -/
def up512 (o : ℕ) (h : o + 512 ≤ 5632) : FVec F S512x512 .f32 :=
  Cert.FfnKernelIdeal.Gen.k0_pay70 (hrow arg6 harg6 arg13 xv x5) (View.readAt (Elt F) arg7.view (box3 (n := 1024) (W := 5632) 1024 512 0 o (by decide) h).toLoadRect (harg7.unread x6))

/-- A chunk's activations, by band. -/
def act768 (vg vu : View sig .tc .vmem S520x768 .f32) (hg hu : FVec F S8x768 .f32) (o : ℕ) (h : o + 768 ≤ 2816) (k : Fin 8) : FVec F S64x768 .bf16 :=
  Cert.FfnKernelIdeal.Gen.k0_pay25 (View.readAt (Elt F) arg8.view (box (n := 3) (W := 5632) 3 768 0 o (by decide) (by omega)).toLoadRect (harg8.unread x7))
    (View.readAt (Elt F) arg8.view (box (n := 3) (W := 5632) 3 768 0 (2816 + o) (by decide) (by omega)).toLoadRect (harg8.unread x7))
    (View.readAt (Elt F) arg9.view (box (n := 1) (W := 5632) 1 768 0 o (by decide) (by omega)).toLoadRect (harg9.unread x8))
    (View.readAt (Elt F) arg9.view (box (n := 1) (W := 5632) 1 768 0 (2816 + o) (by decide) (by omega)).toLoadRect (harg9.unread x8))
    (band 768 vg hg (up768 arg6 harg6 arg7 harg7 arg13 xv x5 x6 o (by omega)) k)
    (band 768 vu hu (up768 arg6 harg6 arg7 harg7 arg13 xv x5 x6 (2816 + o) (by omega)) k)

/-- A chunk's activations, by band. -/
def act512 (vg vu : View sig .tc .vmem S520x512 .f32) (hg hu : FVec F S8x512 .f32) (o : ℕ) (h : o + 512 ≤ 2816) (k : Fin 8) : FVec F S64x512 .bf16 :=
  glu512 (View.readAt (Elt F) arg8.view (box (n := 3) (W := 5632) 3 512 0 o (by decide) (by omega)).toLoadRect (harg8.unread x7))
    (View.readAt (Elt F) arg8.view (box (n := 3) (W := 5632) 3 512 0 (2816 + o) (by decide) (by omega)).toLoadRect (harg8.unread x7))
    (View.readAt (Elt F) arg9.view (box (n := 1) (W := 5632) 1 512 0 o (by decide) (by omega)).toLoadRect (harg9.unread x8))
    (View.readAt (Elt F) arg9.view (box (n := 1) (W := 5632) 1 512 0 (2816 + o) (by decide) (by omega)).toLoadRect (harg9.unread x8))
    (band 512 vg hg (up512 arg6 harg6 arg7 harg7 arg13 xv x5 x6 o (by omega)) k)
    (band 512 vu hu (up512 arg6 harg6 arg7 harg7 arg13 xv x5 x6 (2816 + o) (by omega)) k)

variable (H : Halo F)
/-- The activations stored up to each chunk. -/
def acts0 : List (View.Piece (Elt F) S512x2816 .bf16) := acts 768 0 (by decide) (act768 arg6 harg6 arg7 harg7 arg8 harg8 arg9 harg9 arg13 xv x5 x6 x7 x8 arg16.view arg20.view H.g0 H.u0 0 (by decide))
def acts1 : List (View.Piece (Elt F) S512x2816 .bf16) := acts 768 768 (by decide) (act768 arg6 harg6 arg7 harg7 arg8 harg8 arg9 harg9 arg13 xv x5 x6 x7 x8 arg17.view arg21.view H.g1 H.u1 768 (by decide)) ++ acts0 arg6 harg6 arg7 harg7 arg8 harg8 arg9 harg9 arg13 arg16 arg20 xv x5 x6 x7 x8 H
def acts2 : List (View.Piece (Elt F) S512x2816 .bf16) := acts 768 1536 (by decide) (act768 arg6 harg6 arg7 harg7 arg8 harg8 arg9 harg9 arg13 xv x5 x6 x7 x8 arg18.view arg22.view H.g2 H.u2 1536 (by decide)) ++ acts1 arg6 harg6 arg7 harg7 arg8 harg8 arg9 harg9 arg13 arg16 arg17 arg20 arg21 xv x5 x6 x7 x8 H
def acts3 : List (View.Piece (Elt F) S512x2816 .bf16) := acts 512 2304 (by decide) (act512 arg6 harg6 arg7 harg7 arg8 harg8 arg9 harg9 arg13 xv x5 x6 x7 x8 arg19.view arg23.view H.g3 H.u3 2304 (by decide)) ++ acts2 arg6 harg6 arg7 harg7 arg8 harg8 arg9 harg9 arg13 arg16 arg17 arg18 arg20 arg21 arg22 xv x5 x6 x7 x8 H

/-- The down-projection's sum after each chunk. -/
def sum0 : List (View.Piece (Elt F) S512x1024 .f32) :=
  [⟨sq, Cert.FfnKernelIdeal.Gen.k0_pay43 (View.readCov (Val := Elt F) arg14.view (acts0 arg6 harg6 arg7 harg7 arg8 harg8 arg9 harg9 arg13 arg16 arg20 xv x5 x6 x7 x8 H) (box (n := 512) (W := 2816) 512 768 0 0 (by decide) (by decide)).toLoadRect) (View.readAt (Elt F) arg10.view (box3 (n := 2816) (W := 1024) 768 1024 0 0 (by decide) (by decide)).toLoadRect (harg10.unread x9))⟩]
def sum1 : List (View.Piece (Elt F) S512x1024 .f32) :=
  ⟨sq, Cert.FfnKernelIdeal.Gen.k0_pay99 (View.readCov (Val := Elt F) arg14.view (acts1 arg6 harg6 arg7 harg7 arg8 harg8 arg9 harg9 arg13 arg16 arg17 arg20 arg21 xv x5 x6 x7 x8 H) (box (n := 512) (W := 2816) 512 768 0 768 (by decide) (by decide)).toLoadRect) (View.readAt (Elt F) arg10.view (box3 (n := 2816) (W := 1024) 768 1024 768 0 (by decide) (by decide)).toLoadRect (harg10.unread x9)) (View.readCov (Val := Elt F) arg15.view (sum0 arg6 harg6 arg7 harg7 arg8 harg8 arg9 harg9 arg10 harg10 arg13 arg14 arg16 arg20 xv x5 x6 x7 x8 x9 H) sq.toLoadRect)⟩ :: sum0 arg6 harg6 arg7 harg7 arg8 harg8 arg9 harg9 arg10 harg10 arg13 arg14 arg16 arg20 xv x5 x6 x7 x8 x9 H
def sum2 : List (View.Piece (Elt F) S512x1024 .f32) :=
  ⟨sq, Cert.FfnKernelIdeal.Gen.k0_pay99 (View.readCov (Val := Elt F) arg14.view (acts2 arg6 harg6 arg7 harg7 arg8 harg8 arg9 harg9 arg13 arg16 arg17 arg18 arg20 arg21 arg22 xv x5 x6 x7 x8 H) (box (n := 512) (W := 2816) 512 768 0 1536 (by decide) (by decide)).toLoadRect) (View.readAt (Elt F) arg10.view (box3 (n := 2816) (W := 1024) 768 1024 1536 0 (by decide) (by decide)).toLoadRect (harg10.unread x9)) (View.readCov (Val := Elt F) arg15.view (sum1 arg6 harg6 arg7 harg7 arg8 harg8 arg9 harg9 arg10 harg10 arg13 arg14 arg15 arg16 arg17 arg20 arg21 xv x5 x6 x7 x8 x9 H) sq.toLoadRect)⟩ :: sum1 arg6 harg6 arg7 harg7 arg8 harg8 arg9 harg9 arg10 harg10 arg13 arg14 arg15 arg16 arg17 arg20 arg21 xv x5 x6 x7 x8 x9 H
def sum3 : List (View.Piece (Elt F) S512x1024 .f32) :=
  ⟨sq, Cert.FfnKernelIdeal.Gen.k0_pay126 (View.readCov (Val := Elt F) arg14.view (acts3 arg6 harg6 arg7 harg7 arg8 harg8 arg9 harg9 arg13 arg16 arg17 arg18 arg19 arg20 arg21 arg22 arg23 xv x5 x6 x7 x8 H) (box (n := 512) (W := 2816) 512 512 0 2304 (by decide) (by decide)).toLoadRect) (View.readAt (Elt F) arg10.view (box3 (n := 2816) (W := 1024) 512 1024 2304 0 (by decide) (by decide)).toLoadRect (harg10.unread x9)) (View.readCov (Val := Elt F) arg15.view (sum2 arg6 harg6 arg7 harg7 arg8 harg8 arg9 harg9 arg10 harg10 arg13 arg14 arg15 arg16 arg17 arg18 arg20 arg21 arg22 xv x5 x6 x7 x8 x9 H) sq.toLoadRect)⟩ :: sum2 arg6 harg6 arg7 harg7 arg8 harg8 arg9 harg9 arg10 harg10 arg13 arg14 arg15 arg16 arg17 arg18 arg20 arg21 arg22 xv x5 x6 x7 x8 x9 H

/-- The tile's result. -/
def res : List (View.Piece (Elt F) S512x1024 .f32) :=
  [⟨sq, k0_pay1 xv (View.readCov (Val := Elt F) arg15.view (sum3 arg6 harg6 arg7 harg7 arg8 harg8 arg9 harg9 arg10 harg10 arg13 arg14 arg15 arg16 arg17 arg18 arg19 arg20 arg21 arg22 arg23 xv x5 x6 x7 x8 x9 H) sq.toLoadRect)⟩]

end
section
variable (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole) (arg20 : Memref sig .tc .vmem S520x768 .f32) (harg20 : arg20.IsWhole) (arg21 : Memref sig .tc .vmem S520x768 .f32) (harg21 : arg21.IsWhole) (arg22 : Memref sig .tc .vmem S520x768 .f32) (harg22 : arg22.IsWhole) (arg23 : Memref sig .tc .vmem S520x512 .f32) (harg23 : arg23.IsWhole)
    (xs3 : Vec F S520x768 .f32) (xs4 : Vec F S520x768 .f32) (xs5 : Vec F S520x768 .f32) (xs6 : Vec F S520x512 .f32) (xs7 : Vec F S520x768 .f32) (xs8 : Vec F S520x768 .f32) (xs9 : Vec F S520x768 .f32) (xs10 : Vec F S520x512 .f32)
def haloB : Halo F := ⟨Cert.FfnKernelIdeal.Gen.k0_pay9 (View.readAt (Elt F) arg16.view (box (n := 520) (W := 768) 8 768 512 0 (by decide) (by decide)).toLoadRect (harg16.unread xs3)), Cert.FfnKernelIdeal.Gen.k0_pay10 (View.readAt (Elt F) arg17.view (box (n := 520) (W := 768) 8 768 512 0 (by decide) (by decide)).toLoadRect (harg17.unread xs4)), Cert.FfnKernelIdeal.Gen.k0_pay11 (View.readAt (Elt F) arg18.view (box (n := 520) (W := 768) 8 768 512 0 (by decide) (by decide)).toLoadRect (harg18.unread xs5)), Cert.FfnKernelIdeal.Gen.k0_pay12 (View.readAt (Elt F) arg19.view (box (n := 520) (W := 512) 8 512 512 0 (by decide) (by decide)).toLoadRect (harg19.unread xs6)), Cert.FfnKernelIdeal.Gen.k0_pay13 (View.readAt (Elt F) arg20.view (box (n := 520) (W := 768) 8 768 512 0 (by decide) (by decide)).toLoadRect (harg20.unread xs7)), Cert.FfnKernelIdeal.Gen.k0_pay14 (View.readAt (Elt F) arg21.view (box (n := 520) (W := 768) 8 768 512 0 (by decide) (by decide)).toLoadRect (harg21.unread xs8)), Cert.FfnKernelIdeal.Gen.k0_pay16 (View.readAt (Elt F) arg22.view (box (n := 520) (W := 768) 8 768 512 0 (by decide) (by decide)).toLoadRect (harg22.unread xs9)), Cert.FfnKernelIdeal.Gen.k0_pay17 (View.readAt (Elt F) arg23.view (box (n := 520) (W := 512) 8 512 512 0 (by decide) (by decide)).toLoadRect (harg23.unread xs10))⟩
end
section
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2816 .bf16) (harg14 : arg14.IsWhole) (arg15 : Memref sig .tc .vmem S512x1024 .f32) (harg15 : arg15.IsWhole) (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole) (arg20 : Memref sig .tc .vmem S520x768 .f32) (harg20 : arg20.IsWhole) (arg21 : Memref sig .tc .vmem S520x768 .f32) (harg21 : arg21.IsWhole) (arg22 : Memref sig .tc .vmem S520x768 .f32) (harg22 : arg22.IsWhole) (arg23 : Memref sig .tc .vmem S520x512 .f32) (harg23 : arg23.IsWhole)
    (x0 : Vec F S512x512 .bf16) (x1 : Vec F S512x512 .bf16) (x2 : Vec F S512x1024 .bf16) (x3 : Vec F S512x1024 .bf16) (x4 : Vec F S512x1024 .f32) (x5 : Vec F S1x1024 .f32) (x6 : Vec F S1x1024x5632 .bf16) (x7 : Vec F S3x5632 .f32) (x8 : Vec F S1x5632 .f32) (x9 : Vec F S1x2816x1024 .bf16) (x10 : Vec F S1x1024 .f32)
    (xs3 : Vec F S520x768 .f32) (xs4 : Vec F S520x768 .f32) (xs5 : Vec F S520x768 .f32) (xs6 : Vec F S520x512 .f32) (xs7 : Vec F S520x768 .f32) (xs8 : Vec F S520x768 .f32) (xs9 : Vec F S520x768 .f32) (xs10 : Vec F S520x512 .f32)

set_option maxHeartbeats 4000000 in
theorem resA (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).1 = res arg6 harg6 arg7 harg7 arg8 harg8 arg9 harg9 arg10 harg10 arg13 arg14 arg15 arg16 arg17 arg18 arg19 arg20 arg21 arg22 arg23 (xin arg1 harg1 arg2 harg2 arg3 harg3 arg4 harg4 arg5 harg5 arg12 x0 x1 x2 x3 x4) x5 x6 x7 x8 x9 haloA ++ [⟨sq, first arg1 harg1 arg2 harg2 arg3 harg3 arg4 harg4 arg5 harg5 x0 x1 x2 x3 x4⟩] := by
  sl_kernel_rfl

theorem extA_3 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.1 = ext 768 haloA.g0 (up768 arg6 harg6 arg7 harg7 arg13 (xin arg1 harg1 arg2 harg2 arg3 harg3 arg4 harg4 arg5 harg5 arg12 x0 x1 x2 x3 x4) x5 x6 0 (by decide)) := by
  sl_kernel_rfl

theorem extA_4 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.1 = ext 768 haloA.g1 (up768 arg6 harg6 arg7 harg7 arg13 (xin arg1 harg1 arg2 harg2 arg3 harg3 arg4 harg4 arg5 harg5 arg12 x0 x1 x2 x3 x4) x5 x6 768 (by decide)) := by
  sl_kernel_rfl

theorem extA_5 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.1 = ext 768 haloA.g2 (up768 arg6 harg6 arg7 harg7 arg13 (xin arg1 harg1 arg2 harg2 arg3 harg3 arg4 harg4 arg5 harg5 arg12 x0 x1 x2 x3 x4) x5 x6 1536 (by decide)) := by
  sl_kernel_rfl

theorem extA_6 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.1 = ext 512 haloA.g3 (up512 arg6 harg6 arg7 harg7 arg13 (xin arg1 harg1 arg2 harg2 arg3 harg3 arg4 harg4 arg5 harg5 arg12 x0 x1 x2 x3 x4) x5 x6 2304 (by decide)) := by
  sl_kernel_rfl

theorem extA_7 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.2.1 = ext 768 haloA.u0 (up768 arg6 harg6 arg7 harg7 arg13 (xin arg1 harg1 arg2 harg2 arg3 harg3 arg4 harg4 arg5 harg5 arg12 x0 x1 x2 x3 x4) x5 x6 2816 (by decide)) := by
  sl_kernel_rfl

theorem extA_8 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.2.2.1 = ext 768 haloA.u1 (up768 arg6 harg6 arg7 harg7 arg13 (xin arg1 harg1 arg2 harg2 arg3 harg3 arg4 harg4 arg5 harg5 arg12 x0 x1 x2 x3 x4) x5 x6 3584 (by decide)) := by
  sl_kernel_rfl

theorem extA_9 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.2.2.2.1 = ext 768 haloA.u2 (up768 arg6 harg6 arg7 harg7 arg13 (xin arg1 harg1 arg2 harg2 arg3 harg3 arg4 harg4 arg5 harg5 arg12 x0 x1 x2 x3 x4) x5 x6 4352 (by decide)) := by
  sl_kernel_rfl

theorem extA_10 (hc0 : cond0_0 i) (hc1 : ¬ cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.2.2.2.2.1 = ext 512 haloA.u3 (up512 arg6 harg6 arg7 harg7 arg13 (xin arg1 harg1 arg2 harg2 arg3 harg3 arg4 harg4 arg5 harg5 arg12 x0 x1 x2 x3 x4) x5 x6 5120 (by decide)) := by
  sl_kernel_rfl

set_option maxHeartbeats 4000000 in
theorem resB (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10).1 = res arg6 harg6 arg7 harg7 arg8 harg8 arg9 harg9 arg10 harg10 arg13 arg14 arg15 arg16 arg17 arg18 arg19 arg20 arg21 arg22 arg23 (xin arg1 harg1 arg2 harg2 arg3 harg3 arg4 harg4 arg5 harg5 arg12 x0 x1 x2 x3 x4) x5 x6 x7 x8 x9 (haloB arg16 harg16 arg17 harg17 arg18 harg18 arg19 harg19 arg20 harg20 arg21 harg21 arg22 harg22 arg23 harg23 xs3 xs4 xs5 xs6 xs7 xs8 xs9 xs10) ++ [⟨sq, first arg1 harg1 arg2 harg2 arg3 harg3 arg4 harg4 arg5 harg5 x0 x1 x2 x3 x4⟩] := by
  sl_kernel_rfl

theorem extB_3 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10).2.1 = ext 768 (haloB arg16 harg16 arg17 harg17 arg18 harg18 arg19 harg19 arg20 harg20 arg21 harg21 arg22 harg22 arg23 harg23 xs3 xs4 xs5 xs6 xs7 xs8 xs9 xs10).g0 (up768 arg6 harg6 arg7 harg7 arg13 (xin arg1 harg1 arg2 harg2 arg3 harg3 arg4 harg4 arg5 harg5 arg12 x0 x1 x2 x3 x4) x5 x6 0 (by decide)) := by
  sl_kernel_rfl

theorem extB_4 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10).2.2.1 = ext 768 (haloB arg16 harg16 arg17 harg17 arg18 harg18 arg19 harg19 arg20 harg20 arg21 harg21 arg22 harg22 arg23 harg23 xs3 xs4 xs5 xs6 xs7 xs8 xs9 xs10).g1 (up768 arg6 harg6 arg7 harg7 arg13 (xin arg1 harg1 arg2 harg2 arg3 harg3 arg4 harg4 arg5 harg5 arg12 x0 x1 x2 x3 x4) x5 x6 768 (by decide)) := by
  sl_kernel_rfl

theorem extB_5 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10).2.2.2.1 = ext 768 (haloB arg16 harg16 arg17 harg17 arg18 harg18 arg19 harg19 arg20 harg20 arg21 harg21 arg22 harg22 arg23 harg23 xs3 xs4 xs5 xs6 xs7 xs8 xs9 xs10).g2 (up768 arg6 harg6 arg7 harg7 arg13 (xin arg1 harg1 arg2 harg2 arg3 harg3 arg4 harg4 arg5 harg5 arg12 x0 x1 x2 x3 x4) x5 x6 1536 (by decide)) := by
  sl_kernel_rfl

theorem extB_6 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10).2.2.2.2.1 = ext 512 (haloB arg16 harg16 arg17 harg17 arg18 harg18 arg19 harg19 arg20 harg20 arg21 harg21 arg22 harg22 arg23 harg23 xs3 xs4 xs5 xs6 xs7 xs8 xs9 xs10).g3 (up512 arg6 harg6 arg7 harg7 arg13 (xin arg1 harg1 arg2 harg2 arg3 harg3 arg4 harg4 arg5 harg5 arg12 x0 x1 x2 x3 x4) x5 x6 2304 (by decide)) := by
  sl_kernel_rfl

theorem extB_7 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10).2.2.2.2.2.1 = ext 768 (haloB arg16 harg16 arg17 harg17 arg18 harg18 arg19 harg19 arg20 harg20 arg21 harg21 arg22 harg22 arg23 harg23 xs3 xs4 xs5 xs6 xs7 xs8 xs9 xs10).u0 (up768 arg6 harg6 arg7 harg7 arg13 (xin arg1 harg1 arg2 harg2 arg3 harg3 arg4 harg4 arg5 harg5 arg12 x0 x1 x2 x3 x4) x5 x6 2816 (by decide)) := by
  sl_kernel_rfl

theorem extB_8 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10).2.2.2.2.2.2.1 = ext 768 (haloB arg16 harg16 arg17 harg17 arg18 harg18 arg19 harg19 arg20 harg20 arg21 harg21 arg22 harg22 arg23 harg23 xs3 xs4 xs5 xs6 xs7 xs8 xs9 xs10).u1 (up768 arg6 harg6 arg7 harg7 arg13 (xin arg1 harg1 arg2 harg2 arg3 harg3 arg4 harg4 arg5 harg5 arg12 x0 x1 x2 x3 x4) x5 x6 3584 (by decide)) := by
  sl_kernel_rfl

theorem extB_9 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10).2.2.2.2.2.2.2.1 = ext 768 (haloB arg16 harg16 arg17 harg17 arg18 harg18 arg19 harg19 arg20 harg20 arg21 harg21 arg22 harg22 arg23 harg23 xs3 xs4 xs5 xs6 xs7 xs8 xs9 xs10).u2 (up768 arg6 harg6 arg7 harg7 arg13 (xin arg1 harg1 arg2 harg2 arg3 harg3 arg4 harg4 arg5 harg5 arg12 x0 x1 x2 x3 x4) x5 x6 4352 (by decide)) := by
  sl_kernel_rfl

theorem extB_10 (hc0 : ¬ cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10).2.2.2.2.2.2.2.2.1 = ext 512 (haloB arg16 harg16 arg17 harg17 arg18 harg18 arg19 harg19 arg20 harg20 arg21 harg21 arg22 harg22 arg23 harg23 xs3 xs4 xs5 xs6 xs7 xs8 xs9 xs10).u3 (up512 arg6 harg6 arg7 harg7 arg13 (xin arg1 harg1 arg2 harg2 arg3 harg3 arg4 harg4 arg5 harg5 arg12 x0 x1 x2 x3 x4) x5 x6 5120 (by decide)) := by
  sl_kernel_rfl

end
end Cert.OutKernelIdeal.Tile
end
-- ==== Proof.OutPoint.lean ====
/- The vectors of the first layer's feed-forward kernel that the second's does not have, read at an index over the reals. -/
module
public import proofs.«01_k».proof.Proof.OutPieces
public import proofs.«01_k».proof.Proof.FfnPoint
@[expose] public section
set_option maxRecDepth 16384
noncomputable section
namespace Cert.OutKernelIdeal.Tile
open Idealize.ShloMosaic Idealize.ShloMosaic.TcCoe Idealize.SL.Sem
open Cert.OutKernelIdeal Cert.OutKernelIdeal.Gen Cert.FfnTile
open Cert.FfnKernelIdeal.Tile (Halo glu512 haloA pay9_apply pay10_apply pay11_apply pay12_apply pay13_apply pay14_apply pay16_apply pay17_apply)

theorem hrowP_apply (v : Vec Ideal S512x1024 .f32) (g : Vec Ideal S1x1024 .f32) (i : Fin 512) (d : Fin 1024) :
    k0_pay21 (F := Ideal) (k0_pay20 v) g (ix2 i d) = FfnMath.rms (fun d => v (ix2 i d)) (fun d => g (ix2 0 d)) d := by
  pointwise [k0_pay20, k0_pay21, FfnMath.rms]

theorem resP_apply (v a : Vec Ideal S512x1024 .f32) (i : Fin 512) (d : Fin 1024) :
    k0_pay1 (F := Ideal) v a (ix2 i d) = v (ix2 i d) + a (ix2 i d) := by
  pointwise [k0_pay1]

theorem firstP_apply (x : Vec Ideal S512x1024 .f32) (oa : Vec Ideal S512x512 .bf16) (wa : Vec Ideal S512x1024 .bf16) (ob : Vec Ideal S512x512 .bf16) (wb : Vec Ideal S512x1024 .bf16) (i : Fin 512) (d : Fin 1024) :
    k0_pay19 (F := Ideal) x oa wa ob wb (ix2 i d) = x (ix2 i d) + (∑ e : Fin 512, oa (ix2 i e) * wa (ix2 e d)) + ∑ e : Fin 512, ob (ix2 i e) * wb (ix2 e d) := by
  pointwise [k0_pay19]

section
variable (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg12 : Memref sig .tc .vmem S512x1024 .f32)
    (x0 : Vec Ideal S512x512 .bf16) (x1 : Vec Ideal S512x512 .bf16) (x2 : Vec Ideal S512x1024 .bf16) (x3 : Vec Ideal S512x1024 .bf16) (x4 : Vec Ideal S512x1024 .f32)

theorem first_apply (i : Fin 512) (d : Fin 1024) :
    first arg1 harg1 arg2 harg2 arg3 harg3 arg4 harg4 arg5 harg5 x0 x1 x2 x3 x4 (ix2 i d) = x4 (ix2 i d) + (∑ e : Fin 512, x0 (ix2 i e) * x2 (ix2 e d)) + ∑ e : Fin 512, x1 (ix2 i e) * x3 (ix2 e d) := by
  have ld : ∀ (W : ℕ) (i : Fin 512) (d : Fin W), (ix2 (⟨0 + i.val, by omega⟩ : Fin 512) (⟨0 + d.val, by omega⟩ : Fin W)) = ix2 i d := fun W i d =>
    congrArg₂ ix2 (Fin.ext (Nat.zero_add _)) (Fin.ext (Nat.zero_add _))
  unfold first
  rw [firstP_apply]
  refine congrArg₂ (· + ·) (congrArg₂ (· + ·) ?_ (Finset.sum_congr rfl fun e _ => congrArg₂ (· * ·) ?_ ?_)) (Finset.sum_congr rfl fun e _ => congrArg₂ (· * ·) ?_ ?_)
  · exact (load2 arg5 harg5 x4 (by decide) (by decide) i d).trans (congrArg x4 (ld 1024 i d))
  · exact (load2 arg1 harg1 x0 (by decide) (by decide) i e).trans (congrArg x0 (ld 512 i e))
  · exact (load2 arg3 harg3 x2 (by decide) (by decide) e d).trans (congrArg x2 (ld 1024 e d))
  · exact (load2 arg2 harg2 x1 (by decide) (by decide) i e).trans (congrArg x1 (ld 512 i e))
  · exact (load2 arg4 harg4 x3 (by decide) (by decide) e d).trans (congrArg x3 (ld 1024 e d))

theorem xin_apply (i : Fin 512) (d : Fin 1024) :
    xin arg1 harg1 arg2 harg2 arg3 harg3 arg4 harg4 arg5 harg5 arg12 x0 x1 x2 x3 x4 (ix2 i d) = x4 (ix2 i d) + (∑ e : Fin 512, x0 (ix2 i e) * x2 (ix2 e d)) + ∑ e : Fin 512, x1 (ix2 i e) * x3 (ix2 e d) := by
  unfold xin
  exact (congrFun (View.readCov_unit_lit' (Val := Elt Ideal) arg12.view (inb2 (by decide) (by decide)) _ (by decide)) (ix2 i d)).trans (first_apply arg1 harg1 arg2 harg2 arg3 harg3 arg4 harg4 arg5 harg5 x0 x1 x2 x3 x4 i d)
end

theorem haloB_is (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole) (arg20 : Memref sig .tc .vmem S520x768 .f32) (harg20 : arg20.IsWhole) (arg21 : Memref sig .tc .vmem S520x768 .f32) (harg21 : arg21.IsWhole) (arg22 : Memref sig .tc .vmem S520x768 .f32) (harg22 : arg22.IsWhole) (arg23 : Memref sig .tc .vmem S520x512 .f32) (harg23 : arg23.IsWhole)
    (xs3 : Vec Ideal S520x768 .f32) (xs4 : Vec Ideal S520x768 .f32) (xs5 : Vec Ideal S520x768 .f32) (xs6 : Vec Ideal S520x512 .f32) (xs7 : Vec Ideal S520x768 .f32) (xs8 : Vec Ideal S520x768 .f32) (xs9 : Vec Ideal S520x768 .f32) (xs10 : Vec Ideal S520x512 .f32) (h : Fin 8 → Fin 5632 → EReal)
    (h3 : ∀ (i : Fin 8) (j : Fin 768), xs3 (ix2 ⟨512 + i.val, by omega⟩ j) = h i ⟨0 + j.val, by omega⟩)
    (h4 : ∀ (i : Fin 8) (j : Fin 768), xs4 (ix2 ⟨512 + i.val, by omega⟩ j) = h i ⟨768 + j.val, by omega⟩)
    (h5 : ∀ (i : Fin 8) (j : Fin 768), xs5 (ix2 ⟨512 + i.val, by omega⟩ j) = h i ⟨1536 + j.val, by omega⟩)
    (h6 : ∀ (i : Fin 8) (j : Fin 512), xs6 (ix2 ⟨512 + i.val, by omega⟩ j) = h i ⟨2304 + j.val, by omega⟩)
    (h7 : ∀ (i : Fin 8) (j : Fin 768), xs7 (ix2 ⟨512 + i.val, by omega⟩ j) = h i ⟨2816 + j.val, by omega⟩)
    (h8 : ∀ (i : Fin 8) (j : Fin 768), xs8 (ix2 ⟨512 + i.val, by omega⟩ j) = h i ⟨3584 + j.val, by omega⟩)
    (h9 : ∀ (i : Fin 8) (j : Fin 768), xs9 (ix2 ⟨512 + i.val, by omega⟩ j) = h i ⟨4352 + j.val, by omega⟩)
    (h10 : ∀ (i : Fin 8) (j : Fin 512), xs10 (ix2 ⟨512 + i.val, by omega⟩ j) = h i ⟨5120 + j.val, by omega⟩)
    : Halo.Is (haloB arg16 harg16 arg17 harg17 arg18 harg18 arg19 harg19 arg20 harg20 arg21 harg21 arg22 harg22 arg23 harg23 xs3 xs4 xs5 xs6 xs7 xs8 xs9 xs10) h where
  g0 i j := by
    refine (pay9_apply _ i j).trans ((load2 arg16 harg16 xs3 (by decide) (by decide) i j).trans (Eq.trans (congrArg xs3 (congrArg₂ ix2 rfl (Fin.ext ?_))) (h3 i j)))
    show 0 + j.val = j.val; omega
  g1 i j := by
    refine (pay10_apply _ i j).trans ((load2 arg17 harg17 xs4 (by decide) (by decide) i j).trans (Eq.trans (congrArg xs4 (congrArg₂ ix2 rfl (Fin.ext ?_))) (h4 i j)))
    show 0 + j.val = j.val; omega
  g2 i j := by
    refine (pay11_apply _ i j).trans ((load2 arg18 harg18 xs5 (by decide) (by decide) i j).trans (Eq.trans (congrArg xs5 (congrArg₂ ix2 rfl (Fin.ext ?_))) (h5 i j)))
    show 0 + j.val = j.val; omega
  g3 i j := by
    refine (pay12_apply _ i j).trans ((load2 arg19 harg19 xs6 (by decide) (by decide) i j).trans (Eq.trans (congrArg xs6 (congrArg₂ ix2 rfl (Fin.ext ?_))) (h6 i j)))
    show 0 + j.val = j.val; omega
  u0 i j := by
    refine (pay13_apply _ i j).trans ((load2 arg20 harg20 xs7 (by decide) (by decide) i j).trans (Eq.trans (congrArg xs7 (congrArg₂ ix2 rfl (Fin.ext ?_))) (h7 i j)))
    show 0 + j.val = j.val; omega
  u1 i j := by
    refine (pay14_apply _ i j).trans ((load2 arg21 harg21 xs8 (by decide) (by decide) i j).trans (Eq.trans (congrArg xs8 (congrArg₂ ix2 rfl (Fin.ext ?_))) (h8 i j)))
    show 0 + j.val = j.val; omega
  u2 i j := by
    refine (pay16_apply _ i j).trans ((load2 arg22 harg22 xs9 (by decide) (by decide) i j).trans (Eq.trans (congrArg xs9 (congrArg₂ ix2 rfl (Fin.ext ?_))) (h9 i j)))
    show 0 + j.val = j.val; omega
  u3 i j := by
    refine (pay17_apply _ i j).trans ((load2 arg23 harg23 xs10 (by decide) (by decide) i j).trans (Eq.trans (congrArg xs10 (congrArg₂ ix2 rfl (Fin.ext ?_))) (h10 i j)))
    show 0 + j.val = j.val; omega
end Cert.OutKernelIdeal.Tile
end
-- ==== Proof.OutBlock.lean ====
/- One tile of the first layer's feed-forward kernel against the layer's mathematics. -/
module
public import proofs.«01_k».proof.Proof.OutPoint
@[expose] public section
set_option maxRecDepth 16384
noncomputable section
namespace Cert.OutKernelIdeal.Tile
open Idealize.ShloMosaic Idealize.ShloMosaic.TcCoe Idealize.SL.Sem
open Cert.OutKernelIdeal Cert.OutKernelIdeal.Gen Cert.FfnTile
open Cert.FfnKernelIdeal.Tile (Halo glu512 haloA upP768_apply upP512_apply gluP768_apply gluP512_apply sumP0_apply sumP768_apply sumP512_apply)

theorem last_sq (v : View sig .tc .vmem S512x1024 .f32) (f : v.ty.Contents (Elt Ideal)) (p : FVec Ideal S512x1024 .f32) (l : List (View.Piece (Elt Ideal) S512x1024 .f32)) (i : Fin 512) (d : Fin 1024) :
    v.read (Elt Ideal) (v.writes (Elt Ideal) f (⟨sq, p⟩ :: l)) (ix2 i d) = p (ix2 i d) := by
  have cov : ∀ y, ∃ q ∈ (⟨sq, p⟩ : View.Piece (Elt Ideal) S512x1024 .f32) :: l, y ∈ q.1.set := fun y =>
    ⟨_, .head _, box_mem (by decide) (by decide) y (Nat.zero_le _) (by have : (y 0 : ℕ) < 512 := (y 0).isLt; omega) (Nat.zero_le _) (by have : (y 1 : ℕ) < 1024 := (y 1).isLt; omega)⟩
  rw [View.read_writes_eq_canon v f _ cov]
  exact congrFun (View.canon_cons_unit_lit' (Val := Elt Ideal) (inb2 (by decide) (by decide)) _ l (by decide)) (ix2 i d)

section
variable (A : FfnMath.Args) (t : Fin 32)
variable (arg5 : Memref sig .tc .vmem S512x1024 .f32) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2816 .bf16) (harg14 : arg14.IsWhole) (arg15 : Memref sig .tc .vmem S512x1024 .f32) (harg15 : arg15.IsWhole) (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole) (arg20 : Memref sig .tc .vmem S520x768 .f32) (harg20 : arg20.IsWhole) (arg21 : Memref sig .tc .vmem S520x768 .f32) (harg21 : arg21.IsWhole) (arg22 : Memref sig .tc .vmem S520x768 .f32) (harg22 : arg22.IsWhole) (arg23 : Memref sig .tc .vmem S520x512 .f32) (harg23 : arg23.IsWhole)
    (xv : Vec Ideal S512x1024 .f32) (x5 : Vec Ideal S1x1024 .f32) (x6 : Vec Ideal S1x1024x5632 .bf16) (x7 : Vec Ideal S3x5632 .f32) (x8 : Vec Ideal S1x5632 .f32) (x9 : Vec Ideal S1x2816x1024 .bf16) (x10 : Vec Ideal S1x1024 .f32) (H : Halo Ideal)

/-- The tile's blocks are the arguments' rows, and its halo the rows before. -/
structure Holds : Prop where
  x : ∀ i d, xv (ix2 i d) = A.x (FfnMath.Args.trow t i) d
  g : ∀ d, x5 (ix2 0 d) = A.g d
  wu : ∀ d f, x6 (ix3 0 d f) = A.wu d f
  cw : ∀ s f, x7 (ix2 s f) = A.cw s f
  cb : ∀ f, x8 (ix2 0 f) = A.cb f
  wd : ∀ f d, x9 (ix3 0 f d) = A.wd f d

variable {A t xv x5 x6 x7 x8 x9 H} (K : Holds A t xv x5 x6 x7 x8 x9) (hH : H.Is (A.halo t))
include K

theorem g_apply (d : Fin 1024) : View.readAt (Elt Ideal) arg6.view rw1.toLoadRect (harg6.unread x5) (ix2 0 d) = A.g d := by
  refine (load2 arg6 harg6 x5 (by decide) (by decide) 0 d).trans (Eq.trans (congrArg x5 (congrArg₂ ix2 (Fin.ext ?_) (Fin.ext ?_))) (K.g d))
  · rfl
  · show 0 + d.val = d.val; omega

theorem hrow_apply (i : Fin 512) (d : Fin 1024) :
    hrow arg6 harg6 arg13 xv x5 (ix2 i d) = FfnMath.rms (A.x (FfnMath.Args.trow t i)) A.g d := by
  unfold hrow
  refine (congrFun (View.readCov_unit_lit' (Val := Elt Ideal) arg13.view (inb2 (by decide) (by decide)) _ (by decide)) (ix2 i d)).trans ?_
  rw [hrowP_apply]
  exact congrArg₂ (fun x g => FfnMath.rms x g d) (funext fun d => K.x i d) (funext fun d => g_apply arg6 harg6 K d)

theorem up768_apply (o : ℕ) (h : o + 768 ≤ 5632) (i : Fin 512) (j : Fin 768) :
    up768 arg6 harg6 arg7 harg7 arg13 xv x5 x6 o h (ix2 i j) = A.up (FfnMath.Args.trow t i) ⟨o + j.val, by omega⟩ := by
  unfold up768
  rw [upP768_apply]
  refine Finset.sum_congr rfl fun d _ => congrArg₂ (· * ·) (hrow_apply arg6 harg6 arg13 K i d) ?_
  refine (load3 arg7 harg7 x6 (by decide) h d j).trans (Eq.trans (congrArg x6 (congrArg₂ (ix3 0) (Fin.ext ?_) rfl)) (K.wu d ⟨o + j.val, by omega⟩))
  show 0 + d.val = d.val; omega

theorem ext768_apply (o : ℕ) (h : o + 768 ≤ 5632) (halo : FVec Ideal S8x768 .f32) (hh : ∀ (i : Fin 8) (j : Fin 768), halo (ix2 i j) = A.halo t i ⟨o + j.val, by omega⟩) (e : Fin 520) (j : Fin 768) :
    extF 768 halo (up768 arg6 harg6 arg7 harg7 arg13 xv x5 x6 o h) (ix2 e j) = A.ext t e ⟨o + j.val, by omega⟩ := by
  unfold extF FfnMath.Args.ext
  by_cases he : e.val < 8
  · rw [dif_pos he, dif_pos (show ((ix2 e j : S520x768.Idx) 0 : ℕ) < 8 from he)]
    exact hh ⟨e.val, he⟩ j
  · rw [dif_neg he, dif_neg (show ¬ ((ix2 e j : S520x768.Idx) 0 : ℕ) < 8 from he)]
    exact up768_apply arg6 harg6 arg7 harg7 arg13 K o h ⟨e.val - 8, by omega⟩ j

theorem act768_apply (vg vu : View sig .tc .vmem S520x768 .f32) (hg hu : FVec Ideal S8x768 .f32) (o : ℕ) (h : o + 768 ≤ 2816)
    (hhg : ∀ (i : Fin 8) (j : Fin 768), hg (ix2 i j) = A.halo t i ⟨o + j.val, by omega⟩) (hhu : ∀ (i : Fin 8) (j : Fin 768), hu (ix2 i j) = A.halo t i ⟨2816 + o + j.val, by omega⟩)
    (k : Fin 8) (i : Fin 64) (j : Fin 768) :
    act768 arg6 harg6 arg7 harg7 arg8 harg8 arg9 harg9 arg13 xv x5 x6 x7 x8 vg vu hg hu o h k (ix2 i j)
      = A.act (FfnMath.Args.trow t ⟨64 * k.val + i.val, by omega⟩) ⟨o + j.val, by omega⟩ := by
  have hf : (⟨2816 + o + j.val, by omega⟩ : Fin 5632) = FfnMath.hi ⟨o + j.val, by omega⟩ := Fin.ext (Nat.add_assoc 2816 o j.val)
  have hb : ∀ (o' : ℕ) (h' : o' + 768 ≤ 5632) (v : View sig .tc .vmem S520x768 .f32) (ha : FVec Ideal S8x768 .f32) (hh : ∀ (i : Fin 8) (j : Fin 768), ha (ix2 i j) = A.halo t i ⟨o' + j.val, by omega⟩) (s : Fin 3),
      band 768 v ha (up768 arg6 harg6 arg7 harg7 arg13 xv x5 x6 o' h') k (ix2 ⟨i.val + 6 + s.val, by omega⟩ j)
        = A.back (FfnMath.Args.trow t ⟨64 * k.val + i.val, by omega⟩) ⟨o' + j.val, by omega⟩ s := fun o' h' v ha hh s => by
    rw [band_apply, ext768_apply arg6 harg6 arg7 harg7 arg13 K o' h' ha hh, ← FfnMath.Args.ext_back A t ⟨64 * k.val + i.val, by omega⟩ ⟨o' + j.val, by omega⟩ s (by show 64 * k.val + i.val + 6 + s.val < 520; omega)]
    exact congrArg (fun e => A.ext t e _) (Fin.ext (by show 64 * k.val + (i.val + 6 + s.val) = 64 * k.val + i.val + 6 + s.val; omega))
  have hw : ∀ (o' : ℕ) (h' : o' + 768 ≤ 5632) (s : Fin 3),
      View.readAt (Elt Ideal) arg8.view (box (n := 3) (W := 5632) 3 768 0 o' (by decide) h').toLoadRect (harg8.unread x7) (ix2 s j) = A.cw s ⟨o' + j.val, by omega⟩ := fun o' h' s => by
    refine (load2 arg8 harg8 x7 (by decide) h' s j).trans (Eq.trans (congrArg x7 (congrArg₂ ix2 (Fin.ext ?_) rfl)) (K.cw s ⟨o' + j.val, by omega⟩))
    show 0 + s.val = s.val; omega
  have hc : ∀ (o' : ℕ) (h' : o' + 768 ≤ 5632),
      View.readAt (Elt Ideal) arg9.view (box (n := 1) (W := 5632) 1 768 0 o' (by decide) h').toLoadRect (harg9.unread x8) (ix2 0 j) = A.cb ⟨o' + j.val, by omega⟩ := fun o' h' =>
    (load2 arg9 harg9 x8 (by decide) h' 0 j).trans (K.cb ⟨o' + j.val, by omega⟩)
  unfold act768
  rw [gluP768_apply]
  unfold FfnMath.Args.act FfnMath.Args.pre
  refine congrArg₂ FfnMath.glu ?_ ?_
  · exact congr (congrArg₂ FfnMath.conv (funext fun s => hw o (by omega) s) (hc o (by omega))) (funext fun s => hb o (by omega) vg hg hhg s)
  · rw [← hf]
    exact congr (congrArg₂ FfnMath.conv (funext fun s => hw (2816 + o) (by omega) s) (hc (2816 + o) (by omega))) (funext fun s => hb (2816 + o) (by omega) vu hu hhu s)

theorem up512_apply (o : ℕ) (h : o + 512 ≤ 5632) (i : Fin 512) (j : Fin 512) :
    up512 arg6 harg6 arg7 harg7 arg13 xv x5 x6 o h (ix2 i j) = A.up (FfnMath.Args.trow t i) ⟨o + j.val, by omega⟩ := by
  unfold up512
  rw [upP512_apply]
  refine Finset.sum_congr rfl fun d _ => congrArg₂ (· * ·) (hrow_apply arg6 harg6 arg13 K i d) ?_
  refine (load3 arg7 harg7 x6 (by decide) h d j).trans (Eq.trans (congrArg x6 (congrArg₂ (ix3 0) (Fin.ext ?_) rfl)) (K.wu d ⟨o + j.val, by omega⟩))
  show 0 + d.val = d.val; omega

theorem ext512_apply (o : ℕ) (h : o + 512 ≤ 5632) (halo : FVec Ideal S8x512 .f32) (hh : ∀ (i : Fin 8) (j : Fin 512), halo (ix2 i j) = A.halo t i ⟨o + j.val, by omega⟩) (e : Fin 520) (j : Fin 512) :
    extF 512 halo (up512 arg6 harg6 arg7 harg7 arg13 xv x5 x6 o h) (ix2 e j) = A.ext t e ⟨o + j.val, by omega⟩ := by
  unfold extF FfnMath.Args.ext
  by_cases he : e.val < 8
  · rw [dif_pos he, dif_pos (show ((ix2 e j : S520x512.Idx) 0 : ℕ) < 8 from he)]
    exact hh ⟨e.val, he⟩ j
  · rw [dif_neg he, dif_neg (show ¬ ((ix2 e j : S520x512.Idx) 0 : ℕ) < 8 from he)]
    exact up512_apply arg6 harg6 arg7 harg7 arg13 K o h ⟨e.val - 8, by omega⟩ j

theorem act512_apply (vg vu : View sig .tc .vmem S520x512 .f32) (hg hu : FVec Ideal S8x512 .f32) (o : ℕ) (h : o + 512 ≤ 2816)
    (hhg : ∀ (i : Fin 8) (j : Fin 512), hg (ix2 i j) = A.halo t i ⟨o + j.val, by omega⟩) (hhu : ∀ (i : Fin 8) (j : Fin 512), hu (ix2 i j) = A.halo t i ⟨2816 + o + j.val, by omega⟩)
    (k : Fin 8) (i : Fin 64) (j : Fin 512) :
    act512 arg6 harg6 arg7 harg7 arg8 harg8 arg9 harg9 arg13 xv x5 x6 x7 x8 vg vu hg hu o h k (ix2 i j)
      = A.act (FfnMath.Args.trow t ⟨64 * k.val + i.val, by omega⟩) ⟨o + j.val, by omega⟩ := by
  have hf : (⟨2816 + o + j.val, by omega⟩ : Fin 5632) = FfnMath.hi ⟨o + j.val, by omega⟩ := Fin.ext (Nat.add_assoc 2816 o j.val)
  have hb : ∀ (o' : ℕ) (h' : o' + 512 ≤ 5632) (v : View sig .tc .vmem S520x512 .f32) (ha : FVec Ideal S8x512 .f32) (hh : ∀ (i : Fin 8) (j : Fin 512), ha (ix2 i j) = A.halo t i ⟨o' + j.val, by omega⟩) (s : Fin 3),
      band 512 v ha (up512 arg6 harg6 arg7 harg7 arg13 xv x5 x6 o' h') k (ix2 ⟨i.val + 6 + s.val, by omega⟩ j)
        = A.back (FfnMath.Args.trow t ⟨64 * k.val + i.val, by omega⟩) ⟨o' + j.val, by omega⟩ s := fun o' h' v ha hh s => by
    rw [band_apply, ext512_apply arg6 harg6 arg7 harg7 arg13 K o' h' ha hh, ← FfnMath.Args.ext_back A t ⟨64 * k.val + i.val, by omega⟩ ⟨o' + j.val, by omega⟩ s (by show 64 * k.val + i.val + 6 + s.val < 520; omega)]
    exact congrArg (fun e => A.ext t e _) (Fin.ext (by show 64 * k.val + (i.val + 6 + s.val) = 64 * k.val + i.val + 6 + s.val; omega))
  have hw : ∀ (o' : ℕ) (h' : o' + 512 ≤ 5632) (s : Fin 3),
      View.readAt (Elt Ideal) arg8.view (box (n := 3) (W := 5632) 3 512 0 o' (by decide) h').toLoadRect (harg8.unread x7) (ix2 s j) = A.cw s ⟨o' + j.val, by omega⟩ := fun o' h' s => by
    refine (load2 arg8 harg8 x7 (by decide) h' s j).trans (Eq.trans (congrArg x7 (congrArg₂ ix2 (Fin.ext ?_) rfl)) (K.cw s ⟨o' + j.val, by omega⟩))
    show 0 + s.val = s.val; omega
  have hc : ∀ (o' : ℕ) (h' : o' + 512 ≤ 5632),
      View.readAt (Elt Ideal) arg9.view (box (n := 1) (W := 5632) 1 512 0 o' (by decide) h').toLoadRect (harg9.unread x8) (ix2 0 j) = A.cb ⟨o' + j.val, by omega⟩ := fun o' h' =>
    (load2 arg9 harg9 x8 (by decide) h' 0 j).trans (K.cb ⟨o' + j.val, by omega⟩)
  unfold act512
  rw [gluP512_apply]
  unfold FfnMath.Args.act FfnMath.Args.pre
  refine congrArg₂ FfnMath.glu ?_ ?_
  · exact congr (congrArg₂ FfnMath.conv (funext fun s => hw o (by omega) s) (hc o (by omega))) (funext fun s => hb o (by omega) vg hg hhg s)
  · rw [← hf]
    exact congr (congrArg₂ FfnMath.conv (funext fun s => hw (2816 + o) (by omega) s) (hc (2816 + o) (by omega))) (funext fun s => hb (2816 + o) (by omega) vu hu hhu s)

include hH

/-- The activations stored so far agree with the mathematics. -/
theorem agree0 : ∀ p ∈ acts0 arg6 harg6 arg7 harg7 arg8 harg8 arg9 harg9 arg13 arg16 arg20 xv x5 x6 x7 x8 H, ∀ x, p.2 x = (fun y : S512x2816.Idx => A.act (FfnMath.Args.trow t (y 0)) (y 1)) (p.1.emb x) :=
  fun p hp x => acts_agree 768 0 (by decide) _ (fun i f => A.act (FfnMath.Args.trow t i) f) (act768_apply arg6 harg6 arg7 harg7 arg8 harg8 arg9 harg9 arg13 K arg16.view arg20.view H.g0 H.u0 0 (by decide) hH.g0 hH.u0) p hp x

theorem col0 (v : View sig .tc .vmem S512x2816 .bf16) (i : Fin 512) (j : Fin 768) :
    View.readCov (Val := Elt Ideal) v (acts0 arg6 harg6 arg7 harg7 arg8 harg8 arg9 harg9 arg13 arg16 arg20 xv x5 x6 x7 x8 H) (box (n := 512) (W := 2816) 512 768 0 0 (by decide) (by decide)).toLoadRect (ix2 i j)
      = A.act (FfnMath.Args.trow t i) ⟨0 + j.val, by omega⟩ := by
  unfold acts0
  rw [← List.append_nil (acts 768 0 _ _)]
  exact acts_read 768 0 (by decide) _ [] (fun i f => A.act (FfnMath.Args.trow t i) f) v (act768_apply arg6 harg6 arg7 harg7 arg8 harg8 arg9 harg9 arg13 K arg16.view arg20.view H.g0 H.u0 0 (by decide) hH.g0 hH.u0) (fun p hp => absurd hp (List.not_mem_nil)) i j

theorem agree1 : ∀ p ∈ acts1 arg6 harg6 arg7 harg7 arg8 harg8 arg9 harg9 arg13 arg16 arg17 arg20 arg21 xv x5 x6 x7 x8 H, ∀ x, p.2 x = (fun y : S512x2816.Idx => A.act (FfnMath.Args.trow t (y 0)) (y 1)) (p.1.emb x) :=
  fun p hp x => (List.mem_append.1 hp).elim (fun hp => acts_agree 768 768 (by decide) _ (fun i f => A.act (FfnMath.Args.trow t i) f) (act768_apply arg6 harg6 arg7 harg7 arg8 harg8 arg9 harg9 arg13 K arg17.view arg21.view H.g1 H.u1 768 (by decide) hH.g1 hH.u1) p hp x) (fun hp => agree0 arg6 harg6 arg7 harg7 arg8 harg8 arg9 harg9 arg13 arg16 arg20 K hH p hp x)

theorem col1 (v : View sig .tc .vmem S512x2816 .bf16) (i : Fin 512) (j : Fin 768) :
    View.readCov (Val := Elt Ideal) v (acts1 arg6 harg6 arg7 harg7 arg8 harg8 arg9 harg9 arg13 arg16 arg17 arg20 arg21 xv x5 x6 x7 x8 H) (box (n := 512) (W := 2816) 512 768 0 768 (by decide) (by decide)).toLoadRect (ix2 i j)
      = A.act (FfnMath.Args.trow t i) ⟨768 + j.val, by omega⟩ := by
  unfold acts1
  exact acts_read 768 768 (by decide) _ (acts0 arg6 harg6 arg7 harg7 arg8 harg8 arg9 harg9 arg13 arg16 arg20 xv x5 x6 x7 x8 H) (fun i f => A.act (FfnMath.Args.trow t i) f) v (act768_apply arg6 harg6 arg7 harg7 arg8 harg8 arg9 harg9 arg13 K arg17.view arg21.view H.g1 H.u1 768 (by decide) hH.g1 hH.u1) (agree0 arg6 harg6 arg7 harg7 arg8 harg8 arg9 harg9 arg13 arg16 arg20 K hH) i j

theorem agree2 : ∀ p ∈ acts2 arg6 harg6 arg7 harg7 arg8 harg8 arg9 harg9 arg13 arg16 arg17 arg18 arg20 arg21 arg22 xv x5 x6 x7 x8 H, ∀ x, p.2 x = (fun y : S512x2816.Idx => A.act (FfnMath.Args.trow t (y 0)) (y 1)) (p.1.emb x) :=
  fun p hp x => (List.mem_append.1 hp).elim (fun hp => acts_agree 768 1536 (by decide) _ (fun i f => A.act (FfnMath.Args.trow t i) f) (act768_apply arg6 harg6 arg7 harg7 arg8 harg8 arg9 harg9 arg13 K arg18.view arg22.view H.g2 H.u2 1536 (by decide) hH.g2 hH.u2) p hp x) (fun hp => agree1 arg6 harg6 arg7 harg7 arg8 harg8 arg9 harg9 arg13 arg16 arg17 arg20 arg21 K hH p hp x)

theorem col2 (v : View sig .tc .vmem S512x2816 .bf16) (i : Fin 512) (j : Fin 768) :
    View.readCov (Val := Elt Ideal) v (acts2 arg6 harg6 arg7 harg7 arg8 harg8 arg9 harg9 arg13 arg16 arg17 arg18 arg20 arg21 arg22 xv x5 x6 x7 x8 H) (box (n := 512) (W := 2816) 512 768 0 1536 (by decide) (by decide)).toLoadRect (ix2 i j)
      = A.act (FfnMath.Args.trow t i) ⟨1536 + j.val, by omega⟩ := by
  unfold acts2
  exact acts_read 768 1536 (by decide) _ (acts1 arg6 harg6 arg7 harg7 arg8 harg8 arg9 harg9 arg13 arg16 arg17 arg20 arg21 xv x5 x6 x7 x8 H) (fun i f => A.act (FfnMath.Args.trow t i) f) v (act768_apply arg6 harg6 arg7 harg7 arg8 harg8 arg9 harg9 arg13 K arg18.view arg22.view H.g2 H.u2 1536 (by decide) hH.g2 hH.u2) (agree1 arg6 harg6 arg7 harg7 arg8 harg8 arg9 harg9 arg13 arg16 arg17 arg20 arg21 K hH) i j

theorem agree3 : ∀ p ∈ acts3 arg6 harg6 arg7 harg7 arg8 harg8 arg9 harg9 arg13 arg16 arg17 arg18 arg19 arg20 arg21 arg22 arg23 xv x5 x6 x7 x8 H, ∀ x, p.2 x = (fun y : S512x2816.Idx => A.act (FfnMath.Args.trow t (y 0)) (y 1)) (p.1.emb x) :=
  fun p hp x => (List.mem_append.1 hp).elim (fun hp => acts_agree 512 2304 (by decide) _ (fun i f => A.act (FfnMath.Args.trow t i) f) (act512_apply arg6 harg6 arg7 harg7 arg8 harg8 arg9 harg9 arg13 K arg19.view arg23.view H.g3 H.u3 2304 (by decide) hH.g3 hH.u3) p hp x) (fun hp => agree2 arg6 harg6 arg7 harg7 arg8 harg8 arg9 harg9 arg13 arg16 arg17 arg18 arg20 arg21 arg22 K hH p hp x)

theorem col3 (v : View sig .tc .vmem S512x2816 .bf16) (i : Fin 512) (j : Fin 512) :
    View.readCov (Val := Elt Ideal) v (acts3 arg6 harg6 arg7 harg7 arg8 harg8 arg9 harg9 arg13 arg16 arg17 arg18 arg19 arg20 arg21 arg22 arg23 xv x5 x6 x7 x8 H) (box (n := 512) (W := 2816) 512 512 0 2304 (by decide) (by decide)).toLoadRect (ix2 i j)
      = A.act (FfnMath.Args.trow t i) ⟨2304 + j.val, by omega⟩ := by
  unfold acts3
  exact acts_read 512 2304 (by decide) _ (acts2 arg6 harg6 arg7 harg7 arg8 harg8 arg9 harg9 arg13 arg16 arg17 arg18 arg20 arg21 arg22 xv x5 x6 x7 x8 H) (fun i f => A.act (FfnMath.Args.trow t i) f) v (act512_apply arg6 harg6 arg7 harg7 arg8 harg8 arg9 harg9 arg13 K arg19.view arg23.view H.g3 H.u3 2304 (by decide) hH.g3 hH.u3) (agree2 arg6 harg6 arg7 harg7 arg8 harg8 arg9 harg9 arg13 arg16 arg17 arg18 arg20 arg21 arg22 K hH) i j

theorem total0 (v : View sig .tc .vmem S512x1024 .f32) (i : Fin 512) (d : Fin 1024) :
    View.readCov (Val := Elt Ideal) v (sum0 arg6 harg6 arg7 harg7 arg8 harg8 arg9 harg9 arg10 harg10 arg13 arg14 arg16 arg20 xv x5 x6 x7 x8 x9 H) sq.toLoadRect (ix2 i d)
      = (∑ j : Fin 768, A.act (FfnMath.Args.trow t i) ⟨0 + j.val, by omega⟩ * A.wd ⟨0 + j.val, by omega⟩ d) := by
  unfold sum0
  refine (congrFun (View.readCov_unit_lit' (Val := Elt Ideal) v (inb2 (by decide) (by decide)) _ (by decide)) (ix2 i d)).trans ?_
  rw [sumP0_apply]
  refine (Finset.sum_congr rfl fun j _ => congrArg₂ (· * ·) (col0 arg6 harg6 arg7 harg7 arg8 harg8 arg9 harg9 arg13 arg16 arg20 K hH arg14.view i j) ?_)
  exact (load3 arg10 harg10 x9 (by decide) (by decide) j d).trans (Eq.trans (congrArg x9 (congrArg₂ (ix3 0) rfl (Fin.ext (by show 0 + d.val = d.val; omega)))) (K.wd ⟨0 + j.val, by omega⟩ d))

theorem total1 (v : View sig .tc .vmem S512x1024 .f32) (i : Fin 512) (d : Fin 1024) :
    View.readCov (Val := Elt Ideal) v (sum1 arg6 harg6 arg7 harg7 arg8 harg8 arg9 harg9 arg10 harg10 arg13 arg14 arg15 arg16 arg17 arg20 arg21 xv x5 x6 x7 x8 x9 H) sq.toLoadRect (ix2 i d)
      = (∑ j : Fin 768, A.act (FfnMath.Args.trow t i) ⟨0 + j.val, by omega⟩ * A.wd ⟨0 + j.val, by omega⟩ d) + (∑ j : Fin 768, A.act (FfnMath.Args.trow t i) ⟨768 + j.val, by omega⟩ * A.wd ⟨768 + j.val, by omega⟩ d) := by
  unfold sum1
  refine (congrFun (View.readCov_cons_unit_lit' (Val := Elt Ideal) v (inb2 (by decide) (by decide)) (inb2 (by decide) (by decide)) _ _ (by decide) (by decide)) (ix2 i d)).trans ?_
  rw [sumP768_apply]
  refine congrArg₂ (· + ·) (total0 arg6 harg6 arg7 harg7 arg8 harg8 arg9 harg9 arg10 harg10 arg13 arg14 arg16 arg20 K hH arg15.view i d) (Finset.sum_congr rfl fun j _ => congrArg₂ (· * ·) (col1 arg6 harg6 arg7 harg7 arg8 harg8 arg9 harg9 arg13 arg16 arg17 arg20 arg21 K hH arg14.view i j) ?_)
  exact (load3 arg10 harg10 x9 (by decide) (by decide) j d).trans (Eq.trans (congrArg x9 (congrArg₂ (ix3 0) rfl (Fin.ext (by show 0 + d.val = d.val; omega)))) (K.wd ⟨768 + j.val, by omega⟩ d))

theorem total2 (v : View sig .tc .vmem S512x1024 .f32) (i : Fin 512) (d : Fin 1024) :
    View.readCov (Val := Elt Ideal) v (sum2 arg6 harg6 arg7 harg7 arg8 harg8 arg9 harg9 arg10 harg10 arg13 arg14 arg15 arg16 arg17 arg18 arg20 arg21 arg22 xv x5 x6 x7 x8 x9 H) sq.toLoadRect (ix2 i d)
      = (∑ j : Fin 768, A.act (FfnMath.Args.trow t i) ⟨0 + j.val, by omega⟩ * A.wd ⟨0 + j.val, by omega⟩ d) + (∑ j : Fin 768, A.act (FfnMath.Args.trow t i) ⟨768 + j.val, by omega⟩ * A.wd ⟨768 + j.val, by omega⟩ d) + (∑ j : Fin 768, A.act (FfnMath.Args.trow t i) ⟨1536 + j.val, by omega⟩ * A.wd ⟨1536 + j.val, by omega⟩ d) := by
  unfold sum2
  refine (congrFun (View.readCov_cons_unit_lit' (Val := Elt Ideal) v (inb2 (by decide) (by decide)) (inb2 (by decide) (by decide)) _ _ (by decide) (by decide)) (ix2 i d)).trans ?_
  rw [sumP768_apply]
  refine congrArg₂ (· + ·) (total1 arg6 harg6 arg7 harg7 arg8 harg8 arg9 harg9 arg10 harg10 arg13 arg14 arg15 arg16 arg17 arg20 arg21 K hH arg15.view i d) (Finset.sum_congr rfl fun j _ => congrArg₂ (· * ·) (col2 arg6 harg6 arg7 harg7 arg8 harg8 arg9 harg9 arg13 arg16 arg17 arg18 arg20 arg21 arg22 K hH arg14.view i j) ?_)
  exact (load3 arg10 harg10 x9 (by decide) (by decide) j d).trans (Eq.trans (congrArg x9 (congrArg₂ (ix3 0) rfl (Fin.ext (by show 0 + d.val = d.val; omega)))) (K.wd ⟨1536 + j.val, by omega⟩ d))

theorem total3 (v : View sig .tc .vmem S512x1024 .f32) (i : Fin 512) (d : Fin 1024) :
    View.readCov (Val := Elt Ideal) v (sum3 arg6 harg6 arg7 harg7 arg8 harg8 arg9 harg9 arg10 harg10 arg13 arg14 arg15 arg16 arg17 arg18 arg19 arg20 arg21 arg22 arg23 xv x5 x6 x7 x8 x9 H) sq.toLoadRect (ix2 i d)
      = (∑ j : Fin 768, A.act (FfnMath.Args.trow t i) ⟨0 + j.val, by omega⟩ * A.wd ⟨0 + j.val, by omega⟩ d) + (∑ j : Fin 768, A.act (FfnMath.Args.trow t i) ⟨768 + j.val, by omega⟩ * A.wd ⟨768 + j.val, by omega⟩ d) + (∑ j : Fin 768, A.act (FfnMath.Args.trow t i) ⟨1536 + j.val, by omega⟩ * A.wd ⟨1536 + j.val, by omega⟩ d) + (∑ j : Fin 512, A.act (FfnMath.Args.trow t i) ⟨2304 + j.val, by omega⟩ * A.wd ⟨2304 + j.val, by omega⟩ d) := by
  unfold sum3
  refine (congrFun (View.readCov_cons_unit_lit' (Val := Elt Ideal) v (inb2 (by decide) (by decide)) (inb2 (by decide) (by decide)) _ _ (by decide) (by decide)) (ix2 i d)).trans ?_
  rw [sumP512_apply]
  refine congrArg₂ (· + ·) (total2 arg6 harg6 arg7 harg7 arg8 harg8 arg9 harg9 arg10 harg10 arg13 arg14 arg15 arg16 arg17 arg18 arg20 arg21 arg22 K hH arg15.view i d) (Finset.sum_congr rfl fun j _ => congrArg₂ (· * ·) (col3 arg6 harg6 arg7 harg7 arg8 harg8 arg9 harg9 arg13 arg16 arg17 arg18 arg19 arg20 arg21 arg22 arg23 K hH arg14.view i j) ?_)
  exact (load3 arg10 harg10 x9 (by decide) (by decide) j d).trans (Eq.trans (congrArg x9 (congrArg₂ (ix3 0) rfl (Fin.ext (by show 0 + d.val = d.val; omega)))) (K.wd ⟨2304 + j.val, by omega⟩ d))

/-- The tile's result. -/
theorem res_read (v : View sig .tc .vmem S512x1024 .f32) (f : v.ty.Contents (Elt Ideal)) (w : FVec Ideal S512x1024 .f32) (i : Fin 512) (d : Fin 1024) :
    v.read (Elt Ideal) (v.writes (Elt Ideal) f (res arg6 harg6 arg7 harg7 arg8 harg8 arg9 harg9 arg10 harg10 arg13 arg14 arg15 arg16 arg17 arg18 arg19 arg20 arg21 arg22 arg23 xv x5 x6 x7 x8 x9 H ++ [⟨sq, w⟩])) (ix2 i d) = A.y (FfnMath.Args.trow t i) d := by
  have e : res arg6 harg6 arg7 harg7 arg8 harg8 arg9 harg9 arg10 harg10 arg13 arg14 arg15 arg16 arg17 arg18 arg19 arg20 arg21 arg22 arg23 xv x5 x6 x7 x8 x9 H ++ [⟨sq, w⟩] = (⟨sq, k0_pay1 xv (View.readCov (Val := Elt Ideal) arg15.view (sum3 arg6 harg6 arg7 harg7 arg8 harg8 arg9 harg9 arg10 harg10 arg13 arg14 arg15 arg16 arg17 arg18 arg19 arg20 arg21 arg22 arg23 xv x5 x6 x7 x8 x9 H) sq.toLoadRect)⟩ : View.Piece (Elt Ideal) S512x1024 .f32) :: [⟨sq, w⟩] := rfl
  rw [e, last_sq]
  rw [resP_apply]
  refine congrArg₂ (· + ·) (K.x i d) ((total3 arg6 harg6 arg7 harg7 arg8 harg8 arg9 harg9 arg10 harg10 arg13 arg14 arg15 arg16 arg17 arg18 arg19 arg20 arg21 arg22 arg23 K hH arg15.view i d).trans ?_)
  rw [FfnMath.sum_chunks]
  simp only [Nat.zero_add]
end
end Cert.OutKernelIdeal.Tile
end
-- ==== Proof.OutRun.lean ====
/- What a tile of the first layer's feed-forward kernel leaves. -/
module
public import proofs.«01_k».proof.Proof.OutBlock
@[expose] public section
set_option maxRecDepth 16384
noncomputable section
namespace Cert.OutKernelIdeal.Tile
open Idealize.ShloMosaic Idealize.ShloMosaic.TcCoe Idealize.SL.Sem
open Cert.OutKernelIdeal Cert.OutKernelIdeal.Gen Cert.FfnTile
open Cert.FfnKernelIdeal.Tile (Halo haloA)

/-- A tile's block of the result, and its eight extended chunks of the up-projection. -/
structure Left (A : FfnMath.Args) (t : Fin 32) (y : Vec Ideal S512x1024 .f32) (xs3 : Vec Ideal S520x768 .f32) (xs4 : Vec Ideal S520x768 .f32) (xs5 : Vec Ideal S520x768 .f32) (xs6 : Vec Ideal S520x512 .f32) (xs7 : Vec Ideal S520x768 .f32) (xs8 : Vec Ideal S520x768 .f32) (xs9 : Vec Ideal S520x768 .f32) (xs10 : Vec Ideal S520x512 .f32) : Prop where
  out : ∀ i d, y (ix2 i d) = A.y (FfnMath.Args.trow t i) d
  s3 : ∀ (e : Fin 520) (j : Fin 768), xs3 (ix2 e j) = A.ext t e ⟨0 + j.val, by omega⟩
  s4 : ∀ (e : Fin 520) (j : Fin 768), xs4 (ix2 e j) = A.ext t e ⟨768 + j.val, by omega⟩
  s5 : ∀ (e : Fin 520) (j : Fin 768), xs5 (ix2 e j) = A.ext t e ⟨1536 + j.val, by omega⟩
  s6 : ∀ (e : Fin 520) (j : Fin 512), xs6 (ix2 e j) = A.ext t e ⟨2304 + j.val, by omega⟩
  s7 : ∀ (e : Fin 520) (j : Fin 768), xs7 (ix2 e j) = A.ext t e ⟨2816 + j.val, by omega⟩
  s8 : ∀ (e : Fin 520) (j : Fin 768), xs8 (ix2 e j) = A.ext t e ⟨3584 + j.val, by omega⟩
  s9 : ∀ (e : Fin 520) (j : Fin 768), xs9 (ix2 e j) = A.ext t e ⟨4352 + j.val, by omega⟩
  s10 : ∀ (e : Fin 520) (j : Fin 512), xs10 (ix2 e j) = A.ext t e ⟨5120 + j.val, by omega⟩

section
variable {A : FfnMath.Args} {t : Fin 32} (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2816 .bf16) (harg14 : arg14.IsWhole) (arg15 : Memref sig .tc .vmem S512x1024 .f32) (harg15 : arg15.IsWhole) (arg16 : Memref sig .tc .vmem S520x768 .f32) (harg16 : arg16.IsWhole) (arg17 : Memref sig .tc .vmem S520x768 .f32) (harg17 : arg17.IsWhole) (arg18 : Memref sig .tc .vmem S520x768 .f32) (harg18 : arg18.IsWhole) (arg19 : Memref sig .tc .vmem S520x512 .f32) (harg19 : arg19.IsWhole) (arg20 : Memref sig .tc .vmem S520x768 .f32) (harg20 : arg20.IsWhole) (arg21 : Memref sig .tc .vmem S520x768 .f32) (harg21 : arg21.IsWhole) (arg22 : Memref sig .tc .vmem S520x768 .f32) (harg22 : arg22.IsWhole) (arg23 : Memref sig .tc .vmem S520x512 .f32) (harg23 : arg23.IsWhole)
    (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S1x1024 .f32) (x6 : Vec Ideal S1x1024x5632 .bf16) (x7 : Vec Ideal S3x5632 .f32) (x8 : Vec Ideal S1x5632 .f32) (x9 : Vec Ideal S1x2816x1024 .bf16) (x10 : Vec Ideal S1x1024 .f32)
    (xs3 : Vec Ideal S520x768 .f32) (xs4 : Vec Ideal S520x768 .f32) (xs5 : Vec Ideal S520x768 .f32) (xs6 : Vec Ideal S520x512 .f32) (xs7 : Vec Ideal S520x768 .f32) (xs8 : Vec Ideal S520x768 .f32) (xs9 : Vec Ideal S520x768 .f32) (xs10 : Vec Ideal S520x512 .f32)
    (K : Holds A t (xin arg1 harg1 arg2 harg2 arg3 harg3 arg4 harg4 arg5 harg5 arg12 x0 x1 x2 x3 x4) x5 x6 x7 x8 x9)
include K

theorem outA (hc0 : cond0_0 i) (hc1 : ¬ cond0_1 i) (hH : Halo.Is haloA (A.halo t)) (r : Fin 512) (d : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 r d) = A.y (FfnMath.Args.trow t r) d := by
  unfold out0_A_11
  rw [resA]
  exact res_read arg6 harg6 arg7 harg7 arg8 harg8 arg9 harg9 arg10 harg10 arg13 arg14 arg15 arg16 arg17 arg18 arg19 arg20 arg21 arg22 arg23 K hH VO0_11 VO0_11.junk _ r d

theorem chunkA_3 (hc0 : cond0_0 i) (hc1 : ¬ cond0_1 i) (hH : Halo.Is haloA (A.halo t)) (e : Fin 520) (j : Fin 768) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 e j) = A.ext t e ⟨0 + j.val, by omega⟩ := by
  unfold sout0_A_3
  rw [extA_3, read_ext]
  exact ext768_apply arg6 harg6 arg7 harg7 arg13 K 0 (by decide) haloA.g0 hH.g0 e j

theorem chunkA_4 (hc0 : cond0_0 i) (hc1 : ¬ cond0_1 i) (hH : Halo.Is haloA (A.halo t)) (e : Fin 520) (j : Fin 768) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 e j) = A.ext t e ⟨768 + j.val, by omega⟩ := by
  unfold sout0_A_4
  rw [extA_4, read_ext]
  exact ext768_apply arg6 harg6 arg7 harg7 arg13 K 768 (by decide) haloA.g1 hH.g1 e j

theorem chunkA_5 (hc0 : cond0_0 i) (hc1 : ¬ cond0_1 i) (hH : Halo.Is haloA (A.halo t)) (e : Fin 520) (j : Fin 768) :
    sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 e j) = A.ext t e ⟨1536 + j.val, by omega⟩ := by
  unfold sout0_A_5
  rw [extA_5, read_ext]
  exact ext768_apply arg6 harg6 arg7 harg7 arg13 K 1536 (by decide) haloA.g2 hH.g2 e j

theorem chunkA_6 (hc0 : cond0_0 i) (hc1 : ¬ cond0_1 i) (hH : Halo.Is haloA (A.halo t)) (e : Fin 520) (j : Fin 512) :
    sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 e j) = A.ext t e ⟨2304 + j.val, by omega⟩ := by
  unfold sout0_A_6
  rw [extA_6, read_ext]
  exact ext512_apply arg6 harg6 arg7 harg7 arg13 K 2304 (by decide) haloA.g3 hH.g3 e j

theorem chunkA_7 (hc0 : cond0_0 i) (hc1 : ¬ cond0_1 i) (hH : Halo.Is haloA (A.halo t)) (e : Fin 520) (j : Fin 768) :
    sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 e j) = A.ext t e ⟨2816 + j.val, by omega⟩ := by
  unfold sout0_A_7
  rw [extA_7, read_ext]
  exact ext768_apply arg6 harg6 arg7 harg7 arg13 K 2816 (by decide) haloA.u0 hH.u0 e j

theorem chunkA_8 (hc0 : cond0_0 i) (hc1 : ¬ cond0_1 i) (hH : Halo.Is haloA (A.halo t)) (e : Fin 520) (j : Fin 768) :
    sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 e j) = A.ext t e ⟨3584 + j.val, by omega⟩ := by
  unfold sout0_A_8
  rw [extA_8, read_ext]
  exact ext768_apply arg6 harg6 arg7 harg7 arg13 K 3584 (by decide) haloA.u1 hH.u1 e j

theorem chunkA_9 (hc0 : cond0_0 i) (hc1 : ¬ cond0_1 i) (hH : Halo.Is haloA (A.halo t)) (e : Fin 520) (j : Fin 768) :
    sout0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 e j) = A.ext t e ⟨4352 + j.val, by omega⟩ := by
  unfold sout0_A_9
  rw [extA_9, read_ext]
  exact ext768_apply arg6 harg6 arg7 harg7 arg13 K 4352 (by decide) haloA.u2 hH.u2 e j

theorem chunkA_10 (hc0 : cond0_0 i) (hc1 : ¬ cond0_1 i) (hH : Halo.Is haloA (A.halo t)) (e : Fin 520) (j : Fin 512) :
    sout0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 e j) = A.ext t e ⟨5120 + j.val, by omega⟩ := by
  unfold sout0_A_10
  rw [extA_10, read_ext]
  exact ext512_apply arg6 harg6 arg7 harg7 arg13 K 5120 (by decide) haloA.u3 hH.u3 e j

theorem outB (hc0 : ¬ cond0_0 i) (hc1 : cond0_1 i) (hH : Halo.Is (haloB arg16 harg16 arg17 harg17 arg18 harg18 arg19 harg19 arg20 harg20 arg21 harg21 arg22 harg22 arg23 harg23 xs3 xs4 xs5 xs6 xs7 xs8 xs9 xs10) (A.halo t)) (r : Fin 512) (d : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10 (ix2 r d) = A.y (FfnMath.Args.trow t r) d := by
  unfold out0_B_11
  rw [resB]
  exact res_read arg6 harg6 arg7 harg7 arg8 harg8 arg9 harg9 arg10 harg10 arg13 arg14 arg15 arg16 arg17 arg18 arg19 arg20 arg21 arg22 arg23 K hH VO0_11 VO0_11.junk _ r d

theorem chunkB_3 (hc0 : ¬ cond0_0 i) (hc1 : cond0_1 i) (hH : Halo.Is (haloB arg16 harg16 arg17 harg17 arg18 harg18 arg19 harg19 arg20 harg20 arg21 harg21 arg22 harg22 arg23 harg23 xs3 xs4 xs5 xs6 xs7 xs8 xs9 xs10) (A.halo t)) (e : Fin 520) (j : Fin 768) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10 (ix2 e j) = A.ext t e ⟨0 + j.val, by omega⟩ := by
  unfold sout0_B_3
  rw [extB_3, read_ext]
  exact ext768_apply arg6 harg6 arg7 harg7 arg13 K 0 (by decide) (haloB arg16 harg16 arg17 harg17 arg18 harg18 arg19 harg19 arg20 harg20 arg21 harg21 arg22 harg22 arg23 harg23 xs3 xs4 xs5 xs6 xs7 xs8 xs9 xs10).g0 hH.g0 e j

theorem chunkB_4 (hc0 : ¬ cond0_0 i) (hc1 : cond0_1 i) (hH : Halo.Is (haloB arg16 harg16 arg17 harg17 arg18 harg18 arg19 harg19 arg20 harg20 arg21 harg21 arg22 harg22 arg23 harg23 xs3 xs4 xs5 xs6 xs7 xs8 xs9 xs10) (A.halo t)) (e : Fin 520) (j : Fin 768) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10 (ix2 e j) = A.ext t e ⟨768 + j.val, by omega⟩ := by
  unfold sout0_B_4
  rw [extB_4, read_ext]
  exact ext768_apply arg6 harg6 arg7 harg7 arg13 K 768 (by decide) (haloB arg16 harg16 arg17 harg17 arg18 harg18 arg19 harg19 arg20 harg20 arg21 harg21 arg22 harg22 arg23 harg23 xs3 xs4 xs5 xs6 xs7 xs8 xs9 xs10).g1 hH.g1 e j

theorem chunkB_5 (hc0 : ¬ cond0_0 i) (hc1 : cond0_1 i) (hH : Halo.Is (haloB arg16 harg16 arg17 harg17 arg18 harg18 arg19 harg19 arg20 harg20 arg21 harg21 arg22 harg22 arg23 harg23 xs3 xs4 xs5 xs6 xs7 xs8 xs9 xs10) (A.halo t)) (e : Fin 520) (j : Fin 768) :
    sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10 (ix2 e j) = A.ext t e ⟨1536 + j.val, by omega⟩ := by
  unfold sout0_B_5
  rw [extB_5, read_ext]
  exact ext768_apply arg6 harg6 arg7 harg7 arg13 K 1536 (by decide) (haloB arg16 harg16 arg17 harg17 arg18 harg18 arg19 harg19 arg20 harg20 arg21 harg21 arg22 harg22 arg23 harg23 xs3 xs4 xs5 xs6 xs7 xs8 xs9 xs10).g2 hH.g2 e j

theorem chunkB_6 (hc0 : ¬ cond0_0 i) (hc1 : cond0_1 i) (hH : Halo.Is (haloB arg16 harg16 arg17 harg17 arg18 harg18 arg19 harg19 arg20 harg20 arg21 harg21 arg22 harg22 arg23 harg23 xs3 xs4 xs5 xs6 xs7 xs8 xs9 xs10) (A.halo t)) (e : Fin 520) (j : Fin 512) :
    sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10 (ix2 e j) = A.ext t e ⟨2304 + j.val, by omega⟩ := by
  unfold sout0_B_6
  rw [extB_6, read_ext]
  exact ext512_apply arg6 harg6 arg7 harg7 arg13 K 2304 (by decide) (haloB arg16 harg16 arg17 harg17 arg18 harg18 arg19 harg19 arg20 harg20 arg21 harg21 arg22 harg22 arg23 harg23 xs3 xs4 xs5 xs6 xs7 xs8 xs9 xs10).g3 hH.g3 e j

theorem chunkB_7 (hc0 : ¬ cond0_0 i) (hc1 : cond0_1 i) (hH : Halo.Is (haloB arg16 harg16 arg17 harg17 arg18 harg18 arg19 harg19 arg20 harg20 arg21 harg21 arg22 harg22 arg23 harg23 xs3 xs4 xs5 xs6 xs7 xs8 xs9 xs10) (A.halo t)) (e : Fin 520) (j : Fin 768) :
    sout0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10 (ix2 e j) = A.ext t e ⟨2816 + j.val, by omega⟩ := by
  unfold sout0_B_7
  rw [extB_7, read_ext]
  exact ext768_apply arg6 harg6 arg7 harg7 arg13 K 2816 (by decide) (haloB arg16 harg16 arg17 harg17 arg18 harg18 arg19 harg19 arg20 harg20 arg21 harg21 arg22 harg22 arg23 harg23 xs3 xs4 xs5 xs6 xs7 xs8 xs9 xs10).u0 hH.u0 e j

theorem chunkB_8 (hc0 : ¬ cond0_0 i) (hc1 : cond0_1 i) (hH : Halo.Is (haloB arg16 harg16 arg17 harg17 arg18 harg18 arg19 harg19 arg20 harg20 arg21 harg21 arg22 harg22 arg23 harg23 xs3 xs4 xs5 xs6 xs7 xs8 xs9 xs10) (A.halo t)) (e : Fin 520) (j : Fin 768) :
    sout0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10 (ix2 e j) = A.ext t e ⟨3584 + j.val, by omega⟩ := by
  unfold sout0_B_8
  rw [extB_8, read_ext]
  exact ext768_apply arg6 harg6 arg7 harg7 arg13 K 3584 (by decide) (haloB arg16 harg16 arg17 harg17 arg18 harg18 arg19 harg19 arg20 harg20 arg21 harg21 arg22 harg22 arg23 harg23 xs3 xs4 xs5 xs6 xs7 xs8 xs9 xs10).u1 hH.u1 e j

theorem chunkB_9 (hc0 : ¬ cond0_0 i) (hc1 : cond0_1 i) (hH : Halo.Is (haloB arg16 harg16 arg17 harg17 arg18 harg18 arg19 harg19 arg20 harg20 arg21 harg21 arg22 harg22 arg23 harg23 xs3 xs4 xs5 xs6 xs7 xs8 xs9 xs10) (A.halo t)) (e : Fin 520) (j : Fin 768) :
    sout0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10 (ix2 e j) = A.ext t e ⟨4352 + j.val, by omega⟩ := by
  unfold sout0_B_9
  rw [extB_9, read_ext]
  exact ext768_apply arg6 harg6 arg7 harg7 arg13 K 4352 (by decide) (haloB arg16 harg16 arg17 harg17 arg18 harg18 arg19 harg19 arg20 harg20 arg21 harg21 arg22 harg22 arg23 harg23 xs3 xs4 xs5 xs6 xs7 xs8 xs9 xs10).u2 hH.u2 e j

theorem chunkB_10 (hc0 : ¬ cond0_0 i) (hc1 : cond0_1 i) (hH : Halo.Is (haloB arg16 harg16 arg17 harg17 arg18 harg18 arg19 harg19 arg20 harg20 arg21 harg21 arg22 harg22 arg23 harg23 xs3 xs4 xs5 xs6 xs7 xs8 xs9 xs10) (A.halo t)) (e : Fin 520) (j : Fin 512) :
    sout0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs3 xs4 xs5 xs6 xs7 xs8 xs9 xs10 (ix2 e j) = A.ext t e ⟨5120 + j.val, by omega⟩ := by
  unfold sout0_B_10
  rw [extB_10, read_ext]
  exact ext512_apply arg6 harg6 arg7 harg7 arg13 K 5120 (by decide) (haloB arg16 harg16 arg17 harg17 arg18 harg18 arg19 harg19 arg20 harg20 arg21 harg21 arg22 harg22 arg23 harg23 xs3 xs4 xs5 xs6 xs7 xs8 xs9 xs10).u3 hH.u3 e j

end

end Cert.OutKernelIdeal.Tile
end
-- ==== Proof.OutMath.lean ====
/- The first layer's feed-forward input over the reals: the activations and the projection of both attentions' heads. -/
module
public import proofs.«01_k».proof.Proof.FfnMath
@[expose] public section
noncomputable section
namespace Cert.FfnMath
open Idealize.ShloMosaic

/-- A row's activation after the projection, by the rows of the projection that belong to each attention. -/
def attended (oa ob : Fin 16384 → Fin 512 → EReal) (wo : Fin 1024 → Fin 1024 → EReal) (x : Fin 16384 → Fin 1024 → EReal) (r : Fin 16384) (d : Fin 1024) : EReal :=
  x r d + (∑ e : Fin 512, oa r e * wo ⟨e.val, by omega⟩ d) + ∑ e : Fin 512, ob r e * wo ⟨512 + e.val, by omega⟩ d
end Cert.FfnMath
end
-- ==== Proof.OutKernel.lean ====
/- What the first layer's feed-forward kernel's result array holds. -/
module
public import proofs.«01_k».proof.Proof.OutRun
public import proofs.«01_k».proof.Proof.FfnKernel
public import proofs.«01_k».proof.Proof.OutMath
public import proofs.«01_k».proof.Proof.Gen.OutKernelIdeal.Value
public import Idealize.ShloMosaic.Lib.Pipeline.ValueKit
@[expose] public section
set_option maxRecDepth 16384
noncomputable section
namespace Cert.OutKernelIdeal.Tile
open Idealize.ShloMosaic Idealize.ShloMosaic.TcCoe Idealize.SL.Sem
open Cert.OutKernelIdeal Cert.OutKernelIdeal.Gen Cert.FfnTile
open Cert.FfnKernelIdeal.Tile (Halo haloA haloA_is haloA_eq eq_idx eq_idx3)

variable (m : (ℓ : Loc nD τ sig) → Buf (Elt Ideal) ℓ)

/-- The arguments, by row and column: the input after the attentions' projection, and the first layer of each weight stack. -/
def args (c : Dev nD) : FfnMath.Args where
  x := FfnMath.attended (fun r e => m ((c : Thread nD τ).loc main_arg0) (ix2 r e)) (fun r e => m ((c : Thread nD τ).loc main_arg1) (ix2 r e)) (fun e d => m ((c : Thread nD τ).loc main_arg2) (ix2 e d)) (fun r d => m ((c : Thread nD τ).loc main_arg3) (ix2 r d))
  g d := m ((c : Thread nD τ).loc main_arg4) (ix1 d)
  wu d f := m ((c : Thread nD τ).loc main_arg5) (ix3 0 d f)
  cw s f := m ((c : Thread nD τ).loc main_arg6) (ix2 s f)
  cb f := m ((c : Thread nD τ).loc main_arg7) (ix1 f)
  wd f d := m ((c : Thread nD τ).loc main_arg8) (ix3 0 f d)

/-- The block a point works on, of each window. -/
theorem idx : ∀ t : Fin cfg0.N, (∀ a : Fin 2, win0_0.index t a = ![t.val, 0] a)
    ∧ (∀ a : Fin 2, win0_1.index t a = ![t.val, 0] a)
    ∧ (∀ a : Fin 2, win0_2.index t a = ![0, 0] a)
    ∧ (∀ a : Fin 2, win0_3.index t a = ![0, 0] a)
    ∧ (∀ a : Fin 2, win0_4.index t a = ![t.val, 0] a)
    ∧ (∀ a : Fin 2, win0_5.index t a = ![0, 0] a)
    ∧ (∀ a : Fin 3, win0_6.index t a = ![0, 0, 0] a)
    ∧ (∀ a : Fin 2, win0_7.index t a = ![0, 0] a)
    ∧ (∀ a : Fin 2, win0_8.index t a = ![0, 0] a)
    ∧ (∀ a : Fin 3, win0_9.index t a = ![0, 0, 0] a)
    ∧ (∀ a : Fin 2, win0_10.index t a = ![0, 0] a)
    ∧ (∀ a : Fin 2, win0_11.index t a = ![t.val, 0] a) :=
  (by decide +kernel : ∀ t : Fin grid0.N, _)

theorem v1_apply (c : Dev nD) (e : Fin 512) (d : Fin 1024) : V m c main_v1 (ix2 e d) = m ((c : Thread nD τ).loc main_arg2) (ix2 ⟨e.val, by omega⟩ d) := by
  entry_read
  pointwise

theorem v2_apply (c : Dev nD) (e : Fin 512) (d : Fin 1024) : V m c main_v2 (ix2 e d) = m ((c : Thread nD τ).loc main_arg2) (ix2 ⟨512 + e.val, by omega⟩ d) := by
  entry_read
  pointwise

theorem v3_apply (c : Dev nD) (e : Fin 1024) : V m c main_v3 (ix2 0 e) = m ((c : Thread nD τ).loc main_arg4) (ix1 e) := by
  entry_read
  pointwise

theorem v4_apply (c : Dev nD) (e : Fin 5632) : V m c main_v4 (ix2 0 e) = m ((c : Thread nD τ).loc main_arg7) (ix1 e) := by
  entry_read
  pointwise

def tOf (t : Fin cfg0.N) : Fin 32 := ⟨t.val, lt_of_lt_of_eq t.isLt N_0⟩

theorem blk0 (c : Dev nD) (t : Fin cfg0.N) (r e : Fin 512) : iblk m c 0 t (ix2 r e) = V m c main_arg0 (ix2 (FfnMath.Args.trow (tOf t) r) e) := by
  have h := (idx t).1
  show V m c main_arg0 (((cfg0.win 0).blk t).view.emb (ix2 r e)) = _
  refine congrArg (V m c main_arg0) (eq_idx _ _ _ ?_ ?_)
  · show win0_0.index t 0 * 512 + 1 * r.val = 512 * t.val + r.val
    rw [h]; show t.val * 512 + 1 * r.val = _; omega
  · show win0_0.index t 1 * 512 + 1 * e.val = e.val
    rw [h]; show 0 * 512 + 1 * e.val = _; omega

theorem blk1 (c : Dev nD) (t : Fin cfg0.N) (r e : Fin 512) : iblk m c 1 t (ix2 r e) = V m c main_arg1 (ix2 (FfnMath.Args.trow (tOf t) r) e) := by
  have h := (idx t).2.1
  show V m c main_arg1 (((cfg0.win 1).blk t).view.emb (ix2 r e)) = _
  refine congrArg (V m c main_arg1) (eq_idx _ _ _ ?_ ?_)
  · show win0_1.index t 0 * 512 + 1 * r.val = 512 * t.val + r.val
    rw [h]; show t.val * 512 + 1 * r.val = _; omega
  · show win0_1.index t 1 * 512 + 1 * e.val = e.val
    rw [h]; show 0 * 512 + 1 * e.val = _; omega

theorem blk2 (c : Dev nD) (t : Fin cfg0.N) (e : Fin 512) (d : Fin 1024) : iblk m c 2 t (ix2 e d) = V m c main_v1 (ix2 e d) := by
  have h := (idx t).2.2.1
  show V m c main_v1 (((cfg0.win 2).blk t).view.emb (ix2 e d)) = _
  refine congrArg (V m c main_v1) (eq_idx _ _ _ ?_ ?_)
  · show win0_2.index t 0 * 512 + 1 * e.val = e.val
    rw [h]; show 0 * 512 + 1 * e.val = _; omega
  · show win0_2.index t 1 * 1024 + 1 * d.val = d.val
    rw [h]; show 0 * 1024 + 1 * d.val = _; omega

theorem blk3 (c : Dev nD) (t : Fin cfg0.N) (e : Fin 512) (d : Fin 1024) : iblk m c 3 t (ix2 e d) = V m c main_v2 (ix2 e d) := by
  have h := (idx t).2.2.2.1
  show V m c main_v2 (((cfg0.win 3).blk t).view.emb (ix2 e d)) = _
  refine congrArg (V m c main_v2) (eq_idx _ _ _ ?_ ?_)
  · show win0_3.index t 0 * 512 + 1 * e.val = e.val
    rw [h]; show 0 * 512 + 1 * e.val = _; omega
  · show win0_3.index t 1 * 1024 + 1 * d.val = d.val
    rw [h]; show 0 * 1024 + 1 * d.val = _; omega

theorem blk4 (c : Dev nD) (t : Fin cfg0.N) (r : Fin 512) (d : Fin 1024) : iblk m c 4 t (ix2 r d) = V m c main_arg3 (ix2 (FfnMath.Args.trow (tOf t) r) d) := by
  have h := (idx t).2.2.2.2.1
  show V m c main_arg3 (((cfg0.win 4).blk t).view.emb (ix2 r d)) = _
  refine congrArg (V m c main_arg3) (eq_idx _ _ _ ?_ ?_)
  · show win0_4.index t 0 * 512 + 1 * r.val = 512 * t.val + r.val
    rw [h]; show t.val * 512 + 1 * r.val = _; omega
  · show win0_4.index t 1 * 1024 + 1 * d.val = d.val
    rw [h]; show 0 * 1024 + 1 * d.val = _; omega

theorem blk5 (c : Dev nD) (t : Fin cfg0.N) (d : Fin 1024) : iblk m c 5 t (ix2 0 d) = V m c main_v3 (ix2 0 d) := by
  have h := (idx t).2.2.2.2.2.1
  show V m c main_v3 (((cfg0.win 5).blk t).view.emb (ix2 0 d)) = _
  refine congrArg (V m c main_v3) (eq_idx _ _ _ ?_ ?_)
  · show win0_5.index t 0 * 1 + 1 * 0 = 0
    rw [h]; rfl
  · show win0_5.index t 1 * 1024 + 1 * d.val = d.val
    rw [h]; show 0 * 1024 + 1 * d.val = _; omega

theorem blk6 (c : Dev nD) (t : Fin cfg0.N) (d : Fin 1024) (f : Fin 5632) : iblk m c 6 t (ix3 0 d f) = V m c main_arg5 (ix3 0 d f) := by
  have h := (idx t).2.2.2.2.2.2.1
  show V m c main_arg5 (((cfg0.win 6).blk t).view.emb (ix3 0 d f)) = _
  refine congrArg (V m c main_arg5) (eq_idx3 _ _ _ _ ?_ ?_ ?_)
  · show win0_6.index t 0 * 1 + 1 * 0 = 0
    rw [h]; rfl
  · show win0_6.index t 1 * 1024 + 1 * d.val = d.val
    rw [h]; show 0 * 1024 + 1 * d.val = _; omega
  · show win0_6.index t 2 * 5632 + 1 * f.val = f.val
    rw [h]; show 0 * 5632 + 1 * f.val = _; omega

theorem blk7 (c : Dev nD) (t : Fin cfg0.N) (s : Fin 3) (f : Fin 5632) : iblk m c 7 t (ix2 s f) = V m c main_arg6 (ix2 s f) := by
  have h := (idx t).2.2.2.2.2.2.2.1
  show V m c main_arg6 (((cfg0.win 7).blk t).view.emb (ix2 s f)) = _
  refine congrArg (V m c main_arg6) (eq_idx _ _ _ ?_ ?_)
  · show win0_7.index t 0 * 3 + 1 * s.val = s.val
    rw [h]; show 0 * 3 + 1 * s.val = _; omega
  · show win0_7.index t 1 * 5632 + 1 * f.val = f.val
    rw [h]; show 0 * 5632 + 1 * f.val = _; omega

theorem blk8 (c : Dev nD) (t : Fin cfg0.N) (f : Fin 5632) : iblk m c 8 t (ix2 0 f) = V m c main_v4 (ix2 0 f) := by
  have h := (idx t).2.2.2.2.2.2.2.2.1
  show V m c main_v4 (((cfg0.win 8).blk t).view.emb (ix2 0 f)) = _
  refine congrArg (V m c main_v4) (eq_idx _ _ _ ?_ ?_)
  · show win0_8.index t 0 * 1 + 1 * 0 = 0
    rw [h]; rfl
  · show win0_8.index t 1 * 5632 + 1 * f.val = f.val
    rw [h]; show 0 * 5632 + 1 * f.val = _; omega

theorem blk9 (c : Dev nD) (t : Fin cfg0.N) (f : Fin 2816) (d : Fin 1024) : iblk m c 9 t (ix3 0 f d) = V m c main_arg8 (ix3 0 f d) := by
  have h := (idx t).2.2.2.2.2.2.2.2.2.1
  show V m c main_arg8 (((cfg0.win 9).blk t).view.emb (ix3 0 f d)) = _
  refine congrArg (V m c main_arg8) (eq_idx3 _ _ _ _ ?_ ?_ ?_)
  · show win0_9.index t 0 * 1 + 1 * 0 = 0
    rw [h]; rfl
  · show win0_9.index t 1 * 2816 + 1 * f.val = f.val
    rw [h]; show 0 * 2816 + 1 * f.val = _; omega
  · show win0_9.index t 2 * 1024 + 1 * d.val = d.val
    rw [h]; show 0 * 1024 + 1 * d.val = _; omega

theorem holds (c : Dev nD) (t : Fin cfg0.N) : Holds (args m c) (tOf t) (xin (ms0_0 t) (hs0_0 t) (ms0_1 t) (hs0_1 t) (ms0_2 t) (hs0_2 t) (ms0_3 t) (hs0_3 t) (ms0_4 t) (hs0_4 t) (ms0_11 t) (iblk m c 0 t) (iblk m c 1 t) (iblk m c 2 t) (iblk m c 3 t) (iblk m c 4 t)) (iblk m c 5 t) (iblk m c 6 t) (iblk m c 7 t) (iblk m c 8 t) (iblk m c 9 t) := by
  refine ⟨fun r d => ?_, fun d => ?_, fun d f => ?_, fun s f => ?_, fun f => ?_, fun f d => ?_⟩
  · refine (xin_apply (ms0_0 t) (hs0_0 t) (ms0_1 t) (hs0_1 t) (ms0_2 t) (hs0_2 t) (ms0_3 t) (hs0_3 t) (ms0_4 t) (hs0_4 t) (ms0_11 t) (iblk m c 0 t) (iblk m c 1 t) (iblk m c 2 t) (iblk m c 3 t) (iblk m c 4 t) r d).trans (congrArg₂ (· + ·) (congrArg₂ (· + ·) ?_ (Finset.sum_congr rfl fun e _ => congrArg₂ (· * ·) ?_ ?_)) (Finset.sum_congr rfl fun e _ => congrArg₂ (· * ·) ?_ ?_))
    · rw [blk4, V_main_arg3]
    · rw [blk0, V_main_arg0]
    · rw [blk2, v1_apply]
    · rw [blk1, V_main_arg1]
    · rw [blk3, v2_apply]
  · rw [blk5, v3_apply]; rfl
  · rw [blk6, V_main_arg5]; rfl
  · rw [blk7, V_main_arg6]; rfl
  · rw [blk8, v4_apply]; rfl
  · rw [blk9, V_main_arg8]; rfl

theorem Left.of_eq {A : FfnMath.Args} {t : Fin 32} {p : Vec Ideal S512x1024 .f32 × Vec Ideal S520x768 .f32 × Vec Ideal S520x768 .f32 × Vec Ideal S520x768 .f32 × Vec Ideal S520x512 .f32 × Vec Ideal S520x768 .f32 × Vec Ideal S520x768 .f32 × Vec Ideal S520x768 .f32 × Vec Ideal S520x512 .f32} {y : Vec Ideal S512x1024 .f32}
    {xs3 : Vec Ideal S520x768 .f32} {xs4 : Vec Ideal S520x768 .f32} {xs5 : Vec Ideal S520x768 .f32} {xs6 : Vec Ideal S520x512 .f32} {xs7 : Vec Ideal S520x768 .f32} {xs8 : Vec Ideal S520x768 .f32} {xs9 : Vec Ideal S520x768 .f32} {xs10 : Vec Ideal S520x512 .f32}
    (e : p = (y, xs3, xs4, xs5, xs6, xs7, xs8, xs9, xs10)) (L : Left A t y xs3 xs4 xs5 xs6 xs7 xs8 xs9 xs10) : Left A t p.1 p.2.1 p.2.2.1 p.2.2.2.1 p.2.2.2.2.1 p.2.2.2.2.2.1 p.2.2.2.2.2.2.1 p.2.2.2.2.2.2.2.1 p.2.2.2.2.2.2.2.2 := by
  subst e
  exact L

set_option maxHeartbeats 1000000 in
theorem left_A (c : Dev nD) (t : Fin cfg0.N) (h0 : t.val % 8 = 0) : Left (args m c) (tOf t) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2 := by
  have K := holds m c t
  have h1 : ¬¬ (t.val % 8 = 0) := not_not_intro h0
  have hH : Halo.Is haloA ((args m c).halo (tOf t)) := haloA_eq _ _ h0
  have oo := outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) K ((hcond0_0 t).mpr h0) (fun h => h1 ((hcond0_1 t).mp h)) hH
  refine Left.of_eq (outsAt0_A m c t h0 h1) (Left.mk oo ?_ ?_ ?_ ?_ ?_ ?_ ?_ ?_)
  · exact chunkA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) K ((hcond0_0 t).mpr h0) (fun h => h1 ((hcond0_1 t).mp h)) hH
  · exact chunkA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) K ((hcond0_0 t).mpr h0) (fun h => h1 ((hcond0_1 t).mp h)) hH
  · exact chunkA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) K ((hcond0_0 t).mpr h0) (fun h => h1 ((hcond0_1 t).mp h)) hH
  · exact chunkA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) K ((hcond0_0 t).mpr h0) (fun h => h1 ((hcond0_1 t).mp h)) hH
  · exact chunkA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) K ((hcond0_0 t).mpr h0) (fun h => h1 ((hcond0_1 t).mp h)) hH
  · exact chunkA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) K ((hcond0_0 t).mpr h0) (fun h => h1 ((hcond0_1 t).mp h)) hH
  · exact chunkA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) K ((hcond0_0 t).mpr h0) (fun h => h1 ((hcond0_1 t).mp h)) hH
  · exact chunkA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) K ((hcond0_0 t).mpr h0) (fun h => h1 ((hcond0_1 t).mp h)) hH

set_option maxHeartbeats 1000000 in
theorem left_B (c : Dev nD) (t : Fin cfg0.N) (h0 : ¬ t.val % 8 = 0)
    (h3 : ∀ (i : Fin 8) (j : Fin 768), (outsAt0 m c (t.val - 1) (Nat.lt_of_le_of_lt (Nat.sub_le _ _) t.isLt)).2.1 (ix2 ⟨512 + i.val, by omega⟩ j) = (args m c).halo (tOf t) i ⟨0 + j.val, by omega⟩) (h4 : ∀ (i : Fin 8) (j : Fin 768), (outsAt0 m c (t.val - 1) (Nat.lt_of_le_of_lt (Nat.sub_le _ _) t.isLt)).2.2.1 (ix2 ⟨512 + i.val, by omega⟩ j) = (args m c).halo (tOf t) i ⟨768 + j.val, by omega⟩) (h5 : ∀ (i : Fin 8) (j : Fin 768), (outsAt0 m c (t.val - 1) (Nat.lt_of_le_of_lt (Nat.sub_le _ _) t.isLt)).2.2.2.1 (ix2 ⟨512 + i.val, by omega⟩ j) = (args m c).halo (tOf t) i ⟨1536 + j.val, by omega⟩) (h6 : ∀ (i : Fin 8) (j : Fin 512), (outsAt0 m c (t.val - 1) (Nat.lt_of_le_of_lt (Nat.sub_le _ _) t.isLt)).2.2.2.2.1 (ix2 ⟨512 + i.val, by omega⟩ j) = (args m c).halo (tOf t) i ⟨2304 + j.val, by omega⟩) (h7 : ∀ (i : Fin 8) (j : Fin 768), (outsAt0 m c (t.val - 1) (Nat.lt_of_le_of_lt (Nat.sub_le _ _) t.isLt)).2.2.2.2.2.1 (ix2 ⟨512 + i.val, by omega⟩ j) = (args m c).halo (tOf t) i ⟨2816 + j.val, by omega⟩) (h8 : ∀ (i : Fin 8) (j : Fin 768), (outsAt0 m c (t.val - 1) (Nat.lt_of_le_of_lt (Nat.sub_le _ _) t.isLt)).2.2.2.2.2.2.1 (ix2 ⟨512 + i.val, by omega⟩ j) = (args m c).halo (tOf t) i ⟨3584 + j.val, by omega⟩) (h9 : ∀ (i : Fin 8) (j : Fin 768), (outsAt0 m c (t.val - 1) (Nat.lt_of_le_of_lt (Nat.sub_le _ _) t.isLt)).2.2.2.2.2.2.2.1 (ix2 ⟨512 + i.val, by omega⟩ j) = (args m c).halo (tOf t) i ⟨4352 + j.val, by omega⟩) (h10 : ∀ (i : Fin 8) (j : Fin 512), (outsAt0 m c (t.val - 1) (Nat.lt_of_le_of_lt (Nat.sub_le _ _) t.isLt)).2.2.2.2.2.2.2.2 (ix2 ⟨512 + i.val, by omega⟩ j) = (args m c).halo (tOf t) i ⟨5120 + j.val, by omega⟩) :
    Left (args m c) (tOf t) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2 := by
  have K := holds m c t
  have e := outsAt0_B m c t h0 h0
  generalize outsAt0 m c (t.val - 1) (Nat.lt_of_le_of_lt (Nat.sub_le _ _) t.isLt) = q at e h3 h4 h5 h6 h7 h8 h9 h10
  have hH := haloB_is scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) q.2.1 q.2.2.1 q.2.2.2.1 q.2.2.2.2.1 q.2.2.2.2.2.1 q.2.2.2.2.2.2.1 q.2.2.2.2.2.2.2.1 q.2.2.2.2.2.2.2.2 ((args m c).halo (tOf t)) h3 h4 h5 h6 h7 h8 h9 h10
  have oo := outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  refine Left.of_eq e (Left.mk oo ?_ ?_ ?_ ?_ ?_ ?_ ?_ ?_)
  · exact chunkB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH
  · exact chunkB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) q.2.1 q.2.2.1 q.2.2.2.1 q.2.2.2.2.1 q.2.2.2.2.2.1 q.2.2.2.2.2.2.1 q.2.2.2.2.2.2.2.1 q.2.2.2.2.2.2.2.2 K (fun h => h0 ((hcond0_0 t).mp h)) ((hcond0_1 t).mpr h0) hH

theorem left (c : Dev nD) (n : ℕ) : ∀ hn : n < cfg0.N, Left (args m c) (tOf ⟨n, hn⟩) (outsAt0 m c n hn).1 (outsAt0 m c n hn).2.1 (outsAt0 m c n hn).2.2.1 (outsAt0 m c n hn).2.2.2.1 (outsAt0 m c n hn).2.2.2.2.1 (outsAt0 m c n hn).2.2.2.2.2.1 (outsAt0 m c n hn).2.2.2.2.2.2.1 (outsAt0 m c n hn).2.2.2.2.2.2.2.1 (outsAt0 m c n hn).2.2.2.2.2.2.2.2 := by
  induction n with
  | zero => exact fun hn => left_A m c ⟨0, hn⟩ (Nat.zero_mod _)
  | succ n ih =>
    intro hn
    by_cases h0 : (n + 1) % 8 = 0
    · exact left_A m c ⟨n + 1, hn⟩ h0
    · have L := ih (Nat.lt_of_succ_lt hn)
      have hb := lt_of_lt_of_eq hn N_0
      exact left_B m c ⟨n + 1, hn⟩ h0 (fun i j => (L.s3 ⟨512 + i.val, by omega⟩ j).trans ((args m c).ext_halo n hb h0 i ⟨0 + j.val, by omega⟩)) (fun i j => (L.s4 ⟨512 + i.val, by omega⟩ j).trans ((args m c).ext_halo n hb h0 i ⟨768 + j.val, by omega⟩)) (fun i j => (L.s5 ⟨512 + i.val, by omega⟩ j).trans ((args m c).ext_halo n hb h0 i ⟨1536 + j.val, by omega⟩)) (fun i j => (L.s6 ⟨512 + i.val, by omega⟩ j).trans ((args m c).ext_halo n hb h0 i ⟨2304 + j.val, by omega⟩)) (fun i j => (L.s7 ⟨512 + i.val, by omega⟩ j).trans ((args m c).ext_halo n hb h0 i ⟨2816 + j.val, by omega⟩)) (fun i j => (L.s8 ⟨512 + i.val, by omega⟩ j).trans ((args m c).ext_halo n hb h0 i ⟨3584 + j.val, by omega⟩)) (fun i j => (L.s9 ⟨512 + i.val, by omega⟩ j).trans ((args m c).ext_halo n hb h0 i ⟨4352 + j.val, by omega⟩)) (fun i j => (L.s10 ⟨512 + i.val, by omega⟩ j).trans ((args m c).ext_halo n hb h0 i ⟨5120 + j.val, by omega⟩))

/-- The result array, by row and column. -/
def G (A : FfnMath.Args) (y : S16384x1024.Idx) : EReal := A.y (y 0) (y 1)

theorem final (c : Dev nD) : (dats m 0 c).arrAt 11 cfg0.N = G (args m c) := by
  refine (dats m 0 c).arrAt_eq_of_covers 11 _ (by decide +kernel) fun t _ y => ?_
  have hI := (idx t).2.2.2.2.2.2.2.2.2.2.2
  have e0 : ((cfg0.win 11).blk t).view.emb y 0 = FfnMath.Args.trow (tOf t) (y 0) := Fin.ext (by
    show win0_11.index t 0 * 512 + 1 * (y 0 : ℕ) = 512 * t.val + (y 0 : ℕ)
    rw [hI]; show t.val * 512 + 1 * (y 0 : ℕ) = _; omega)
  have e1 : ((cfg0.win 11).blk t).view.emb y 1 = y 1 := Fin.ext (by
    show win0_11.index t 1 * 1024 + 1 * (y 1 : ℕ) = _
    rw [hI]; show 0 * 1024 + 1 * (y 1 : ℕ) = _; omega)
  show (dats m 0 c).after 11 t y = (args m c).y (((cfg0.win 11).blk t).view.emb y 0) (((cfg0.win 11).blk t).view.emb y 1)
  rw [e0, e1, after0_11]
  exact (congrArg (outsAt0 m c t.val t.isLt).1 (eq_ix2 y)).trans ((left m c t.val t.isLt).out (y 0) (y 1))
end Cert.OutKernelIdeal.Tile
end
-- ==== Proof.OutReference.lean ====
/- The first layer's feed-forward reference's result, at an index. -/
module
public import proofs.«01_k».proof.Proof.FfnReference
public import proofs.«01_k».proof.Proof.OutMath
public import proofs.«01_k».proof.Proof.Gen.OutReferenceIdeal.Run
@[expose] public section
set_option maxRecDepth 16384
noncomputable section
namespace Cert.OutReferenceIdeal.Read
open Idealize.ShloMosaic Idealize.ShloMosaic.TcCoe Idealize.SL.Sem Idealize.ShloMosaic.StableHlo
open Cert.OutReferenceIdeal Cert.OutReferenceIdeal.Gen Cert.OutReferenceIdeal.Value
open Cert.FfnReferenceIdeal.Read (rows normed padded convolved gated at4 rows_apply normed_apply padded_lo padded_hi convolved_apply gated_apply rowed)

section
variable {F : FTy → Type} [FloatOps F]

/-- Both attentions' heads, side by side. -/
def joined (oa ob : Vec F S16384x512 .bf16) : Vec F S16384x1024 .bf16 :=
  concatenate S16384x1024 1 [⟨S16384x512, oa⟩, ⟨S16384x512, ob⟩] concatenates_S16384x512_S16384x512_S16384x1024_d1

def projected (o : Vec F S16384x1024 .bf16) (wo : Vec F S1024x1024 .f32) : Vec F S4x4096x1024 .f32 :=
  Host.dotGeneral dot_S4x4096x1024_S1024x1024_S4x4096x1024_2_0_01_1_n_n none (shapeCast _ (extf .f32 o bitsLt_bf16_f32 : FVec F S16384x1024 .f32) shapeCasts_S16384x1024_S4x4096x1024) wo

def entering (oa ob : Vec F S16384x512 .bf16) (wo : Vec F S1024x1024 .f32) (x : Vec F S16384x1024 .f32) : Vec F S4x4096x1024 .f32 :=
  addf (rows x) (projected (joined oa ob) wo)

def upped (h : Vec F S4x4096x1024 .f32) (wu : Vec F S2x1024x5632 .bf16) : Vec F S4x4096x5632 .f32 :=
  Host.dotGeneral dot_S4x4096x1024_S1024x5632_S4x4096x5632_2_0_01_1_n_n none h (extf .f32 (shapeCast _ (extractStridedSlice S1x1024x5632 ![0, 0, 0] wu slices_S2x1024x5632_S1x1024x5632_0_0_0) shapeCasts_S1x1024x5632_S1024x5632 : FVec F S1024x5632 .bf16) bitsLt_bf16_f32)

def layer (x : Vec F S4x4096x1024 .f32) (a : Vec F S4x4096x2816 .f32) (wd : Vec F S2x2816x1024 .bf16) : Vec F S4x4096x1024 .f32 :=
  addf x (Host.dotGeneral dot_S4x4096x2816_S2816x1024_S4x4096x1024_2_0_01_1_n_n none a (extf .f32 (shapeCast _ (extractStridedSlice S1x2816x1024 ![0, 0, 0] wd slices_S2x2816x1024_S1x2816x1024_0_0_0) shapeCasts_S1x2816x1024_S2816x1024 : FVec F S2816x1024 .bf16) bitsLt_bf16_f32))

def whole (oa ob : Vec F S16384x512 .bf16) (wo : Vec F S1024x1024 .f32) (x : Vec F S16384x1024 .f32) (g : Vec F S1024 .f32) (wu : Vec F S2x1024x5632 .bf16) (cw : Vec F S3x5632 .f32) (cb : Vec F S5632 .f32) (wd : Vec F S2x2816x1024 .bf16) : Vec F S16384x1024 .f32 :=
  shapeCast _ (layer (entering oa ob wo x) (gated (convolved (padded (upped (normed (entering oa ob wo x) g) wu)) cw cb)) wd) shapeCasts_S4x4096x1024_S16384x1024

set_option maxHeartbeats 4000000 in
theorem res_eq (m : (ℓ : Loc nD τ sig) → Buf (Elt F) ℓ) (c : Dev nD) : res_main_v58 m c
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold res_main_v58
  rfl
end

theorem joined_lo (oa ob : Vec Ideal S16384x512 .bf16) (r : Fin 16384) (e : Fin 512) : joined oa ob (ix2 r ⟨e.val, by omega⟩) = oa (ix2 r e) := by
  unfold joined
  pointwise

theorem joined_hi (oa ob : Vec Ideal S16384x512 .bf16) (r : Fin 16384) (e : Fin 512) : joined oa ob (ix2 r ⟨512 + e.val, by omega⟩) = ob (ix2 r e) := by
  unfold joined
  pointwise

theorem projected_apply (o : Vec Ideal S16384x1024 .bf16) (wo : Vec Ideal S1024x1024 .f32) (b : Fin 4) (s : Fin 4096) (d : Fin 1024) :
    projected o wo (ix3 b s d) = ∑ e : Fin 1024, o (ix2 (at4 b s) e) * wo (ix2 e d) := by
  unfold projected at4
  pointwise

theorem upped_apply (h : Vec Ideal S4x4096x1024 .f32) (wu : Vec Ideal S2x1024x5632 .bf16) (b : Fin 4) (s : Fin 4096) (f : Fin 5632) :
    upped h wu (ix3 b s f) = ∑ d : Fin 1024, h (ix3 b s d) * wu (ix3 0 d f) := by
  unfold upped
  pointwise

theorem layer_apply (x : Vec Ideal S4x4096x1024 .f32) (a : Vec Ideal S4x4096x2816 .f32) (wd : Vec Ideal S2x2816x1024 .bf16) (b : Fin 4) (s : Fin 4096) (d : Fin 1024) :
    layer x a wd (ix3 b s d) = x (ix3 b s d) + ∑ f : Fin 2816, a (ix3 b s f) * wd (ix3 0 f d) := by
  unfold layer
  pointwise

theorem entering_apply (oa ob : Vec Ideal S16384x512 .bf16) (wo : Vec Ideal S1024x1024 .f32) (x : Vec Ideal S16384x1024 .f32) (b : Fin 4) (s : Fin 4096) (d : Fin 1024) :
    entering oa ob wo x (ix3 b s d) = FfnMath.attended (fun r e => oa (ix2 r e)) (fun r e => ob (ix2 r e)) (fun e d => wo (ix2 e d)) (fun r d => x (ix2 r d)) (at4 b s) d := by
  have h : entering oa ob wo x (ix3 b s d) = rows x (ix3 b s d) + projected (joined oa ob) wo (ix3 b s d) := rfl
  unfold FfnMath.attended
  rw [h, rows_apply, projected_apply, add_assoc]
  refine congrArg₂ (· + ·) rfl ((Fin.sum_univ_add (a := 512) (b := 512) _).trans (congrArg₂ (· + ·) (Finset.sum_congr rfl fun e _ => ?_) (Finset.sum_congr rfl fun e _ => ?_)))
  · exact congrArg₂ (· * ·) (joined_lo oa ob _ e) rfl
  · exact congrArg₂ (· * ·) (joined_hi oa ob _ e) rfl

variable (m : (ℓ : Loc nD τ sig) → Buf (Elt Ideal) ℓ) (c : Dev nD)

/-- The arguments, by row and column: the input after the attentions' projection, and the first layer of each weight stack. -/
def args : FfnMath.Args where
  x := FfnMath.attended (fun r e => m ((c.tc : Thread nD τ).loc main_arg0) (ix2 r e)) (fun r e => m ((c.tc : Thread nD τ).loc main_arg1) (ix2 r e)) (fun e d => m ((c.tc : Thread nD τ).loc main_arg2) (ix2 e d)) (fun r d => m ((c.tc : Thread nD τ).loc main_arg3) (ix2 r d))
  g d := m ((c.tc : Thread nD τ).loc main_arg4) (ix1 d)
  wu d f := m ((c.tc : Thread nD τ).loc main_arg5) (ix3 0 d f)
  cw s f := m ((c.tc : Thread nD τ).loc main_arg6) (ix2 s f)
  cb f := m ((c.tc : Thread nD τ).loc main_arg7) (ix1 f)
  wd f d := m ((c.tc : Thread nD τ).loc main_arg8) (ix3 0 f d)

section
variable {A : FfnMath.Args} {x : Vec Ideal S4x4096x1024 .f32} {g : Vec Ideal S1024 .f32} {wu : Vec Ideal S2x1024x5632 .bf16} {cw : Vec Ideal S3x5632 .f32} {cb : Vec Ideal S5632 .f32} {wd : Vec Ideal S2x2816x1024 .bf16}
    (hx : ∀ b s d, x (ix3 b s d) = A.x (at4 b s) d) (hg : ∀ d, g (ix1 d) = A.g d) (hu : ∀ d f, wu (ix3 0 d f) = A.wu d f) (hw : ∀ s f, cw (ix2 s f) = A.cw s f) (hb : ∀ f, cb (ix1 f) = A.cb f) (hd : ∀ f d, wd (ix3 0 f d) = A.wd f d)
include hx hg hu

theorem up_eq (b : Fin 4) (s : Fin 4096) (f : Fin 5632) : upped (normed x g) wu (ix3 b s f) = A.up (at4 b s) f := by
  rw [upped_apply]
  refine Finset.sum_congr rfl fun d _ => congrArg₂ (· * ·) ((normed_apply x g b s d).trans ?_) (hu d f)
  exact congrArg₂ (fun x g => FfnMath.rms x g d) (funext fun k => hx b s k) (funext hg)

theorem back_eq (b : Fin 4) (s : Fin 4096) (f : Fin 5632) (j : Fin 3) (e : Fin 4098) (he : e.val = j.val + s.val) :
    padded (upped (normed x g) wu) (ix3 b e f) = A.back (at4 b s) f j := by
  have hm : (at4 b s).val % 4096 = s.val := by show (b.val * 4096 + s.val) % 4096 = s.val; omega
  unfold FfnMath.Args.back
  by_cases h : e.val < 2
  · rw [if_pos (by omega)]
    exact padded_lo _ _ _ _ h
  · rw [if_neg (by omega)]
    refine (padded_hi _ _ _ _ h).trans ((up_eq hx hg hu b _ f).trans ?_)
    exact congrArg (fun r => A.up r f) (Fin.ext (by show b.val * 4096 + (e.val - 2) = b.val * 4096 + s.val + j.val - 2; omega))

include hw hb
theorem pre_eq (b : Fin 4) (s : Fin 4096) (f : Fin 5632) : convolved (padded (upped (normed x g) wu)) cw cb (ix3 b s f) = A.pre (at4 b s) f := by
  refine (convolved_apply _ cw cb b s f).trans ?_
  rw [back_eq hx hg hu b s f 0 _ (Nat.zero_add _).symm, back_eq hx hg hu b s f 1 _ rfl, back_eq hx hg hu b s f 2 _ rfl, hb, hw, hw, hw]
  unfold FfnMath.Args.pre FfnMath.conv
  simp only [add_assoc]

include hd
theorem y_eq (b : Fin 4) (s : Fin 4096) (d : Fin 1024) : layer x (gated (convolved (padded (upped (normed x g) wu)) cw cb)) wd (ix3 b s d) = A.y (at4 b s) d := by
  rw [layer_apply]
  refine congrArg₂ (· + ·) (hx b s d) (Finset.sum_congr rfl fun f _ => congrArg₂ (· * ·) ((gated_apply _ b s f).trans ?_) (hd f d))
  exact congrArg₂ FfnMath.glu (pre_eq hx hg hu hw hb b s _) (pre_eq hx hg hu hw hb b s _)
end

/-- The reference's result is the layer's. -/
theorem result (r : Fin 16384) (d : Fin 1024) : (res_main_v58 m c : S16384x1024.Idx → EReal) (ix2 r d) = (args m c).y r d := by
  rw [res_eq]
  unfold whole
  refine (rowed _ r d).trans ((y_eq (A := args m c) (fun b s d => entering_apply _ _ _ _ b s d) (fun _ => rfl) (fun _ _ => rfl) (fun _ _ => rfl) (fun _ => rfl) (fun _ _ => rfl) _ _ d).trans ?_)
  exact congrArg (fun r => (args m c).y r d) (Fin.ext (by show r.val / 4096 * 4096 + r.val % 4096 = r.val; omega))
end Cert.OutReferenceIdeal.Read
end
-- ==== Proof.OutEquation.lean ====
/- The first layer's feed-forward kernel's result is its reference's. -/
module
public import proofs.«01_k».proof.Defs
public import proofs.«01_k».proof.Proof.OutKernel
public import proofs.«01_k».proof.Proof.OutReference
public import Idealize.ShloMosaic.Lib.Quiescent
@[expose] public section
set_option maxRecDepth 16384
noncomputable section
namespace Cert.Out
open Idealize.ShloMosaic Idealize.ShloMosaic.TcCoe Idealize.SL.Sem

theorem referenceFrame : quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem equation : algebraic_OutKernelIdeal_OutReferenceIdeal := by
  intro m ρ m' ρ' _ hagree
  refine ⟨_, Cert.OutKernelIdeal.Value.run (F := Ideal) m ρ, ?_⟩
  refine (θ_run Cert.OutReferenceIdeal.defs _ _).mono (fun _ h c => ⟨?_, (h c).2⟩) (Cert.OutReferenceIdeal.Value.run (F := Ideal) m' ρ')
  rw [(h c).1]
  obtain ⟨h0, h1, h2, h3, h4, h5, h6, h7, h8, h9⟩ := hagree c
  have ha : Cert.OutReferenceIdeal.Read.args m' c = Cert.OutKernelIdeal.Tile.args m c := by
    unfold Cert.OutReferenceIdeal.Read.args Cert.OutKernelIdeal.Tile.args
    simp only [h0, h1, h2, h3, h4, h5, h6, h7, h8]
  have hk : Cert.OutKernelIdeal.Value.G11 m c = Cert.OutKernelIdeal.Tile.G (Cert.OutKernelIdeal.Tile.args m c) :=
    (Cert.OutKernelIdeal.Value.final11 m c).symm.trans (Cert.OutKernelIdeal.Tile.final m c)
  refine Eq.trans (funext fun y => ?_) hk.symm
  refine (congrArg (Cert.OutReferenceIdeal.Value.res_main_v58 m' c : Cert.OutReferenceIdeal.S16384x1024.Idx → EReal) (eq_ix2 y)).trans ((Cert.OutReferenceIdeal.Read.result m' c (y 0) (y 1)).trans ?_)
  rw [ha]
  rfl
end Cert.Out
end
-- ==== Proof.SguPieces.lean ====
/- What the spatial gating unit's kernel stores. -/
module
public import proofs.«01_k».proof.Proof.Gen.SguKernelIdeal.Frame
public import proofs.«01_k».proof.Proof.FfnTile
@[expose] public section
set_option maxRecDepth 16384
noncomputable section
namespace Cert.SguKernelIdeal.Tile
open Idealize.ShloMosaic Idealize.ShloMosaic.TcCoe Idealize.SL.Sem
open Cert.SguKernelIdeal Cert.SguKernelIdeal.Gen Cert.FfnTile
variable {F : FTy → Type} [FloatOps F]

abbrev sq : Rect S1024x1024 := box 1024 1024 0 0 (by decide) (by decide)
abbrev rowv : Rect S1x1024 := box 1 1024 0 0 (by decide) (by decide)
abbrev wcol (o : ℕ) (h : o + 1024 ≤ 2048) : Rect S1024x2048 := box 1024 1024 0 o (by decide) h
abbrev tile (n k : Fin 8) : Rect S1024x1024 := box 128 128 (128 * n.val) (128 * k.val) (by omega) (by omega)
abbrev bcol (k : Fin 8) : Rect S128x8 := box 128 1 0 k.val (by decide) (by omega)

theorem inbW (k : Fin 8) : ∀ x, (![k.val, 0, 0] : Fin 3 → ℕ) x + S1x128x128.size x ≤ S8x128x128.size x
  | ⟨0, _⟩ => by show k.val + 1 ≤ 8; omega
  | ⟨1, _⟩ => le_rfl
  | ⟨2, _⟩ => le_rfl

abbrev wmat (k : Fin 8) : Rect S8x128x128 := Rect.unit ![k.val, 0, 0] S1x128x128.size (inbW k)

/-- The stores of the gated mixture by group and chunk, last first. -/
def stores (a : Fin 8 → Fin 8 → FVec F S128x128 .bf16) : List (View.Piece (Elt F) S1024x1024 .bf16) :=
  [7, 6, 5, 4, 3, 2, 1, 0].flatMap fun k : Fin 8 => [7, 6, 5, 4, 3, 2, 1, 0].map fun n : Fin 8 => ⟨tile n k, a n k⟩

section
variable (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S1024x1024 .bf16) (harg8 : arg8.IsWhole) (arg10 : Memref sig .tc .vmem S1024x1024 .f32) (arg11 : Memref sig .tc .vmem S1024x1024 .bf16) (arg12 : Memref sig .tc .vmem S1024x1024 .bf16)
    (x0 : Vec F S1024x1024 .f32) (x1 : Vec F S1x1024 .f32) (x2 : Vec F S1024x2048 .bf16) (x3 : Vec F S1x1024 .f32) (x4 : Vec F S1x1024 .f32) (x5 : Vec F S8x128x128 .f32) (x6 : Vec F S128x8 .f32) (x7 : Vec F S1024x1024 .bf16)

def xs : FVec F S1024x1024 .f32 := View.readAt (Elt F) arg1.view sq.toLoadRect (harg1.unread x0)
def gs : FVec F S1x1024 .f32 := View.readAt (Elt F) arg2.view rowv.toLoadRect (harg2.unread x1)
def wcols (o : ℕ) (h : o + 1024 ≤ 2048) : FVec F S1024x1024 .bf16 := View.readAt (Elt F) arg3.view (wcol o h).toLoadRect (harg3.unread x2)

/-- The gating columns, and the columns to mix, normed. -/
def us : FVec F S1024x1024 .f32 := k0_pay3 (xs arg1 harg1 x0) (gs arg2 harg2 x1) (wcols arg3 harg3 x2 0 (by decide))
def vs : FVec F S1024x1024 .bf16 :=
  k0_pay6 (k0_pay4 (xs arg1 harg1 x0) (gs arg2 harg2 x1) (wcols arg3 harg3 x2 1024 (by decide))) (k0_pay5 (xs arg1 harg1 x0) (gs arg2 harg2 x1) (wcols arg3 harg3 x2 1024 (by decide)))
    (View.readAt (Elt F) arg4.view rowv.toLoadRect (harg4.unread x3)) (View.readAt (Elt F) arg5.view rowv.toLoadRect (harg5.unread x4))

/-- One chunk's gated mixture, of one group. -/
def piece (n k : Fin 8) : FVec F S128x128 .bf16 :=
  k0_pay10 k0_pay7 (View.readAt (Elt F) arg6.view (wmat k).toLoadRect (harg6.unread x5)) (View.readAt (Elt F) arg7.view (bcol k).toLoadRect (harg7.unread x6))
    (View.readCov (Val := Elt F) arg11.view [⟨sq, vs arg1 harg1 arg2 harg2 arg3 harg3 arg4 harg4 arg5 harg5 x0 x1 x2 x3 x4⟩] (tile n k).toLoadRect)
    (View.readCov (Val := Elt F) arg10.view [⟨sq, us arg1 harg1 arg2 harg2 arg3 harg3 x0 x1 x2⟩] (tile n k).toLoadRect)

def gate : FVec F S1024x1024 .bf16 :=
  View.readCov (Val := Elt F) arg12.view (stores (piece arg1 harg1 arg2 harg2 arg3 harg3 arg4 harg4 arg5 harg5 arg6 harg6 arg7 harg7 arg10 arg11 x0 x1 x2 x3 x4 x5 x6)) sq.toLoadRect

def res : List (View.Piece (Elt F) S1024x1024 .f32) :=
  [⟨sq, k0_pay1 (xs arg1 harg1 x0) (gate arg1 harg1 arg2 harg2 arg3 harg3 arg4 harg4 arg5 harg5 arg6 harg6 arg7 harg7 arg10 arg11 arg12 x0 x1 x2 x3 x4 x5 x6) (View.readAt (Elt F) arg8.view sq.toLoadRect (harg8.unread x7))⟩]

variable (c : Dev nD) (i : grid0.Coords) (arg9 : Memref sig .tc .vmem S1024x1024 .f32) (harg9 : arg9.IsWhole) (harg10 : arg10.IsWhole) (harg11 : arg11.IsWhole) (harg12 : arg12.IsWhole)

set_option maxHeartbeats 4000000 in
theorem resA : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1
    = res arg1 harg1 arg2 harg2 arg3 harg3 arg4 harg4 arg5 harg5 arg6 harg6 arg7 harg7 arg8 harg8 arg10 arg11 arg12 x0 x1 x2 x3 x4 x5 x6 x7 := by
  sl_kernel_rfl
end
end Cert.SguKernelIdeal.Tile
end
-- ==== Proof.SguMath.lean ====
/- The spatial gating unit over the reals: norm, projection, gate, the positions of a chunk mixed causally, and residual. -/
module
public import proofs.«01_k».proof.Proof.FfnMath
@[expose] public section
noncomputable section
namespace Cert.SguMath
open Idealize.ShloMosaic

def gelu (z : EReal) : EReal :=
  z * (Ideal.ofBits .f32 0x3F000000#32 * (Ideal.ofBits .f32 0x3F800000#32 + Ideal.tanh (Ideal.ofBits .f32 0x3F4C422A#32 * (z + Ideal.ofBits .f32 0x3D372713#32 * (z * (z * z))))))

/-- A row's mean. -/
def mean (v : Fin 1024 → EReal) : EReal := Ideal.div (∑ k : Fin 1024, v k) (Ideal.ofBits .f32 0x44800000#32)

/-- A row centered, scaled to unit variance, by a gain and over a bias. -/
def layernorm (v g b : Fin 1024 → EReal) (d : Fin 1024) : EReal :=
  (v d - mean v) * Ideal.rsqrt (mean (fun k => (v k - mean v) * (v k - mean v)) + Ideal.ofBits .f32 0x3727C5AC#32) * g d + b d

/-- A position's mixture of the positions up to it. -/
def mix (w v : Fin 128 → EReal) (t : Fin 128) : EReal := ∑ s : Fin 128, (if s ≤ t then w s else 0) * v s

theorem sge_eq : ∀ t s : Fin 128, IntOp.cmpi CmpIPredicate.sge (BitVec.ofNat 32 t.val) (BitVec.ofNat 32 s.val) = if s ≤ t then 1#1 else 0#1 := by
  decide +kernel

/-- A comparison of two positions selects. -/
theorem select_sge (t s : Fin 128) (x y : EReal) :
    Scalar.select (IntOp.cmpi CmpIPredicate.sge (BitVec.ofNat 32 t.val) (BitVec.ofNat 32 s.val)) x y = if s ≤ t then x else y := by
  rw [sge_eq]
  by_cases h : s ≤ t
  · rw [if_pos h, if_pos h]; rfl
  · rw [if_neg h, if_neg h]; rfl

/-- The arguments, by row and column; the mixing weights by group. -/
structure Args where
  x : Fin 16384 → Fin 1024 → EReal
  g : Fin 1024 → EReal
  w : Fin 1024 → Fin 2048 → EReal
  lg : Fin 1024 → EReal
  lb : Fin 1024 → EReal
  ws : Fin 8 → Fin 128 → Fin 128 → EReal
  bs : Fin 8 → Fin 128 → EReal
  wo : Fin 1024 → Fin 1024 → EReal

namespace Args
variable (A : Args)

def z (r : Fin 16384) (f : Fin 2048) : EReal := gelu (∑ d : Fin 1024, FfnMath.rms (A.x r) A.g d * A.w d f)
def u (r : Fin 16384) (d : Fin 1024) : EReal := A.z r ⟨0 + d.val, by omega⟩
def v (r : Fin 16384) (d : Fin 1024) : EReal := layernorm (fun k => A.z r ⟨1024 + k.val, by omega⟩) A.lg A.lb d

/-- Row `t` of chunk `c`. -/
def row (c : Fin 128) (t : Fin 128) : Fin 16384 := ⟨128 * c.val + t.val, by omega⟩
/-- Column `e` of group `k`. -/
def col (k : Fin 8) (e : Fin 128) : Fin 1024 := ⟨128 * k.val + e.val, by omega⟩

/-- The gated mixture, by chunk and group. -/
def part (c t : Fin 128) (k : Fin 8) (e : Fin 128) : EReal :=
  A.u (row c t) (col k e) * (mix (A.ws k t) (fun s => A.v (row c s) (col k e)) t + A.bs k t)

/-- The gated mixture. -/
def gated (r : Fin 16384) (d : Fin 1024) : EReal :=
  A.part ⟨r.val / 128, by omega⟩ ⟨r.val % 128, by omega⟩ ⟨d.val / 128, by omega⟩ ⟨d.val % 128, by omega⟩

def y (r : Fin 16384) (d : Fin 1024) : EReal := A.x r d + ∑ e : Fin 1024, A.gated r e * A.wo e d

theorem gated_part (c t : Fin 128) (k : Fin 8) (e : Fin 128) : A.gated (row c t) (col k e) = A.part c t k e := by
  have h1 : (⟨(row c t).val / 128, by omega⟩ : Fin 128) = c := Fin.ext (by show (128 * c.val + t.val) / 128 = c.val; omega)
  have h2 : (⟨(row c t).val % 128, by omega⟩ : Fin 128) = t := Fin.ext (by show (128 * c.val + t.val) % 128 = t.val; omega)
  have h3 : (⟨(col k e).val / 128, by omega⟩ : Fin 8) = k := Fin.ext (by show (128 * k.val + e.val) / 128 = k.val; omega)
  have h4 : (⟨(col k e).val % 128, by omega⟩ : Fin 128) = e := Fin.ext (by show (128 * k.val + e.val) % 128 = e.val; omega)
  unfold gated
  rw [h1, h2, h3, h4]
end Args
end Cert.SguMath
end
-- ==== Proof.SguPoint.lean ====
/- The vectors of the spatial gating unit's kernel, read at an index over the reals. -/
module
public import proofs.«01_k».proof.Proof.SguPieces
public import proofs.«01_k».proof.Proof.SguMath
@[expose] public section
set_option maxRecDepth 16384
noncomputable section
namespace Cert.SguKernelIdeal.Tile
open Idealize.ShloMosaic Idealize.ShloMosaic.TcCoe Idealize.SL.Sem
open Cert.SguKernelIdeal Cert.SguKernelIdeal.Gen Cert.FfnTile

theorem resP_apply (x : Vec Ideal S1024x1024 .f32) (a w : Vec Ideal S1024x1024 .bf16) (i d : Fin 1024) :
    k0_pay1 (F := Ideal) x a w (ix2 i d) = x (ix2 i d) + ∑ e : Fin 1024, a (ix2 i e) * w (ix2 e d) := by
  pointwise [k0_pay1]

theorem normP_apply (x : Vec Ideal S1024x1024 .f32) (g : Vec Ideal S1x1024 .f32) (i d : Fin 1024) :
    k0_pay2 (F := Ideal) x g (ix2 i d) = FfnMath.rms (fun d => x (ix2 i d)) (fun d => g (ix2 0 d)) d := by
  pointwise [k0_pay2, FfnMath.rms]

theorem projP_apply (x : Vec Ideal S1024x1024 .f32) (g : Vec Ideal S1x1024 .f32) (w : Vec Ideal S1024x1024 .bf16) (i d : Fin 1024) :
    k0_pay4 (F := Ideal) x g w (ix2 i d) = ∑ e : Fin 1024, FfnMath.rms (fun d => x (ix2 i d)) (fun d => g (ix2 0 d)) e * w (ix2 e d) := by
  have h : k0_pay4 (F := Ideal) x g w (ix2 i d) = ∑ e : Fin 1024, k0_pay2 (F := Ideal) x g (ix2 i e) * w (ix2 e d) := by
    unfold k0_pay4
    generalize k0_pay2 (F := Ideal) x g = n
    pointwise
  rw [h]
  exact Finset.sum_congr rfl fun e _ => congrArg₂ (· * ·) (normP_apply x g i e) rfl

theorem gateP_apply (x : Vec Ideal S1024x1024 .f32) (g : Vec Ideal S1x1024 .f32) (w : Vec Ideal S1024x1024 .bf16) (i d : Fin 1024) :
    k0_pay3 (F := Ideal) x g w (ix2 i d) = SguMath.gelu (k0_pay4 (F := Ideal) x g w (ix2 i d)) := by
  unfold k0_pay3 k0_pay4 SguMath.gelu
  generalize k0_pay2 (F := Ideal) x g = n
  pointwise

theorem layerP_apply (z : FVec Ideal S1024x1024 .f32) (g b : Vec Ideal S1x1024 .f32) (i d : Fin 1024) :
    k0_pay6 (F := Ideal) z (mulf z z) g b (ix2 i d) = SguMath.layernorm (fun k => SguMath.gelu (z (ix2 i k))) (fun k => g (ix2 0 k)) (fun k => b (ix2 0 k)) d := by
  pointwise [k0_pay6, SguMath.layernorm, SguMath.mean, SguMath.gelu]

theorem maskP_apply (w : Vec Ideal S1x128x128 .f32) (t s : Fin 128) :
    k0_pay8 (F := Ideal) k0_pay7 w (ix2 t s) = if s ≤ t then w (ix3 0 t s) else 0 := by
  unfold k0_pay8 k0_pay7
  pointwise
  exact SguMath.select_sge t s _ _

theorem mixP_apply (w : Vec Ideal S1x128x128 .f32) (b : Vec Ideal S128x1 .f32) (v : Vec Ideal S128x128 .bf16) (u : Vec Ideal S128x128 .f32) (t e : Fin 128) :
    k0_pay10 (F := Ideal) k0_pay7 w b v u (ix2 t e) = u (ix2 t e) * (SguMath.mix (fun s => w (ix3 0 t s)) (fun s => v (ix2 s e)) t + b (ix2 t 0)) := by
  have h : k0_pay10 (F := Ideal) k0_pay7 w b v u (ix2 t e) = u (ix2 t e) * ((∑ s : Fin 128, k0_pay8 (F := Ideal) k0_pay7 w (ix2 t s) * v (ix2 s e)) + b (ix2 t 0)) := by
    unfold k0_pay10
    generalize k0_pay8 (F := Ideal) k0_pay7 w = l
    pointwise [k0_pay9]
  rw [h]
  exact congrArg₂ (· * ·) rfl (congrArg₂ (· + ·) (Finset.sum_congr rfl fun s _ => congrArg₂ (· * ·) (maskP_apply w t s) rfl) rfl)
end Cert.SguKernelIdeal.Tile
end
-- ==== Proof.SguBlock.lean ====
/- One tile of the spatial gating unit's kernel against the unit's mathematics. -/
module
public import proofs.«01_k».proof.Proof.SguPoint
@[expose] public section
set_option maxRecDepth 16384
noncomputable section
namespace Cert.SguKernelIdeal.Tile
open Idealize.ShloMosaic Idealize.ShloMosaic.TcCoe Idealize.SL.Sem
open Cert.SguKernelIdeal Cert.SguKernelIdeal.Gen Cert.FfnTile

theorem sq_mem (y : S1024x1024.Idx) : y ∈ sq.set :=
  box_mem (by decide) (by decide) y (Nat.zero_le _) (by have : (y 0 : ℕ) < 1024 := (y 0).isLt; omega) (Nat.zero_le _) (by have : (y 1 : ℕ) < 1024 := (y 1).isLt; omega)

/-- A store of a whole array, read back at a tile and at an index. -/
theorem whole_read {φ : EltTy} (v : View sig .tc .vmem S1024x1024 φ) (p : Vec Ideal S1024x1024 φ) (n k : Fin 8) (i j : Fin 128) :
    View.readCov (Val := Elt Ideal) v [⟨sq, p⟩] (tile n k).toLoadRect (ix2 i j) = p (ix2 ⟨128 * n.val + i.val, by omega⟩ ⟨128 * k.val + j.val, by omega⟩) := by
  have cov : ∀ x : S128x128.Idx, ∃ q ∈ [(⟨sq, p⟩ : View.Piece (Elt Ideal) S1024x1024 φ)], (tile n k).emb x ∈ q.1.set := fun x => ⟨_, .head _, sq_mem _⟩
  rw [View.readCov_eq_canon v _ _ cov, View.canon_cons_unit_lit' (Val := Elt Ideal) (inb2 (by decide) (by decide)) p [] (by decide)]
  exact congrArg p (box_emb (n := 1024) (W := 1024) (by omega) (by omega) i j)

theorem last_sq (v : View sig .tc .vmem S1024x1024 .f32) (f : v.ty.Contents (Elt Ideal)) (p : FVec Ideal S1024x1024 .f32) (i d : Fin 1024) :
    v.read (Elt Ideal) (v.writes (Elt Ideal) f [⟨sq, p⟩]) (ix2 i d) = p (ix2 i d) := by
  have cov : ∀ y, ∃ q ∈ [(⟨sq, p⟩ : View.Piece (Elt Ideal) S1024x1024 .f32)], y ∈ q.1.set := fun y => ⟨_, .head _, sq_mem y⟩
  rw [View.read_writes_eq_canon v f _ cov]
  exact congrFun (View.canon_cons_unit_lit' (Val := Elt Ideal) (inb2 (by decide) (by decide)) _ [] (by decide)) (ix2 i d)

theorem wmat_emb (k : Fin 8) (i j : Fin 128) : (wmat k).emb (ix3 0 i j : S1x128x128.Idx) = (ix3 k i j : S8x128x128.Idx) :=
  funext fun x => Fin.ext (match x with
    | ⟨0, _⟩ => by show k.val + 1 * 0 = k.val; rfl
    | ⟨1, _⟩ => by show 0 + 1 * i.val = i.val; omega
    | ⟨2, _⟩ => by show 0 + 1 * j.val = j.val; omega)

theorem stores_mem {a : Fin 8 → Fin 8 → FVec Ideal S128x128 .bf16} {p : View.Piece (Elt Ideal) S1024x1024 .bf16} (hp : p ∈ stores a) : ∃ n k, p = ⟨tile n k, a n k⟩ := by
  obtain ⟨k, -, h⟩ := List.mem_flatMap.1 hp
  obtain ⟨n, -, rfl⟩ := List.mem_map.1 h
  exact ⟨n, k, rfl⟩

/-- The stores of the gated mixture agree with one array, and cover it. -/
theorem stores_agree (a : Fin 8 → Fin 8 → FVec Ideal S128x128 .bf16) (G : Fin 1024 → Fin 1024 → EReal)
    (ha : ∀ (n k : Fin 8) (i j : Fin 128), a n k (ix2 i j) = G ⟨128 * n.val + i.val, by omega⟩ ⟨128 * k.val + j.val, by omega⟩) :
    ∀ p ∈ stores a, ∀ x, p.2 x = (fun y : S1024x1024.Idx => G (y 0) (y 1)) (p.1.emb x) := by
  intro p hp
  obtain ⟨n, k, rfl⟩ := stores_mem hp
  intro x
  obtain ⟨i, j, rfl⟩ : ∃ i j, x = (ix2 i j : S128x128.Idx) := ⟨x 0, x 1, eq_ix2 x⟩
  show a n k (ix2 i j) = G ((tile n k).emb (ix2 i j) 0) ((tile n k).emb (ix2 i j) 1)
  rw [ha n k i j]
  have e := box_emb (n := 1024) (W := 1024) (m := 128) (V := 128) (a := 128 * n.val) (b := 128 * k.val) (by omega) (by omega) i j
  exact congrArg₂ G (congrFun e 0).symm (congrFun e 1).symm

theorem stores_cover (a : Fin 8 → Fin 8 → FVec Ideal S128x128 .bf16) (y : S1024x1024.Idx) : ∃ p ∈ stores a, y ∈ p.1.set := by
  have h0 : (y 0 : ℕ) < 1024 := (y 0).isLt
  have h1 : (y 1 : ℕ) < 1024 := (y 1).isLt
  have hl : ∀ k : Fin 8, k ∈ [7, 6, 5, 4, 3, 2, 1, (0 : Fin 8)] := by decide
  refine ⟨⟨tile ⟨(y 0 : ℕ) / 128, by omega⟩ ⟨(y 1 : ℕ) / 128, by omega⟩, a _ _⟩, List.mem_flatMap.2 ⟨_, hl _, List.mem_map.2 ⟨_, hl _, rfl⟩⟩, box_mem (n := 1024) (W := 1024) (by show 128 * ((y 0 : ℕ) / 128) + 128 ≤ 1024; omega) (by show 128 * ((y 1 : ℕ) / 128) + 128 ≤ 1024; omega) y ?_ ?_ ?_ ?_⟩
  · show 128 * ((y 0 : ℕ) / 128) ≤ _; omega
  · show _ < 128 * ((y 0 : ℕ) / 128) + 128; omega
  · show 128 * ((y 1 : ℕ) / 128) ≤ _; omega
  · show _ < 128 * ((y 1 : ℕ) / 128) + 128; omega

theorem stores_read (a : Fin 8 → Fin 8 → FVec Ideal S128x128 .bf16) (G : Fin 1024 → Fin 1024 → EReal) (v : View sig .tc .vmem S1024x1024 .bf16)
    (ha : ∀ (n k : Fin 8) (i j : Fin 128), a n k (ix2 i j) = G ⟨128 * n.val + i.val, by omega⟩ ⟨128 * k.val + j.val, by omega⟩) (i d : Fin 1024) :
    View.readCov (Val := Elt Ideal) v (stores a) sq.toLoadRect (ix2 i d) = G i d := by
  have cov : ∀ x : S1024x1024.Idx, ∃ p ∈ stores a, sq.emb x ∈ p.1.set := fun x => stores_cover a _
  rw [View.readCov_eq_canon v _ _ cov]
  refine (View.canon_apply_of_pieces (fun y : S1024x1024.Idx => G (y 0) (y 1)) _ (stores_agree a G ha) _ (cov _)).trans ?_
  have e := box_emb (n := 1024) (W := 1024) (m := 1024) (V := 1024) (a := 0) (b := 0) (by decide) (by decide) i d
  refine congrArg₂ G ((congrFun e 0).trans (Fin.ext ?_)) ((congrFun e 1).trans (Fin.ext ?_))
  · show 0 + i.val = i.val; omega
  · show 0 + d.val = d.val; omega

/-- Row `i` of tile `t`, and chunk `n` of it. -/
def trow (t : Fin 16) (i : Fin 1024) : Fin 16384 := ⟨1024 * t.val + i.val, by omega⟩
def chunk (t : Fin 16) (n : Fin 8) : Fin 128 := ⟨8 * t.val + n.val, by omega⟩

theorem trow_row (t : Fin 16) (n : Fin 8) (s : Fin 128) : trow t ⟨128 * n.val + s.val, by omega⟩ = SguMath.Args.row (chunk t n) s :=
  Fin.ext (by show 1024 * t.val + (128 * n.val + s.val) = 128 * (8 * t.val + n.val) + s.val; omega)

theorem ld0 {N W : ℕ} (i : Fin N) (d : Fin W) (h : 0 + i.val < N) (h' : 0 + d.val < W) : (ix2 (⟨0 + i.val, h⟩ : Fin N) (⟨0 + d.val, h'⟩ : Fin W)) = ix2 i d :=
  congrArg₂ ix2 (Fin.ext (Nat.zero_add _)) (Fin.ext (Nat.zero_add _))

section
variable (A : SguMath.Args) (t : Fin 16)
variable (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S1024x1024 .bf16) (harg8 : arg8.IsWhole) (arg10 : Memref sig .tc .vmem S1024x1024 .f32) (arg11 : Memref sig .tc .vmem S1024x1024 .bf16) (arg12 : Memref sig .tc .vmem S1024x1024 .bf16)
    (x0 : Vec Ideal S1024x1024 .f32) (x1 : Vec Ideal S1x1024 .f32) (x2 : Vec Ideal S1024x2048 .bf16) (x3 : Vec Ideal S1x1024 .f32) (x4 : Vec Ideal S1x1024 .f32) (x5 : Vec Ideal S8x128x128 .f32) (x6 : Vec Ideal S128x8 .f32) (x7 : Vec Ideal S1024x1024 .bf16)

/-- The tile's blocks are the arguments' rows. -/
structure Holds : Prop where
  x : ∀ i d, x0 (ix2 i d) = A.x (trow t i) d
  g : ∀ d, x1 (ix2 0 d) = A.g d
  w : ∀ d f, x2 (ix2 d f) = A.w d f
  lg : ∀ d, x3 (ix2 0 d) = A.lg d
  lb : ∀ d, x4 (ix2 0 d) = A.lb d
  ws : ∀ k t s, x5 (ix3 k t s) = A.ws k t s
  bs : ∀ t k, x6 (ix2 t k) = A.bs k t
  wo : ∀ e d, x7 (ix2 e d) = A.wo e d

variable {A t x0 x1 x2 x3 x4 x5 x6 x7} (K : Holds A t x0 x1 x2 x3 x4 x5 x6 x7)
include K

theorem xs_apply (i d : Fin 1024) : xs arg1 harg1 x0 (ix2 i d) = A.x (trow t i) d :=
  (load2 arg1 harg1 x0 (by decide) (by decide) i d).trans ((congrArg x0 (ld0 i d _ _)).trans (K.x i d))

theorem gs_apply (d : Fin 1024) : gs arg2 harg2 x1 (ix2 0 d) = A.g d :=
  (load2 arg2 harg2 x1 (by decide) (by decide) 0 d).trans ((congrArg x1 (ld0 0 d _ _)).trans (K.g d))

theorem wcols_apply (o : ℕ) (h : o + 1024 ≤ 2048) (e d : Fin 1024) : wcols arg3 harg3 x2 o h (ix2 e d) = A.w e ⟨o + d.val, by omega⟩ :=
  (load2 arg3 harg3 x2 (by decide) h e d).trans ((congrArg x2 (congrArg₂ ix2 (Fin.ext (Nat.zero_add _)) rfl)).trans (K.w e _))

theorem z_apply (o : ℕ) (h : o + 1024 ≤ 2048) (i d : Fin 1024) :
    SguMath.gelu (k0_pay4 (F := Ideal) (xs arg1 harg1 x0) (gs arg2 harg2 x1) (wcols arg3 harg3 x2 o h) (ix2 i d)) = A.z (trow t i) ⟨o + d.val, by omega⟩ := by
  rw [projP_apply]
  refine congrArg SguMath.gelu (Finset.sum_congr rfl fun e _ => congrArg₂ (· * ·) ?_ (wcols_apply arg3 harg3 K o h e d))
  exact congrArg₂ (fun x g => FfnMath.rms x g e) (funext fun d => xs_apply arg1 harg1 K i d) (funext fun d => gs_apply arg2 harg2 K d)

theorem us_apply (i d : Fin 1024) : us arg1 harg1 arg2 harg2 arg3 harg3 x0 x1 x2 (ix2 i d) = A.u (trow t i) d :=
  (gateP_apply _ _ _ i d).trans (z_apply arg1 harg1 arg2 harg2 arg3 harg3 K 0 (by decide) i d)

theorem vs_apply (i d : Fin 1024) : vs arg1 harg1 arg2 harg2 arg3 harg3 arg4 harg4 arg5 harg5 x0 x1 x2 x3 x4 (ix2 i d) = A.v (trow t i) d := by
  refine (layerP_apply _ _ _ i d).trans ?_
  have hz := funext fun d => z_apply arg1 harg1 arg2 harg2 arg3 harg3 K 1024 (by decide) i d
  have hg : (fun d : Fin 1024 => View.readAt (Elt Ideal) arg4.view rowv.toLoadRect (harg4.unread x3) (ix2 0 d)) = A.lg := funext fun d =>
    (load2 arg4 harg4 x3 (by decide) (by decide) 0 d).trans ((congrArg x3 (ld0 0 d _ _)).trans (K.lg d))
  have hb : (fun d : Fin 1024 => View.readAt (Elt Ideal) arg5.view rowv.toLoadRect (harg5.unread x4) (ix2 0 d)) = A.lb := funext fun d =>
    (load2 arg5 harg5 x4 (by decide) (by decide) 0 d).trans ((congrArg x4 (ld0 0 d _ _)).trans (K.lb d))
  exact congrFun (congr (congrArg₂ SguMath.layernorm hz hg) hb) d

theorem piece_apply (n k : Fin 8) (i e : Fin 128) :
    piece arg1 harg1 arg2 harg2 arg3 harg3 arg4 harg4 arg5 harg5 arg6 harg6 arg7 harg7 arg10 arg11 x0 x1 x2 x3 x4 x5 x6 n k (ix2 i e) = A.part (chunk t n) i k e := by
  unfold piece
  rw [mixP_apply, whole_read, us_apply arg1 harg1 arg2 harg2 arg3 harg3 K, trow_row]
  unfold SguMath.Args.part
  refine congrArg₂ (· * ·) rfl (congrArg₂ (· + ·) (congrFun (congrArg₂ SguMath.mix (funext fun s => ?_) (funext fun s => ?_)) i) ?_)
  · rw [View.readAt_eq_ld, harg6.read_unread]
    exact (congrArg x5 (wmat_emb k i s)).trans (K.ws k i s)
  · rw [whole_read, vs_apply arg1 harg1 arg2 harg2 arg3 harg3 arg4 harg4 arg5 harg5 K, trow_row]
    rfl
  · exact (load2 arg7 harg7 x6 (by decide) (by omega) i 0).trans ((congrArg x6 (congrArg₂ ix2 (Fin.ext (Nat.zero_add _)) rfl)).trans (K.bs i k))

theorem gate_apply (i d : Fin 1024) : gate arg1 harg1 arg2 harg2 arg3 harg3 arg4 harg4 arg5 harg5 arg6 harg6 arg7 harg7 arg10 arg11 arg12 x0 x1 x2 x3 x4 x5 x6 (ix2 i d) = A.gated (trow t i) d := by
  unfold gate
  refine stores_read _ (fun i d => A.gated (trow t i) d) arg12.view (fun n k i j => ?_) i d
  rw [piece_apply arg1 harg1 arg2 harg2 arg3 harg3 arg4 harg4 arg5 harg5 arg6 harg6 arg7 harg7 arg10 arg11 K n k i j]
  refine (A.gated_part (chunk t n) i k j).symm.trans ?_
  rw [← trow_row]
  rfl

/-- The tile's result is the unit's. -/
theorem res_read (v : View sig .tc .vmem S1024x1024 .f32) (f : v.ty.Contents (Elt Ideal)) (i d : Fin 1024) :
    v.read (Elt Ideal) (v.writes (Elt Ideal) f (res arg1 harg1 arg2 harg2 arg3 harg3 arg4 harg4 arg5 harg5 arg6 harg6 arg7 harg7 arg8 harg8 arg10 arg11 arg12 x0 x1 x2 x3 x4 x5 x6 x7)) (ix2 i d) = A.y (trow t i) d := by
  unfold res
  rw [last_sq, resP_apply]
  refine congrArg₂ (· + ·) (xs_apply arg1 harg1 K i d) (Finset.sum_congr rfl fun e _ => congrArg₂ (· * ·) (gate_apply arg1 harg1 arg2 harg2 arg3 harg3 arg4 harg4 arg5 harg5 arg6 harg6 arg7 harg7 arg10 arg11 arg12 K i e) ?_)
  exact (load2 arg8 harg8 x7 (by decide) (by decide) e d).trans ((congrArg x7 (ld0 e d _ _)).trans (K.wo e d))
end
end Cert.SguKernelIdeal.Tile
end
-- ==== Proof.SguKernel.lean ====
/- What the spatial gating unit's kernel's result array holds. -/
module
public import proofs.«01_k».proof.Proof.SguBlock
public import proofs.«01_k».proof.Proof.FfnKernel
public import proofs.«01_k».proof.Proof.Gen.SguKernelIdeal.Value
public import Idealize.ShloMosaic.Lib.Pipeline.ValueKit
@[expose] public section
set_option maxRecDepth 16384
noncomputable section
namespace Cert.SguKernelIdeal.Tile
open Idealize.ShloMosaic Idealize.ShloMosaic.TcCoe Idealize.SL.Sem
open Cert.SguKernelIdeal Cert.SguKernelIdeal.Gen Cert.FfnTile
open Cert.FfnKernelIdeal.Tile (eq_idx eq_idx3)

variable (m : (ℓ : Loc nD τ sig) → Buf (Elt Ideal) ℓ)

/-- The arguments, by row and column. -/
def args (c : Dev nD) : SguMath.Args where
  x r d := m ((c : Thread nD τ).loc main_arg0) (ix2 r d)
  g d := m ((c : Thread nD τ).loc main_arg1) (ix1 d)
  w d f := m ((c : Thread nD τ).loc main_arg2) (ix2 d f)
  lg d := m ((c : Thread nD τ).loc main_arg3) (ix1 d)
  lb d := m ((c : Thread nD τ).loc main_arg4) (ix1 d)
  ws k t s := m ((c : Thread nD τ).loc main_arg5) (ix3 k t s)
  bs k t := m ((c : Thread nD τ).loc main_arg6) (ix2 k t)
  wo e d := m ((c : Thread nD τ).loc main_arg7) (ix2 e d)

/-- The block a point works on, of each window. -/
theorem idx : ∀ t : Fin cfg0.N, (∀ a : Fin 2, win0_0.index t a = ![t.val, 0] a)
    ∧ (∀ a : Fin 2, win0_1.index t a = ![0, 0] a)
    ∧ (∀ a : Fin 2, win0_2.index t a = ![0, 0] a)
    ∧ (∀ a : Fin 2, win0_3.index t a = ![0, 0] a)
    ∧ (∀ a : Fin 2, win0_4.index t a = ![0, 0] a)
    ∧ (∀ a : Fin 3, win0_5.index t a = ![0, 0, 0] a)
    ∧ (∀ a : Fin 2, win0_6.index t a = ![0, 0] a)
    ∧ (∀ a : Fin 2, win0_7.index t a = ![0, 0] a)
    ∧ (∀ a : Fin 2, win0_8.index t a = ![t.val, 0] a) :=
  (by decide +kernel : ∀ t : Fin grid0.N, _)

theorem v0_apply (c : Dev nD) (e : Fin 1024) : V m c main_v0 (ix2 0 e) = m ((c : Thread nD τ).loc main_arg1) (ix1 e) := by
  entry_read
  pointwise

theorem v2_apply (c : Dev nD) (e : Fin 1024) : V m c main_v2 (ix2 0 e) = m ((c : Thread nD τ).loc main_arg3) (ix1 e) := by
  entry_read
  pointwise

theorem v3_apply (c : Dev nD) (e : Fin 1024) : V m c main_v3 (ix2 0 e) = m ((c : Thread nD τ).loc main_arg4) (ix1 e) := by
  entry_read
  pointwise

theorem v1_apply (c : Dev nD) (d : Fin 1024) (f : Fin 2048) : V m c main_v1 (ix2 d f) = m ((c : Thread nD τ).loc main_arg2) (ix2 d f) := by
  entry_read
  pointwise

theorem v4_apply (c : Dev nD) (t : Fin 128) (k : Fin 8) : V m c main_v4 (ix2 t k) = m ((c : Thread nD τ).loc main_arg6) (ix2 k t) := by
  entry_read
  pointwise

theorem v5_apply (c : Dev nD) (e d : Fin 1024) : V m c main_v5 (ix2 e d) = m ((c : Thread nD τ).loc main_arg7) (ix2 e d) := by
  entry_read
  pointwise

def tOf (t : Fin cfg0.N) : Fin 16 := ⟨t.val, lt_of_lt_of_eq t.isLt N_0⟩

theorem blk0 (c : Dev nD) (t : Fin cfg0.N) (r d : Fin 1024) : iblk m c 0 t (ix2 r d) = V m c main_arg0 (ix2 (trow (tOf t) r) d) := by
  have h := (idx t).1
  show V m c main_arg0 (((cfg0.win 0).blk t).view.emb (ix2 r d)) = _
  refine congrArg (V m c main_arg0) (eq_idx _ _ _ ?_ ?_)
  · show win0_0.index t 0 * 1024 + 1 * r.val = 1024 * t.val + r.val
    rw [h]; show t.val * 1024 + 1 * r.val = _; omega
  · show win0_0.index t 1 * 1024 + 1 * d.val = d.val
    rw [h]; show 0 * 1024 + 1 * d.val = _; omega

theorem blk1 (c : Dev nD) (t : Fin cfg0.N) (d : Fin 1024) : iblk m c 1 t (ix2 0 d) = V m c main_v0 (ix2 0 d) := by
  have h := (idx t).2.1
  show V m c main_v0 (((cfg0.win 1).blk t).view.emb (ix2 0 d)) = _
  refine congrArg (V m c main_v0) (eq_idx _ _ _ ?_ ?_)
  · show win0_1.index t 0 * 1 + 1 * 0 = 0
    rw [h]; rfl
  · show win0_1.index t 1 * 1024 + 1 * d.val = d.val
    rw [h]; show 0 * 1024 + 1 * d.val = _; omega

theorem blk2 (c : Dev nD) (t : Fin cfg0.N) (e : Fin 1024) (d : Fin 2048) : iblk m c 2 t (ix2 e d) = V m c main_v1 (ix2 e d) := by
  have h := (idx t).2.2.1
  show V m c main_v1 (((cfg0.win 2).blk t).view.emb (ix2 e d)) = _
  refine congrArg (V m c main_v1) (eq_idx _ _ _ ?_ ?_)
  · show win0_2.index t 0 * 1024 + 1 * e.val = e.val
    rw [h]; show 0 * 1024 + 1 * e.val = _; omega
  · show win0_2.index t 1 * 2048 + 1 * d.val = d.val
    rw [h]; show 0 * 2048 + 1 * d.val = _; omega

theorem blk3 (c : Dev nD) (t : Fin cfg0.N) (d : Fin 1024) : iblk m c 3 t (ix2 0 d) = V m c main_v2 (ix2 0 d) := by
  have h := (idx t).2.2.2.1
  show V m c main_v2 (((cfg0.win 3).blk t).view.emb (ix2 0 d)) = _
  refine congrArg (V m c main_v2) (eq_idx _ _ _ ?_ ?_)
  · show win0_3.index t 0 * 1 + 1 * 0 = 0
    rw [h]; rfl
  · show win0_3.index t 1 * 1024 + 1 * d.val = d.val
    rw [h]; show 0 * 1024 + 1 * d.val = _; omega

theorem blk4 (c : Dev nD) (t : Fin cfg0.N) (d : Fin 1024) : iblk m c 4 t (ix2 0 d) = V m c main_v3 (ix2 0 d) := by
  have h := (idx t).2.2.2.2.1
  show V m c main_v3 (((cfg0.win 4).blk t).view.emb (ix2 0 d)) = _
  refine congrArg (V m c main_v3) (eq_idx _ _ _ ?_ ?_)
  · show win0_4.index t 0 * 1 + 1 * 0 = 0
    rw [h]; rfl
  · show win0_4.index t 1 * 1024 + 1 * d.val = d.val
    rw [h]; show 0 * 1024 + 1 * d.val = _; omega

theorem blk5 (c : Dev nD) (t : Fin cfg0.N) (k : Fin 8) (i s : Fin 128) : iblk m c 5 t (ix3 k i s) = V m c main_arg5 (ix3 k i s) := by
  have h := (idx t).2.2.2.2.2.1
  show V m c main_arg5 (((cfg0.win 5).blk t).view.emb (ix3 k i s)) = _
  refine congrArg (V m c main_arg5) (eq_idx3 _ _ _ _ ?_ ?_ ?_)
  · show win0_5.index t 0 * 8 + 1 * k.val = k.val
    rw [h]; show 0 * 8 + 1 * k.val = _; omega
  · show win0_5.index t 1 * 128 + 1 * i.val = i.val
    rw [h]; show 0 * 128 + 1 * i.val = _; omega
  · show win0_5.index t 2 * 128 + 1 * s.val = s.val
    rw [h]; show 0 * 128 + 1 * s.val = _; omega

theorem blk6 (c : Dev nD) (t : Fin cfg0.N) (e : Fin 128) (d : Fin 8) : iblk m c 6 t (ix2 e d) = V m c main_v4 (ix2 e d) := by
  have h := (idx t).2.2.2.2.2.2.1
  show V m c main_v4 (((cfg0.win 6).blk t).view.emb (ix2 e d)) = _
  refine congrArg (V m c main_v4) (eq_idx _ _ _ ?_ ?_)
  · show win0_6.index t 0 * 128 + 1 * e.val = e.val
    rw [h]; show 0 * 128 + 1 * e.val = _; omega
  · show win0_6.index t 1 * 8 + 1 * d.val = d.val
    rw [h]; show 0 * 8 + 1 * d.val = _; omega

theorem blk7 (c : Dev nD) (t : Fin cfg0.N) (e : Fin 1024) (d : Fin 1024) : iblk m c 7 t (ix2 e d) = V m c main_v5 (ix2 e d) := by
  have h := (idx t).2.2.2.2.2.2.2.1
  show V m c main_v5 (((cfg0.win 7).blk t).view.emb (ix2 e d)) = _
  refine congrArg (V m c main_v5) (eq_idx _ _ _ ?_ ?_)
  · show win0_7.index t 0 * 1024 + 1 * e.val = e.val
    rw [h]; show 0 * 1024 + 1 * e.val = _; omega
  · show win0_7.index t 1 * 1024 + 1 * d.val = d.val
    rw [h]; show 0 * 1024 + 1 * d.val = _; omega

theorem holds (c : Dev nD) (t : Fin cfg0.N) : Holds (args m c) (tOf t) (iblk m c 0 t) (iblk m c 1 t) (iblk m c 2 t) (iblk m c 3 t) (iblk m c 4 t) (iblk m c 5 t) (iblk m c 6 t) (iblk m c 7 t) where
  x i d := (blk0 m c t i d).trans (congrFun (V_main_arg0 m c) _)
  g d := (blk1 m c t d).trans (v0_apply m c d)
  w d f := (blk2 m c t d f).trans (v1_apply m c d f)
  lg d := (blk3 m c t d).trans (v2_apply m c d)
  lb d := (blk4 m c t d).trans (v3_apply m c d)
  ws k i s := (blk5 m c t k i s).trans (congrFun (V_main_arg5 m c) _)
  bs i k := (blk6 m c t i k).trans (v4_apply m c i k)
  wo e d := (blk7 m c t e d).trans (v5_apply m c e d)

theorem left (c : Dev nD) (t : Fin cfg0.N) (i d : Fin 1024) : outsAt0 m c t (ix2 i d) = (args m c).y (trow (tOf t) i) d := by
  unfold outsAt0 out0_A_8
  rw [resA]
  exact res_read (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 scM0_1 scM0_2 (holds m c t) VO0_8 VO0_8.junk i d

/-- The result array, by row and column. -/
def G (A : SguMath.Args) (y : S16384x1024.Idx) : EReal := A.y (y 0) (y 1)

theorem final (c : Dev nD) : (dats m 0 c).arrAt 8 cfg0.N = G (args m c) := by
  refine (dats m 0 c).arrAt_eq_of_covers 8 _ (by decide +kernel) fun t _ y => ?_
  have hI := (idx t).2.2.2.2.2.2.2.2
  have e0 : ((cfg0.win 8).blk t).view.emb y 0 = trow (tOf t) (y 0) := Fin.ext (by
    show win0_8.index t 0 * 1024 + 1 * (y 0 : ℕ) = 1024 * t.val + (y 0 : ℕ)
    rw [hI]; show t.val * 1024 + 1 * (y 0 : ℕ) = _; omega)
  have e1 : ((cfg0.win 8).blk t).view.emb y 1 = y 1 := Fin.ext (by
    show win0_8.index t 1 * 1024 + 1 * (y 1 : ℕ) = _
    rw [hI]; show 0 * 1024 + 1 * (y 1 : ℕ) = _; omega)
  show (dats m 0 c).after 8 t y = (args m c).y (((cfg0.win 8).blk t).view.emb y 0) (((cfg0.win 8).blk t).view.emb y 1)
  rw [e0, e1, after0_8]
  exact (congrArg (outsAt0 m c t) (eq_ix2 y)).trans (left m c t (y 0) (y 1))
end Cert.SguKernelIdeal.Tile
end
-- ==== Proof.SguReference.lean ====
/- The spatial gating unit's reference's result, at an index. -/
module
public import proofs.«01_k».proof.Proof.FfnReference
public import proofs.«01_k».proof.Proof.SguMath
public import proofs.«01_k».proof.Proof.Gen.SguReferenceIdeal.Run
@[expose] public section
set_option maxRecDepth 16384
noncomputable section
namespace Cert.SguReferenceIdeal.Read
open Idealize.ShloMosaic Idealize.ShloMosaic.TcCoe Idealize.SL.Sem Idealize.ShloMosaic.StableHlo
open Cert.SguReferenceIdeal Cert.SguReferenceIdeal.Gen Cert.SguReferenceIdeal.Value
open Cert.FfnReferenceIdeal.Read (rows normed at4 rows_apply normed_apply rowed)

section
variable {F : FTy → Type} [FloatOps F]

def projected (h : Vec F S4x4096x1024 .f32) (w : Vec F S1024x2048 .f32) : Vec F S4x4096x2048 .f32 :=
  Host.dotGeneral dot_S4x4096x1024_S1024x2048_S4x4096x2048_2_0_01_1_n_n none h w

def gelus (z : Vec F S4x4096x2048 .f32) : Vec F S4x4096x2048 .f32 :=
  mulf z (mulf (broadcastInDim S4x4096x2048 ![] bcast_S_S4x4096x2048 (constant S_ .f32 0x3F000000#32)) (addf (broadcastInDim S4x4096x2048 ![] bcast_S_S4x4096x2048 (constant S_ .f32 0x3F800000#32)) (Host.tanh (mulf (broadcastInDim S4x4096x2048 ![] bcast_S_S4x4096x2048 (constant S_ .f32 0x3F4C422A#32)) (addf z (mulf (broadcastInDim S4x4096x2048 ![] bcast_S_S4x4096x2048 (constant S_ .f32 0x3D372713#32)) (mulf (mulf z z) z)))))))

def lefts (z : Vec F S4x4096x2048 .f32) : Vec F S4x4096x1024 .f32 := extractStridedSlice S4x4096x1024 ![0, 0, 0] z slices_S4x4096x2048_S4x4096x1024_0_0_0
def rights (z : Vec F S4x4096x2048 .f32) : Vec F S4x4096x1024 .f32 := extractStridedSlice S4x4096x1024 ![0, 0, 1024] z slices_S4x4096x2048_S4x4096x1024_0_0_1024

/-- Each row's mean. -/
def means (v : Vec F S4x4096x1024 .f32) : Vec F S4x4096x1 .f32 :=
  Host.divf (broadcastInDim S4x4096x1 ![0, 1] bcast_S4x4096_S4x4096x1_0_1 (Host.reduceAdd v (constant S_ .f32 0x00000000#32) reducesTo_S4x4096x1024_S4x4096_d2 h_S_)) (broadcastInDim S4x4096x1 ![] bcast_S_S4x4096x1 (constant S_ .f32 0x44800000#32))

def centered (v : Vec F S4x4096x1024 .f32) : Vec F S4x4096x1024 .f32 :=
  subf v (broadcastInDim S4x4096x1024 ![0, 1, 2] bcast_S4x4096x1_S4x4096x1024_0_1_2 (means v))

def squared (x : Vec F S4x4096x1024 .f32) : Vec F S4x4096x1024 .f32 := mulf x x

def scaled (x : Vec F S4x4096x1024 .f32) (g b : Vec F S1024 .f32) : Vec F S4x4096x1024 .f32 :=
  addf (mulf (mulf x (broadcastInDim S4x4096x1024 ![0, 1, 2] bcast_S4x4096x1_S4x4096x1024_0_1_2 (Host.rsqrt (addf (means (squared x)) (broadcastInDim S4x4096x1 ![] bcast_S_S4x4096x1 (constant S_ .f32 0x3727C5AC#32))))))
    (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S1x1x1024_S4x4096x1024_0_1_2 (broadcastInDim S1x1x1024 ![2] bcast_S1024_S1x1x1024_2 b))

/-- Ones at and below the diagonal. -/
def tril : Vec F S128x128 .f32 :=
  select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))

def weights (w : Vec F S8x128x128 .f32) (l : Vec F S128x128 .f32) : Vec F S8x128x128 .f32 :=
  mulf w (broadcastInDim S8x128x128 ![0, 1, 2] bcast_S1x128x128_S8x128x128_0_1_2 (broadcastInDim S1x128x128 ![1, 2] bcast_S128x128_S1x128x128_1_2 l))

def chunks (v : Vec F S4x4096x1024 .f32) : Vec F S4x32x128x8x128 .f32 := shapeCast _ v shapeCasts_S4x4096x1024_S4x32x128x8x128

def mixed (v : Vec F S4x32x128x8x128 .f32) (w : Vec F S8x128x128 .f32) (b : Vec F S8x128 .f32) : Vec F S4x32x128x8x128 .f32 :=
  addf (transpose S4x32x128x8x128 [1, 2, 4, 0, 3] (Host.dotGeneral dot_S4x32x128x8x128_S8x128x128_S8x4x32x128x128_2_2_014_1_3_0 none v w) transposes_S8x4x32x128x128_S4x32x128x8x128_1_2_4_0_3) (broadcastInDim S4x32x128x8x128 ![0, 1, 2, 3, 4] bcast_S1x1x128x8x1_S4x32x128x8x128_0_1_2_3_4 (broadcastInDim S1x1x128x8x1 ![2, 3] bcast_S128x8_S1x1x128x8x1_2_3 (transpose S128x8 [1, 0] b transposes_S8x128_S128x8_1_0)))

def unit (x u : Vec F S4x4096x1024 .f32) (v : Vec F S4x32x128x8x128 .f32) (wo : Vec F S1024x1024 .f32) : Vec F S4x4096x1024 .f32 :=
  addf x (Host.dotGeneral dot_S4x4096x1024_S1024x1024_S4x4096x1024_2_0_01_1_n_n none (mulf u (shapeCast _ v shapeCasts_S4x32x128x8x128_S4x4096x1024)) wo)

def zs (x : Vec F S16384x1024 .f32) (g : Vec F S1024 .f32) (w : Vec F S1024x2048 .f32) : Vec F S4x4096x2048 .f32 := gelus (projected (normed (rows x) g) w)

def whole (x : Vec F S16384x1024 .f32) (g : Vec F S1024 .f32) (w : Vec F S1024x2048 .f32) (lg lb : Vec F S1024 .f32) (ws : Vec F S8x128x128 .f32) (bs : Vec F S8x128 .f32) (wo : Vec F S1024x1024 .f32) : Vec F S16384x1024 .f32 :=
  shapeCast _ (unit (rows x) (lefts (zs x g w)) (mixed (chunks (scaled (centered (rights (zs x g w))) lg lb)) (weights ws tril) bs) wo) shapeCasts_S4x4096x1024_S16384x1024

set_option maxHeartbeats 4000000 in
theorem res_eq (m : (ℓ : Loc nD τ sig) → Buf (Elt F) ℓ) (c : Dev nD) : res_main_v68 m c
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_main_v68
  rfl
end

theorem projected_apply (h : Vec Ideal S4x4096x1024 .f32) (w : Vec Ideal S1024x2048 .f32) (b : Fin 4) (s : Fin 4096) (f : Fin 2048) :
    projected h w (ix3 b s f) = ∑ d : Fin 1024, h (ix3 b s d) * w (ix2 d f) := by
  unfold projected
  pointwise

theorem gelus_apply (z : Vec Ideal S4x4096x2048 .f32) (b : Fin 4) (s : Fin 4096) (f : Fin 2048) :
    gelus z (ix3 b s f) = SguMath.gelu (z (ix3 b s f)) := by
  unfold SguMath.gelu
  rw [mul_comm (z (ix3 b s f)) (z (ix3 b s f) * z (ix3 b s f))]
  unfold gelus
  pointwise

theorem lefts_apply (z : Vec Ideal S4x4096x2048 .f32) (b : Fin 4) (s : Fin 4096) (d : Fin 1024) : lefts z (ix3 b s d) = z (ix3 b s ⟨0 + d.val, by omega⟩) := by
  unfold lefts
  pointwise

theorem rights_apply (z : Vec Ideal S4x4096x2048 .f32) (b : Fin 4) (s : Fin 4096) (d : Fin 1024) : rights z (ix3 b s d) = z (ix3 b s ⟨1024 + d.val, by omega⟩) := by
  unfold rights
  pointwise

theorem means_apply (v : Vec Ideal S4x4096x1024 .f32) (b : Fin 4) (s : Fin 4096) : means v (ix3 b s 0) = SguMath.mean fun k => v (ix3 b s k) := by
  unfold means SguMath.mean
  pointwise

theorem centered_apply (v : Vec Ideal S4x4096x1024 .f32) (b : Fin 4) (s : Fin 4096) (d : Fin 1024) :
    centered v (ix3 b s d) = v (ix3 b s d) - SguMath.mean fun k => v (ix3 b s k) := by
  rw [← means_apply]
  unfold centered
  pointwise

theorem squared_apply (x : Vec Ideal S4x4096x1024 .f32) (b : Fin 4) (s : Fin 4096) (d : Fin 1024) : squared x (ix3 b s d) = x (ix3 b s d) * x (ix3 b s d) := by
  unfold squared
  pointwise

theorem scaled_apply (x : Vec Ideal S4x4096x1024 .f32) (g h : Vec Ideal S1024 .f32) (b : Fin 4) (s : Fin 4096) (d : Fin 1024) :
    scaled x g h (ix3 b s d) = x (ix3 b s d) * Ideal.rsqrt ((SguMath.mean fun k => x (ix3 b s k) * x (ix3 b s k)) + Ideal.ofBits .f32 0x3727C5AC#32) * g (ix1 d) + h (ix1 d) := by
  have e : means (squared x) (ix3 b s 0) = SguMath.mean fun k => x (ix3 b s k) * x (ix3 b s k) :=
    (means_apply (squared x) b s).trans (congrArg SguMath.mean (funext fun k => squared_apply x b s k))
  rw [← e]
  unfold scaled
  pointwise

theorem normed_eq (v : Vec Ideal S4x4096x1024 .f32) (g h : Vec Ideal S1024 .f32) (b : Fin 4) (s : Fin 4096) (d : Fin 1024) :
    scaled (centered v) g h (ix3 b s d) = SguMath.layernorm (fun k => v (ix3 b s k)) (fun k => g (ix1 k)) (fun k => h (ix1 k)) d := by
  rw [scaled_apply]
  unfold SguMath.layernorm
  simp only [centered_apply]

theorem tril_apply (t s : Fin 128) : tril (F := Ideal) (ix2 t s) = if s ≤ t then (1 : EReal) else 0 := by
  unfold tril
  pointwise
  rw [show IntOp.addi (BitVec.ofNat 32 t.val) 0#32 = BitVec.ofNat 32 t.val from BitVec.add_zero _]
  exact SguMath.select_sge t s _ _

theorem weights_apply (w : Vec Ideal S8x128x128 .f32) (l : Vec Ideal S128x128 .f32) (k : Fin 8) (t s : Fin 128) : weights w l (ix3 k t s) = w (ix3 k t s) * l (ix2 t s) := by
  unfold weights
  pointwise

/-- Row `t` of chunk `n` of a sequence, and column `e` of group `k`. -/
def inseq (n : Fin 32) (t : Fin 128) : Fin 4096 := ⟨n.val * 128 + t.val, by omega⟩

theorem chunks_apply (v : Vec Ideal S4x4096x1024 .f32) (b : Fin 4) (n : Fin 32) (t : Fin 128) (k : Fin 8) (e : Fin 128) :
    chunks v (ix5 b n t k e) = v (ix3 b (inseq n t) ⟨k.val * 128 + e.val, by omega⟩) := by
  unfold chunks inseq
  pointwise

theorem mixed_apply (v : Vec Ideal S4x32x128x8x128 .f32) (w : Vec Ideal S8x128x128 .f32) (h : Vec Ideal S8x128 .f32) (b : Fin 4) (n : Fin 32) (t : Fin 128) (k : Fin 8) (e : Fin 128) :
    mixed v w h (ix5 b n t k e) = (∑ s : Fin 128, v (ix5 b n s k e) * w (ix3 k t s)) + h (ix2 k t) := by
  unfold mixed
  pointwise

theorem unit_apply (x u : Vec Ideal S4x4096x1024 .f32) (v : Vec Ideal S4x32x128x8x128 .f32) (wo : Vec Ideal S1024x1024 .f32) (b : Fin 4) (s : Fin 4096) (d : Fin 1024) :
    unit x u v wo (ix3 b s d) = x (ix3 b s d) + ∑ e : Fin 1024, (u (ix3 b s e) * v (ix5 b ⟨s.val / 128, by omega⟩ ⟨s.val % 128, by omega⟩ ⟨e.val / 128, by omega⟩ ⟨e.val % 128, by omega⟩)) * wo (ix2 e d) := by
  unfold unit
  pointwise

variable (m : (ℓ : Loc nD τ sig) → Buf (Elt Ideal) ℓ) (c : Dev nD)

/-- The arguments, by row and column. -/
def args : SguMath.Args where
  x r d := m ((c.tc : Thread nD τ).loc main_arg0) (ix2 r d)
  g d := m ((c.tc : Thread nD τ).loc main_arg1) (ix1 d)
  w d f := m ((c.tc : Thread nD τ).loc main_arg2) (ix2 d f)
  lg d := m ((c.tc : Thread nD τ).loc main_arg3) (ix1 d)
  lb d := m ((c.tc : Thread nD τ).loc main_arg4) (ix1 d)
  ws k t s := m ((c.tc : Thread nD τ).loc main_arg5) (ix3 k t s)
  bs k t := m ((c.tc : Thread nD τ).loc main_arg6) (ix2 k t)
  wo e d := m ((c.tc : Thread nD τ).loc main_arg7) (ix2 e d)

section
variable {A : SguMath.Args} {x : Vec Ideal S16384x1024 .f32} {g : Vec Ideal S1024 .f32} {w : Vec Ideal S1024x2048 .f32} {lg lb : Vec Ideal S1024 .f32} {ws : Vec Ideal S8x128x128 .f32} {bs : Vec Ideal S8x128 .f32} {wo : Vec Ideal S1024x1024 .f32}
    (hx : ∀ r d, x (ix2 r d) = A.x r d) (hg : ∀ d, g (ix1 d) = A.g d) (hw : ∀ d f, w (ix2 d f) = A.w d f) (hlg : ∀ d, lg (ix1 d) = A.lg d) (hlb : ∀ d, lb (ix1 d) = A.lb d) (hws : ∀ k t s, ws (ix3 k t s) = A.ws k t s) (hbs : ∀ k t, bs (ix2 k t) = A.bs k t) (hwo : ∀ e d, wo (ix2 e d) = A.wo e d)
include hx hg hw

theorem z_eq (b : Fin 4) (s : Fin 4096) (f : Fin 2048) : zs x g w (ix3 b s f) = A.z (at4 b s) f := by
  unfold zs
  rw [gelus_apply, projected_apply]
  refine congrArg SguMath.gelu (Finset.sum_congr rfl fun d _ => congrArg₂ (· * ·) ((normed_apply (rows x) g b s d).trans ?_) (hw d f))
  exact congrArg₂ (fun x g => FfnMath.rms x g d) (funext fun k => (rows_apply x b s k).trans (hx _ k)) (funext hg)

include hlg hlb
theorem v_eq (b : Fin 4) (s : Fin 4096) (d : Fin 1024) : scaled (centered (rights (zs x g w))) lg lb (ix3 b s d) = A.v (at4 b s) d := by
  rw [normed_eq]
  unfold SguMath.Args.v
  exact congr (congrArg₂ SguMath.layernorm (funext fun k => (rights_apply _ b s k).trans (z_eq hx hg hw b s _)) (funext hlg)) (funext hlb) ▸ rfl

include hws hbs
theorem part_eq (b : Fin 4) (n : Fin 32) (t : Fin 128) (k : Fin 8) (e : Fin 128) :
    lefts (zs x g w) (ix3 b (inseq n t) (SguMath.Args.col k e)) * mixed (chunks (scaled (centered (rights (zs x g w))) lg lb)) (weights ws tril) bs (ix5 b n t k e)
      = A.part ⟨b.val * 32 + n.val, by omega⟩ t k e := by
  have hr : ∀ t : Fin 128, at4 b (inseq n t) = SguMath.Args.row ⟨b.val * 32 + n.val, by omega⟩ t := fun t =>
    Fin.ext (by show b.val * 4096 + (n.val * 128 + t.val) = 128 * (b.val * 32 + n.val) + t.val; omega)
  have hc : (⟨k.val * 128 + e.val, by omega⟩ : Fin 1024) = SguMath.Args.col k e := Fin.ext (by show k.val * 128 + e.val = 128 * k.val + e.val; omega)
  rw [mixed_apply, lefts_apply, z_eq hx hg hw]
  unfold SguMath.Args.part SguMath.Args.u SguMath.mix
  rw [hr]
  refine congrArg₂ (· * ·) rfl (congrArg₂ (· + ·) (Finset.sum_congr rfl fun s _ => ?_) (hbs k t))
  rw [chunks_apply, v_eq hx hg hw hlg hlb, weights_apply, tril_apply, hws, hr, hc, mul_ite, mul_one, mul_zero, mul_comm]

include hwo
theorem y_eq (b : Fin 4) (s : Fin 4096) (d : Fin 1024) :
    unit (rows x) (lefts (zs x g w)) (mixed (chunks (scaled (centered (rights (zs x g w))) lg lb)) (weights ws tril) bs) wo (ix3 b s d) = A.y (at4 b s) d := by
  rw [unit_apply]
  refine congrArg₂ (· + ·) ((rows_apply x b s d).trans (hx _ d)) (Finset.sum_congr rfl fun e _ => congrArg₂ (· * ·) ?_ (hwo e d))
  have hs : inseq ⟨s.val / 128, by omega⟩ ⟨s.val % 128, by omega⟩ = s := Fin.ext (by show s.val / 128 * 128 + s.val % 128 = s.val; omega)
  have he : SguMath.Args.col ⟨e.val / 128, by omega⟩ ⟨e.val % 128, by omega⟩ = e := Fin.ext (by show 128 * (e.val / 128) + e.val % 128 = e.val; omega)
  have h := part_eq hx hg hw hlg hlb hws hbs b ⟨s.val / 128, by omega⟩ ⟨s.val % 128, by omega⟩ ⟨e.val / 128, by omega⟩ ⟨e.val % 128, by omega⟩
  rw [hs, he] at h
  refine h.trans ?_
  unfold SguMath.Args.gated
  exact congrArg₂ (fun c t => A.part c t _ _) (Fin.ext (by show b.val * 32 + s.val / 128 = (b.val * 4096 + s.val) / 128; omega)) (Fin.ext (by show s.val % 128 = (b.val * 4096 + s.val) % 128; omega))
end

/-- The reference's result is the unit's. -/
theorem result (r : Fin 16384) (d : Fin 1024) : (res_main_v68 m c : S16384x1024.Idx → EReal) (ix2 r d) = (args m c).y r d := by
  rw [res_eq]
  unfold whole
  refine (rowed _ r d).trans ((y_eq (A := args m c) (fun _ _ => rfl) (fun _ => rfl) (fun _ _ => rfl) (fun _ => rfl) (fun _ => rfl) (fun _ _ _ => rfl) (fun _ _ => rfl) (fun _ _ => rfl) _ _ d).trans ?_)
  exact congrArg (fun r => (args m c).y r d) (Fin.ext (by show r.val / 4096 * 4096 + r.val % 4096 = r.val; omega))
end Cert.SguReferenceIdeal.Read
end
-- ==== Proof.SguEquation.lean ====
/- The spatial gating unit's kernel's result is its reference's. -/
module
public import proofs.«01_k».proof.Defs
public import proofs.«01_k».proof.Proof.SguKernel
public import proofs.«01_k».proof.Proof.SguReference
public import Idealize.ShloMosaic.Lib.Quiescent
@[expose] public section
set_option maxRecDepth 16384
noncomputable section
namespace Cert.Sgu
open Idealize.ShloMosaic Idealize.ShloMosaic.TcCoe Idealize.SL.Sem

theorem referenceFrame : quiescent_SguReferenceIdeal := fun m ρ _ =>
  (θ_run Cert.SguReferenceIdeal.defs _ _).mono (fun r h => ⟨fun c => (h c).2, sem_eq_zero_of_no_sems (by decide) r.2⟩)
    (Cert.SguReferenceIdeal.Value.run (F := Ideal) m ρ)

theorem equation : algebraic_SguKernelIdeal_SguReferenceIdeal := by
  intro m ρ m' ρ' _ hagree
  refine ⟨fun c => Cert.SguKernelIdeal.Tile.G (Cert.SguKernelIdeal.Tile.args m c), (θ_run Cert.SguKernelIdeal.defs _ _).mono (fun r h c => ⟨(h c).1.trans (Cert.SguKernelIdeal.Tile.final m c), (h c).2⟩) (Cert.SguKernelIdeal.Value.run_blocks (F := Ideal) m ρ), ?_⟩
  refine (θ_run Cert.SguReferenceIdeal.defs _ _).mono (fun _ h c => ⟨?_, (h c).2⟩) (Cert.SguReferenceIdeal.Value.run (F := Ideal) m' ρ')
  rw [(h c).1]
  obtain ⟨h0, h1, h2, h3, h4, h5, h6, h7⟩ := hagree c
  have ha : Cert.SguReferenceIdeal.Read.args m' c = Cert.SguKernelIdeal.Tile.args m c := by
    unfold Cert.SguReferenceIdeal.Read.args Cert.SguKernelIdeal.Tile.args
    simp only [h0, h1, h2, h3, h4, h5, h6, h7]
  refine funext fun y => ?_
  refine (congrArg (Cert.SguReferenceIdeal.Value.res_main_v68 m' c : Cert.SguReferenceIdeal.S16384x1024.Idx → EReal) (eq_ix2 y)).trans ((Cert.SguReferenceIdeal.Read.result m' c (y 0) (y 1)).trans ?_)
  rw [ha]
  rfl
end Cert.Sgu
end
-- ==== Proof.lean ====
module

public import proofs.«01_k».proof.Defs
public import proofs.«01_k».proof.Proof.Gen.Kernel.Frame
public import proofs.«01_k».proof.Proof.Gen.KernelIdeal.Frame
public import proofs.«01_k».proof.Proof.GlaEquation
public import proofs.«01_k».proof.Proof.Gen.FfnKernel.Frame
public import proofs.«01_k».proof.Proof.Gen.FfnKernelIdeal.Frame
public import proofs.«01_k».proof.Proof.FfnEquation
public import proofs.«01_k».proof.Proof.Gen.OutKernel.Frame
public import proofs.«01_k».proof.Proof.Gen.OutKernelIdeal.Frame
public import proofs.«01_k».proof.Proof.OutEquation
public import proofs.«01_k».proof.Proof.Gen.SguKernel.Frame
public import proofs.«01_k».proof.Proof.Gen.SguKernelIdeal.Frame
public import proofs.«01_k».proof.Proof.SguEquation

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.FfnKernel.Gen.facts, Cert.FfnKernelIdeal.Gen.facts, Cert.FfnReferenceIdeal.Gen.facts,
  Cert.OutKernel.Gen.facts, Cert.OutKernelIdeal.Gen.facts, Cert.OutReferenceIdeal.Gen.facts,
  Cert.SguKernel.Gen.facts, Cert.SguKernelIdeal.Gen.facts, Cert.SguReferenceIdeal.Gen.facts,
  fun m ρ _ => Cert.Kernel.Gen.frame m ρ, fun m ρ _ => Cert.KernelIdeal.Gen.frame m ρ, Cert.Gla.referenceFrame,
  fun m ρ _ => Cert.FfnKernel.Gen.frame m ρ, fun m ρ _ => Cert.FfnKernelIdeal.Gen.frame m ρ, Cert.Ffn.referenceFrame,
  fun m ρ _ => Cert.OutKernel.Gen.frame m ρ, fun m ρ _ => Cert.OutKernelIdeal.Gen.frame m ρ, Cert.Out.referenceFrame,
  fun m ρ _ => Cert.SguKernel.Gen.frame m ρ, fun m ρ _ => Cert.SguKernelIdeal.Gen.frame m ρ, Cert.Sgu.referenceFrame,
  (trivial : preserves_Kernel_KernelIdeal), Cert.Gla.equation, (trivial : preserves_FfnKernel_FfnKernelIdeal), Cert.Ffn.equation,
  (trivial : preserves_OutKernel_OutKernelIdeal), Cert.Out.equation,
  (trivial : preserves_SguKernel_SguKernelIdeal), Cert.Sgu.equation⟩

end Cert.Proof

end
